-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![32768, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S704x1024 : Shape := ⟨2, ![704, 1024]⟩
abbrev S352x1024 : Shape := ⟨2, ![352, 1024]⟩
abbrev S176x1024 : Shape := ⟨2, ![176, 1024]⟩
abbrev S640x1024 : Shape := ⟨2, ![640, 1024]⟩
abbrev S320x1024 : Shape := ⟨2, ![320, 1024]⟩
abbrev S160x1024 : Shape := ⟨2, ![160, 1024]⟩
abbrev S39 : Shape := ⟨1, ![39]⟩
abbrev S9 : Shape := ⟨1, ![9]⟩
abbrev S24 : Shape := ⟨1, ![24]⟩
abbrev S_ : Shape := ⟨0, ![]⟩
abbrev S1 : Shape := ⟨1, ![1]⟩

abbrev nBuf : Space → Nat
  | .hbm => 2
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .local _ .vmem, ⟨0, _⟩ => ⟨S4096x1024, .bf16⟩
  | .local _ .vmem, ⟨1, _⟩ => ⟨S4096x1024, .f32⟩
  | .local _ .vmem, ⟨2, _⟩ => ⟨S704x1024, .bf16⟩
  | .local _ .vmem, ⟨3, _⟩ => ⟨S352x1024, .bf16⟩
  | .local _ .vmem, ⟨4, _⟩ => ⟨S176x1024, .bf16⟩
  | .local _ .vmem, ⟨5, _⟩ => ⟨S704x1024, .bf16⟩
  | .local _ .vmem, ⟨6, _⟩ => ⟨S352x1024, .bf16⟩
  | .local _ .vmem, ⟨7, _⟩ => ⟨S176x1024, .bf16⟩
  | .local _ .vmem, ⟨8, _⟩ => ⟨S640x1024, .bf16⟩
  | .local _ .vmem, ⟨9, _⟩ => ⟨S320x1024, .bf16⟩
  | .local _ .vmem, ⟨10, _⟩ => ⟨S160x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 111 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | _ => false

abbrev sig : RefSig :=
  (ofTc nBuf bufTy 1 111 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_6 : BitVec 32 := 1#32
  let v13 : BitVec 32 := Scalar.muli v3 c1_i32_6
  let v14 : BitVec 32 := Scalar.addi c0_i32 v13
  v14.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_8 : BitVec 32 := 1#32
  let v15 : BitVec 32 := Scalar.muli v4 c1_i32_8
  let v16 : BitVec 32 := Scalar.addi c0_i32_9 v15
  v16.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_11 : BitVec 32 := 1#32
  let v17 : BitVec 32 := Scalar.muli v5 c1_i32_11
  let v18 : BitVec 32 := Scalar.addi c0_i32_12 v17
  v18.toNat
def k0_off1 (d0 : Dev nD) : Fin 2 → Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_18 : BitVec 32 := 1#32
  let v26 : BitVec 32 := Scalar.xori v11 c1_i32_18
  let c4_i32_19 : BitVec 32 := 4#32
  let v27 : BitVec 32 := Scalar.muli v26 c4_i32_19
  let c176_i32_20 : BitVec 32 := 176#32
  let v28 : BitVec 32 := Scalar.muli v27 c176_i32_20
  let v29 : BitVec 32 := Scalar.addi c0_i32_21 v28
  let c1_i32_3 : BitVec 32 := 1#32
  let v9 : BitVec 32 := Scalar.shrsi v2 c1_i32_3
  let c1_i32_4 : BitVec 32 := 1#32
  let v10 : BitVec 32 := Scalar.andi v9 c1_i32_4
  let c1_i32_64 : BitVec 32 := 1#32
  let v88 : BitVec 32 := Scalar.xori v10 c1_i32_64
  let c2_i32_65 : BitVec 32 := 2#32
  let v89 : BitVec 32 := Scalar.muli v88 c2_i32_65
  let c176_i32_66 : BitVec 32 := 176#32
  let v90 : BitVec 32 := Scalar.muli v89 c176_i32_66
  let v91 : BitVec 32 := Scalar.addi v29 v90
  let c0_i32_68 : BitVec 32 := 0#32
  ![v91.toNat, 0]
def k0_off2 (d0 : Dev nD) : Fin 2 → Nat :=
  let c1408_i32_38 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c1_i32_35 : BitVec 32 := 1#32
  let v49 : BitVec 32 := Scalar.xori v10 c1_i32_35
  let c4_i32_36 : BitVec 32 := 4#32
  let v50 : BitVec 32 := Scalar.muli v49 c4_i32_36
  let c176_i32_37 : BitVec 32 := 176#32
  let v51 : BitVec 32 := Scalar.muli v50 c176_i32_37
  let v52 : BitVec 32 := Scalar.addi c1408_i32_38 v51
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c1_i32_70 : BitVec 32 := 1#32
  let v96 : BitVec 32 := Scalar.xori v8 c1_i32_70
  let c2_i32_71 : BitVec 32 := 2#32
  let v97 : BitVec 32 := Scalar.muli v96 c2_i32_71
  let c176_i32_72 : BitVec 32 := 176#32
  let v98 : BitVec 32 := Scalar.muli v97 c176_i32_72
  let v99 : BitVec 32 := Scalar.addi v52 v98
  let c0_i32_74 : BitVec 32 := 0#32
  ![v99.toNat, 0]
def k0_off3 (d0 : Dev nD) : Fin 2 → Nat :=
  let c2816_i32_54 : BitVec 32 := 2816#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c1_i32_51 : BitVec 32 := 1#32
  let v72 : BitVec 32 := Scalar.xori v8 c1_i32_51
  let c4_i32_52 : BitVec 32 := 4#32
  let v73 : BitVec 32 := Scalar.muli v72 c4_i32_52
  let c160_i32_53 : BitVec 32 := 160#32
  let v74 : BitVec 32 := Scalar.muli v73 c160_i32_53
  let v75 : BitVec 32 := Scalar.addi c2816_i32_54 v74
  let c2_i32 : BitVec 32 := 2#32
  let v11 : BitVec 32 := Scalar.shrsi v2 c2_i32
  let c1_i32_76 : BitVec 32 := 1#32
  let v104 : BitVec 32 := Scalar.xori v11 c1_i32_76
  let c2_i32_77 : BitVec 32 := 2#32
  let v105 : BitVec 32 := Scalar.muli v104 c2_i32_77
  let c160_i32_78 : BitVec 32 := 160#32
  let v106 : BitVec 32 := Scalar.muli v105 c160_i32_78
  let v107 : BitVec 32 := Scalar.addi v75 v106
  let c0_i32_80 : BitVec 32 := 0#32
  ![v107.toNat, 0]
def k0_off4 (d0 : Dev nD) : Fin 2 → Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_18 : BitVec 32 := 1#32
  let v26 : BitVec 32 := Scalar.xori v11 c1_i32_18
  let c4_i32_19 : BitVec 32 := 4#32
  let v27 : BitVec 32 := Scalar.muli v26 c4_i32_19
  let c176_i32_20 : BitVec 32 := 176#32
  let v28 : BitVec 32 := Scalar.muli v27 c176_i32_20
  let v29 : BitVec 32 := Scalar.addi c0_i32_21 v28
  let c1_i32_3 : BitVec 32 := 1#32
  let v9 : BitVec 32 := Scalar.shrsi v2 c1_i32_3
  let c1_i32_4 : BitVec 32 := 1#32
  let v10 : BitVec 32 := Scalar.andi v9 c1_i32_4
  let c2_i32_82 : BitVec 32 := 2#32
  let v112 : BitVec 32 := Scalar.muli v10 c2_i32_82
  let c176_i32_83 : BitVec 32 := 176#32
  let v113 : BitVec 32 := Scalar.muli v112 c176_i32_83
  let v114 : BitVec 32 := Scalar.addi v29 v113
  let c0_i32_85 : BitVec 32 := 0#32
  ![v114.toNat, 0]
def k0_off5 (d0 : Dev nD) : Fin 2 → Nat :=
  let c1408_i32_38 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c1_i32_35 : BitVec 32 := 1#32
  let v49 : BitVec 32 := Scalar.xori v10 c1_i32_35
  let c4_i32_36 : BitVec 32 := 4#32
  let v50 : BitVec 32 := Scalar.muli v49 c4_i32_36
  let c176_i32_37 : BitVec 32 := 176#32
  let v51 : BitVec 32 := Scalar.muli v50 c176_i32_37
  let v52 : BitVec 32 := Scalar.addi c1408_i32_38 v51
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c2_i32_87 : BitVec 32 := 2#32
  let v119 : BitVec 32 := Scalar.muli v8 c2_i32_87
  let c176_i32_88 : BitVec 32 := 176#32
  let v120 : BitVec 32 := Scalar.muli v119 c176_i32_88
  let v121 : BitVec 32 := Scalar.addi v52 v120
  let c0_i32_90 : BitVec 32 := 0#32
  ![v121.toNat, 0]
def k0_off6 (d0 : Dev nD) : Fin 2 → Nat :=
  let c2816_i32_54 : BitVec 32 := 2816#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c1_i32_51 : BitVec 32 := 1#32
  let v72 : BitVec 32 := Scalar.xori v8 c1_i32_51
  let c4_i32_52 : BitVec 32 := 4#32
  let v73 : BitVec 32 := Scalar.muli v72 c4_i32_52
  let c160_i32_53 : BitVec 32 := 160#32
  let v74 : BitVec 32 := Scalar.muli v73 c160_i32_53
  let v75 : BitVec 32 := Scalar.addi c2816_i32_54 v74
  let c2_i32 : BitVec 32 := 2#32
  let v11 : BitVec 32 := Scalar.shrsi v2 c2_i32
  let c2_i32_92 : BitVec 32 := 2#32
  let v126 : BitVec 32 := Scalar.muli v11 c2_i32_92
  let c160_i32_93 : BitVec 32 := 160#32
  let v127 : BitVec 32 := Scalar.muli v126 c160_i32_93
  let v128 : BitVec 32 := Scalar.addi v75 v127
  let c0_i32_94 : BitVec 32 := 0#32
  ![v128.toNat, 0]
def k0_off7 (d0 : Dev nD) : Fin 2 → Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c4_i32_16 : BitVec 32 := 4#32
  let v23 : BitVec 32 := Scalar.muli v11 c4_i32_16
  let c176_i32 : BitVec 32 := 176#32
  let v24 : BitVec 32 := Scalar.muli v23 c176_i32
  let v25 : BitVec 32 := Scalar.addi c0_i32_17 v24
  let c0_i32_96 : BitVec 32 := 0#32
  ![v25.toNat, 0]
def k0_off8 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c4_i32_33 : BitVec 32 := 4#32
  let v46 : BitVec 32 := Scalar.muli v10 c4_i32_33
  let c176_i32_34 : BitVec 32 := 176#32
  let v47 : BitVec 32 := Scalar.muli v46 c176_i32_34
  let v48 : BitVec 32 := Scalar.addi c1408_i32 v47
  let c0_i32_98 : BitVec 32 := 0#32
  ![v48.toNat, 0]
def k0_off9 (d0 : Dev nD) : Fin 2 → Nat :=
  let c2816_i32 : BitVec 32 := 2816#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c4_i32_50 : BitVec 32 := 4#32
  let v69 : BitVec 32 := Scalar.muli v8 c4_i32_50
  let c160_i32 : BitVec 32 := 160#32
  let v70 : BitVec 32 := Scalar.muli v69 c160_i32
  let v71 : BitVec 32 := Scalar.addi c2816_i32 v70
  let c0_i32_101 : BitVec 32 := 0#32
  ![v71.toNat, 0]
def k0_off10 (d0 : Dev nD) : Fin 2 → Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_18 : BitVec 32 := 1#32
  let v26 : BitVec 32 := Scalar.xori v11 c1_i32_18
  let c4_i32_19 : BitVec 32 := 4#32
  let v27 : BitVec 32 := Scalar.muli v26 c4_i32_19
  let c176_i32_20 : BitVec 32 := 176#32
  let v28 : BitVec 32 := Scalar.muli v27 c176_i32_20
  let v29 : BitVec 32 := Scalar.addi c0_i32_21 v28
  let c1_i32_3 : BitVec 32 := 1#32
  let v9 : BitVec 32 := Scalar.shrsi v2 c1_i32_3
  let c1_i32_4 : BitVec 32 := 1#32
  let v10 : BitVec 32 := Scalar.andi v9 c1_i32_4
  let c1_i32_103 : BitVec 32 := 1#32
  let v145 : BitVec 32 := Scalar.xori v10 c1_i32_103
  let c2_i32_104 : BitVec 32 := 2#32
  let v146 : BitVec 32 := Scalar.muli v145 c2_i32_104
  let c176_i32_105 : BitVec 32 := 176#32
  let v147 : BitVec 32 := Scalar.muli v146 c176_i32_105
  let v152 : BitVec 32 := Scalar.addi v29 v147
  let v153 : Index := Scalar.indexCast v152
  let c0 : Index := 0#32
  ![v153.toNat, 0]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c1_i32_103 : BitVec 32 := 1#32
  let v145 : BitVec 32 := Scalar.xori v10 c1_i32_103
  let c2_i32_104 : BitVec 32 := 2#32
  let v146 : BitVec 32 := Scalar.muli v145 c2_i32_104
  let c176_i32_105 : BitVec 32 := 176#32
  let v147 : BitVec 32 := Scalar.muli v146 c176_i32_105
  let c0_i32_114 : BitVec 32 := 0#32
  ![v147.toNat, 0]
def k0_dev4 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_112 : BitVec 32 := 1#32
  let v160 : BitVec 32 := Scalar.muli v5 c1_i32_112
  let v161 : BitVec 32 := Scalar.addi c0_i32_113 v160
  v161.toNat
def k0_off12 (d0 : Dev nD) : Fin 2 → Nat :=
  let c1408_i32_38 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c1_i32_35 : BitVec 32 := 1#32
  let v49 : BitVec 32 := Scalar.xori v10 c1_i32_35
  let c4_i32_36 : BitVec 32 := 4#32
  let v50 : BitVec 32 := Scalar.muli v49 c4_i32_36
  let c176_i32_37 : BitVec 32 := 176#32
  let v51 : BitVec 32 := Scalar.muli v50 c176_i32_37
  let v52 : BitVec 32 := Scalar.addi c1408_i32_38 v51
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c1_i32_116 : BitVec 32 := 1#32
  let v168 : BitVec 32 := Scalar.xori v8 c1_i32_116
  let c2_i32_117 : BitVec 32 := 2#32
  let v169 : BitVec 32 := Scalar.muli v168 c2_i32_117
  let c176_i32_118 : BitVec 32 := 176#32
  let v170 : BitVec 32 := Scalar.muli v169 c176_i32_118
  let v175 : BitVec 32 := Scalar.addi v52 v170
  let v176 : Index := Scalar.indexCast v175
  let c0_122 : Index := 0#32
  ![v176.toNat, 0]
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c1_i32_116 : BitVec 32 := 1#32
  let v168 : BitVec 32 := Scalar.xori v8 c1_i32_116
  let c2_i32_117 : BitVec 32 := 2#32
  let v169 : BitVec 32 := Scalar.muli v168 c2_i32_117
  let c176_i32_118 : BitVec 32 := 176#32
  let v170 : BitVec 32 := Scalar.muli v169 c176_i32_118
  let c0_i32_127 : BitVec 32 := 0#32
  ![v170.toNat, 0]
def k0_dev5 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_125 : BitVec 32 := 1#32
  let v183 : BitVec 32 := Scalar.muli v4 c1_i32_125
  let v184 : BitVec 32 := Scalar.addi c0_i32_126 v183
  v184.toNat
def k0_off14 (d0 : Dev nD) : Fin 2 → Nat :=
  let c2816_i32_54 : BitVec 32 := 2816#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c1_i32_51 : BitVec 32 := 1#32
  let v72 : BitVec 32 := Scalar.xori v8 c1_i32_51
  let c4_i32_52 : BitVec 32 := 4#32
  let v73 : BitVec 32 := Scalar.muli v72 c4_i32_52
  let c160_i32_53 : BitVec 32 := 160#32
  let v74 : BitVec 32 := Scalar.muli v73 c160_i32_53
  let v75 : BitVec 32 := Scalar.addi c2816_i32_54 v74
  let c2_i32 : BitVec 32 := 2#32
  let v11 : BitVec 32 := Scalar.shrsi v2 c2_i32
  let c1_i32_129 : BitVec 32 := 1#32
  let v191 : BitVec 32 := Scalar.xori v11 c1_i32_129
  let c2_i32_130 : BitVec 32 := 2#32
  let v192 : BitVec 32 := Scalar.muli v191 c2_i32_130
  let c160_i32_131 : BitVec 32 := 160#32
  let v193 : BitVec 32 := Scalar.muli v192 c160_i32_131
  let v198 : BitVec 32 := Scalar.addi v75 v193
  let v199 : Index := Scalar.indexCast v198
  let c0_135 : Index := 0#32
  ![v199.toNat, 0]
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_129 : BitVec 32 := 1#32
  let v191 : BitVec 32 := Scalar.xori v11 c1_i32_129
  let c2_i32_130 : BitVec 32 := 2#32
  let v192 : BitVec 32 := Scalar.muli v191 c2_i32_130
  let c160_i32_131 : BitVec 32 := 160#32
  let v193 : BitVec 32 := Scalar.muli v192 c160_i32_131
  let c0_i32_140 : BitVec 32 := 0#32
  ![v193.toNat, 0]
def k0_dev6 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_138 : BitVec 32 := 1#32
  let v206 : BitVec 32 := Scalar.muli v3 c1_i32_138
  let v207 : BitVec 32 := Scalar.addi c0_i32_139 v206
  v207.toNat
def k0_off16 (d0 : Dev nD) : Fin 2 → Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_18 : BitVec 32 := 1#32
  let v26 : BitVec 32 := Scalar.xori v11 c1_i32_18
  let c4_i32_19 : BitVec 32 := 4#32
  let v27 : BitVec 32 := Scalar.muli v26 c4_i32_19
  let c176_i32_20 : BitVec 32 := 176#32
  let v28 : BitVec 32 := Scalar.muli v27 c176_i32_20
  let v29 : BitVec 32 := Scalar.addi c0_i32_21 v28
  let c1_i32_3 : BitVec 32 := 1#32
  let v9 : BitVec 32 := Scalar.shrsi v2 c1_i32_3
  let c1_i32_4 : BitVec 32 := 1#32
  let v10 : BitVec 32 := Scalar.andi v9 c1_i32_4
  let c2_i32_142 : BitVec 32 := 2#32
  let v214 : BitVec 32 := Scalar.muli v10 c2_i32_142
  let c176_i32_143 : BitVec 32 := 176#32
  let v215 : BitVec 32 := Scalar.muli v214 c176_i32_143
  let v220 : BitVec 32 := Scalar.addi v29 v215
  let v221 : Index := Scalar.indexCast v220
  let c0_147 : Index := 0#32
  ![v221.toNat, 0]
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c2_i32_142 : BitVec 32 := 2#32
  let v214 : BitVec 32 := Scalar.muli v10 c2_i32_142
  let c176_i32_143 : BitVec 32 := 176#32
  let v215 : BitVec 32 := Scalar.muli v214 c176_i32_143
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c1_i32_149 : BitVec 32 := 1#32
  let v228 : BitVec 32 := Scalar.xori v8 c1_i32_149
  let c176_i32_150 : BitVec 32 := 176#32
  let v229 : BitVec 32 := Scalar.muli v228 c176_i32_150
  let v230 : BitVec 32 := Scalar.addi v215 v229
  let c0_i32_155 : BitVec 32 := 0#32
  ![v230.toNat, 0]
def k0_off18 (d0 : Dev nD) : Fin 2 → Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_18 : BitVec 32 := 1#32
  let v26 : BitVec 32 := Scalar.xori v11 c1_i32_18
  let c4_i32_19 : BitVec 32 := 4#32
  let v27 : BitVec 32 := Scalar.muli v26 c4_i32_19
  let c176_i32_20 : BitVec 32 := 176#32
  let v28 : BitVec 32 := Scalar.muli v27 c176_i32_20
  let v29 : BitVec 32 := Scalar.addi c0_i32_21 v28
  let c1_i32_3 : BitVec 32 := 1#32
  let v9 : BitVec 32 := Scalar.shrsi v2 c1_i32_3
  let c1_i32_4 : BitVec 32 := 1#32
  let v10 : BitVec 32 := Scalar.andi v9 c1_i32_4
  let c2_i32_142 : BitVec 32 := 2#32
  let v214 : BitVec 32 := Scalar.muli v10 c2_i32_142
  let c176_i32_143 : BitVec 32 := 176#32
  let v215 : BitVec 32 := Scalar.muli v214 c176_i32_143
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c1_i32_149 : BitVec 32 := 1#32
  let v228 : BitVec 32 := Scalar.xori v8 c1_i32_149
  let c176_i32_150 : BitVec 32 := 176#32
  let v229 : BitVec 32 := Scalar.muli v228 c176_i32_150
  let v230 : BitVec 32 := Scalar.addi v215 v229
  let v231 : BitVec 32 := Scalar.addi v29 v230
  let c0_i32_156 : BitVec 32 := 0#32
  ![v231.toNat, 0]
def k0_dev7 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_153 : BitVec 32 := 1#32
  let v232 : BitVec 32 := Scalar.muli v5 c1_i32_153
  let v233 : BitVec 32 := Scalar.addi c0_i32_154 v232
  v233.toNat
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c2_i32_142 : BitVec 32 := 2#32
  let v214 : BitVec 32 := Scalar.muli v10 c2_i32_142
  let c176_i32_143 : BitVec 32 := 176#32
  let v215 : BitVec 32 := Scalar.muli v214 c176_i32_143
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c176_i32_157 : BitVec 32 := 176#32
  let v240 : BitVec 32 := Scalar.muli v8 c176_i32_157
  let v241 : BitVec 32 := Scalar.addi v215 v240
  let c0_i32_162 : BitVec 32 := 0#32
  ![v241.toNat, 0]
def k0_off20 (d0 : Dev nD) : Fin 2 → Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_18 : BitVec 32 := 1#32
  let v26 : BitVec 32 := Scalar.xori v11 c1_i32_18
  let c4_i32_19 : BitVec 32 := 4#32
  let v27 : BitVec 32 := Scalar.muli v26 c4_i32_19
  let c176_i32_20 : BitVec 32 := 176#32
  let v28 : BitVec 32 := Scalar.muli v27 c176_i32_20
  let v29 : BitVec 32 := Scalar.addi c0_i32_21 v28
  let c1_i32_3 : BitVec 32 := 1#32
  let v9 : BitVec 32 := Scalar.shrsi v2 c1_i32_3
  let c1_i32_4 : BitVec 32 := 1#32
  let v10 : BitVec 32 := Scalar.andi v9 c1_i32_4
  let c2_i32_142 : BitVec 32 := 2#32
  let v214 : BitVec 32 := Scalar.muli v10 c2_i32_142
  let c176_i32_143 : BitVec 32 := 176#32
  let v215 : BitVec 32 := Scalar.muli v214 c176_i32_143
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c176_i32_157 : BitVec 32 := 176#32
  let v240 : BitVec 32 := Scalar.muli v8 c176_i32_157
  let v241 : BitVec 32 := Scalar.addi v215 v240
  let v242 : BitVec 32 := Scalar.addi v29 v241
  let c0_i32_163 : BitVec 32 := 0#32
  ![v242.toNat, 0]
def k0_dev8 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_160 : BitVec 32 := 1#32
  let v243 : BitVec 32 := Scalar.muli v5 c1_i32_160
  let v244 : BitVec 32 := Scalar.addi c0_i32_161 v243
  v244.toNat
def k0_off21 (d0 : Dev nD) : Fin 2 → Nat :=
  let c1408_i32_38 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c1_i32_35 : BitVec 32 := 1#32
  let v49 : BitVec 32 := Scalar.xori v10 c1_i32_35
  let c4_i32_36 : BitVec 32 := 4#32
  let v50 : BitVec 32 := Scalar.muli v49 c4_i32_36
  let c176_i32_37 : BitVec 32 := 176#32
  let v51 : BitVec 32 := Scalar.muli v50 c176_i32_37
  let v52 : BitVec 32 := Scalar.addi c1408_i32_38 v51
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c2_i32_164 : BitVec 32 := 2#32
  let v251 : BitVec 32 := Scalar.muli v8 c2_i32_164
  let c176_i32_165 : BitVec 32 := 176#32
  let v252 : BitVec 32 := Scalar.muli v251 c176_i32_165
  let v257 : BitVec 32 := Scalar.addi v52 v252
  let v258 : Index := Scalar.indexCast v257
  let c0_169 : Index := 0#32
  ![v258.toNat, 0]
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c2_i32_164 : BitVec 32 := 2#32
  let v251 : BitVec 32 := Scalar.muli v8 c2_i32_164
  let c176_i32_165 : BitVec 32 := 176#32
  let v252 : BitVec 32 := Scalar.muli v251 c176_i32_165
  let c2_i32 : BitVec 32 := 2#32
  let v11 : BitVec 32 := Scalar.shrsi v2 c2_i32
  let c1_i32_171 : BitVec 32 := 1#32
  let v265 : BitVec 32 := Scalar.xori v11 c1_i32_171
  let c176_i32_172 : BitVec 32 := 176#32
  let v266 : BitVec 32 := Scalar.muli v265 c176_i32_172
  let v267 : BitVec 32 := Scalar.addi v252 v266
  let c0_i32_176 : BitVec 32 := 0#32
  ![v267.toNat, 0]
def k0_off23 (d0 : Dev nD) : Fin 2 → Nat :=
  let c1408_i32_38 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c1_i32_35 : BitVec 32 := 1#32
  let v49 : BitVec 32 := Scalar.xori v10 c1_i32_35
  let c4_i32_36 : BitVec 32 := 4#32
  let v50 : BitVec 32 := Scalar.muli v49 c4_i32_36
  let c176_i32_37 : BitVec 32 := 176#32
  let v51 : BitVec 32 := Scalar.muli v50 c176_i32_37
  let v52 : BitVec 32 := Scalar.addi c1408_i32_38 v51
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c2_i32_164 : BitVec 32 := 2#32
  let v251 : BitVec 32 := Scalar.muli v8 c2_i32_164
  let c176_i32_165 : BitVec 32 := 176#32
  let v252 : BitVec 32 := Scalar.muli v251 c176_i32_165
  let c2_i32 : BitVec 32 := 2#32
  let v11 : BitVec 32 := Scalar.shrsi v2 c2_i32
  let c1_i32_171 : BitVec 32 := 1#32
  let v265 : BitVec 32 := Scalar.xori v11 c1_i32_171
  let c176_i32_172 : BitVec 32 := 176#32
  let v266 : BitVec 32 := Scalar.muli v265 c176_i32_172
  let v267 : BitVec 32 := Scalar.addi v252 v266
  let v268 : BitVec 32 := Scalar.addi v52 v267
  let c0_i32_177 : BitVec 32 := 0#32
  ![v268.toNat, 0]
def k0_dev9 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_174 : BitVec 32 := 1#32
  let v269 : BitVec 32 := Scalar.muli v4 c1_i32_174
  let v270 : BitVec 32 := Scalar.addi c0_i32_175 v269
  v270.toNat
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c2_i32_164 : BitVec 32 := 2#32
  let v251 : BitVec 32 := Scalar.muli v8 c2_i32_164
  let c176_i32_165 : BitVec 32 := 176#32
  let v252 : BitVec 32 := Scalar.muli v251 c176_i32_165
  let c2_i32 : BitVec 32 := 2#32
  let v11 : BitVec 32 := Scalar.shrsi v2 c2_i32
  let c176_i32_178 : BitVec 32 := 176#32
  let v277 : BitVec 32 := Scalar.muli v11 c176_i32_178
  let v278 : BitVec 32 := Scalar.addi v252 v277
  let c0_i32_182 : BitVec 32 := 0#32
  ![v278.toNat, 0]
def k0_off25 (d0 : Dev nD) : Fin 2 → Nat :=
  let c1408_i32_38 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c1_i32_35 : BitVec 32 := 1#32
  let v49 : BitVec 32 := Scalar.xori v10 c1_i32_35
  let c4_i32_36 : BitVec 32 := 4#32
  let v50 : BitVec 32 := Scalar.muli v49 c4_i32_36
  let c176_i32_37 : BitVec 32 := 176#32
  let v51 : BitVec 32 := Scalar.muli v50 c176_i32_37
  let v52 : BitVec 32 := Scalar.addi c1408_i32_38 v51
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c2_i32_164 : BitVec 32 := 2#32
  let v251 : BitVec 32 := Scalar.muli v8 c2_i32_164
  let c176_i32_165 : BitVec 32 := 176#32
  let v252 : BitVec 32 := Scalar.muli v251 c176_i32_165
  let c2_i32 : BitVec 32 := 2#32
  let v11 : BitVec 32 := Scalar.shrsi v2 c2_i32
  let c176_i32_178 : BitVec 32 := 176#32
  let v277 : BitVec 32 := Scalar.muli v11 c176_i32_178
  let v278 : BitVec 32 := Scalar.addi v252 v277
  let v279 : BitVec 32 := Scalar.addi v52 v278
  let c0_i32_183 : BitVec 32 := 0#32
  ![v279.toNat, 0]
def k0_dev10 (d0 : Dev nD) : Nat :=
  let c0_i32_181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_180 : BitVec 32 := 1#32
  let v280 : BitVec 32 := Scalar.muli v4 c1_i32_180
  let v281 : BitVec 32 := Scalar.addi c0_i32_181 v280
  v281.toNat
def k0_off26 (d0 : Dev nD) : Fin 2 → Nat :=
  let c2816_i32_54 : BitVec 32 := 2816#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c1_i32_51 : BitVec 32 := 1#32
  let v72 : BitVec 32 := Scalar.xori v8 c1_i32_51
  let c4_i32_52 : BitVec 32 := 4#32
  let v73 : BitVec 32 := Scalar.muli v72 c4_i32_52
  let c160_i32_53 : BitVec 32 := 160#32
  let v74 : BitVec 32 := Scalar.muli v73 c160_i32_53
  let v75 : BitVec 32 := Scalar.addi c2816_i32_54 v74
  let c2_i32 : BitVec 32 := 2#32
  let v11 : BitVec 32 := Scalar.shrsi v2 c2_i32
  let c2_i32_184 : BitVec 32 := 2#32
  let v288 : BitVec 32 := Scalar.muli v11 c2_i32_184
  let c160_i32_185 : BitVec 32 := 160#32
  let v289 : BitVec 32 := Scalar.muli v288 c160_i32_185
  let v294 : BitVec 32 := Scalar.addi v75 v289
  let v295 : Index := Scalar.indexCast v294
  let c0_189 : Index := 0#32
  ![v295.toNat, 0]
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c2_i32_184 : BitVec 32 := 2#32
  let v288 : BitVec 32 := Scalar.muli v11 c2_i32_184
  let c160_i32_185 : BitVec 32 := 160#32
  let v289 : BitVec 32 := Scalar.muli v288 c160_i32_185
  let c1_i32_3 : BitVec 32 := 1#32
  let v9 : BitVec 32 := Scalar.shrsi v2 c1_i32_3
  let c1_i32_4 : BitVec 32 := 1#32
  let v10 : BitVec 32 := Scalar.andi v9 c1_i32_4
  let c1_i32_191 : BitVec 32 := 1#32
  let v302 : BitVec 32 := Scalar.xori v10 c1_i32_191
  let c160_i32_192 : BitVec 32 := 160#32
  let v303 : BitVec 32 := Scalar.muli v302 c160_i32_192
  let v304 : BitVec 32 := Scalar.addi v289 v303
  let c0_i32_196 : BitVec 32 := 0#32
  ![v304.toNat, 0]
def k0_off28 (d0 : Dev nD) : Fin 2 → Nat :=
  let c2816_i32_54 : BitVec 32 := 2816#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c1_i32_51 : BitVec 32 := 1#32
  let v72 : BitVec 32 := Scalar.xori v8 c1_i32_51
  let c4_i32_52 : BitVec 32 := 4#32
  let v73 : BitVec 32 := Scalar.muli v72 c4_i32_52
  let c160_i32_53 : BitVec 32 := 160#32
  let v74 : BitVec 32 := Scalar.muli v73 c160_i32_53
  let v75 : BitVec 32 := Scalar.addi c2816_i32_54 v74
  let c2_i32 : BitVec 32 := 2#32
  let v11 : BitVec 32 := Scalar.shrsi v2 c2_i32
  let c2_i32_184 : BitVec 32 := 2#32
  let v288 : BitVec 32 := Scalar.muli v11 c2_i32_184
  let c160_i32_185 : BitVec 32 := 160#32
  let v289 : BitVec 32 := Scalar.muli v288 c160_i32_185
  let c1_i32_3 : BitVec 32 := 1#32
  let v9 : BitVec 32 := Scalar.shrsi v2 c1_i32_3
  let c1_i32_4 : BitVec 32 := 1#32
  let v10 : BitVec 32 := Scalar.andi v9 c1_i32_4
  let c1_i32_191 : BitVec 32 := 1#32
  let v302 : BitVec 32 := Scalar.xori v10 c1_i32_191
  let c160_i32_192 : BitVec 32 := 160#32
  let v303 : BitVec 32 := Scalar.muli v302 c160_i32_192
  let v304 : BitVec 32 := Scalar.addi v289 v303
  let v305 : BitVec 32 := Scalar.addi v75 v304
  let c0_i32_197 : BitVec 32 := 0#32
  ![v305.toNat, 0]
def k0_dev11 (d0 : Dev nD) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_194 : BitVec 32 := 1#32
  let v306 : BitVec 32 := Scalar.muli v3 c1_i32_194
  let v307 : BitVec 32 := Scalar.addi c0_i32_195 v306
  v307.toNat
def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c2_i32_184 : BitVec 32 := 2#32
  let v288 : BitVec 32 := Scalar.muli v11 c2_i32_184
  let c160_i32_185 : BitVec 32 := 160#32
  let v289 : BitVec 32 := Scalar.muli v288 c160_i32_185
  let c1_i32_3 : BitVec 32 := 1#32
  let v9 : BitVec 32 := Scalar.shrsi v2 c1_i32_3
  let c1_i32_4 : BitVec 32 := 1#32
  let v10 : BitVec 32 := Scalar.andi v9 c1_i32_4
  let c160_i32_198 : BitVec 32 := 160#32
  let v314 : BitVec 32 := Scalar.muli v10 c160_i32_198
  let v315 : BitVec 32 := Scalar.addi v289 v314
  let c0_i32_202 : BitVec 32 := 0#32
  ![v315.toNat, 0]
def k0_off30 (d0 : Dev nD) : Fin 2 → Nat :=
  let c2816_i32_54 : BitVec 32 := 2816#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c1_i32_51 : BitVec 32 := 1#32
  let v72 : BitVec 32 := Scalar.xori v8 c1_i32_51
  let c4_i32_52 : BitVec 32 := 4#32
  let v73 : BitVec 32 := Scalar.muli v72 c4_i32_52
  let c160_i32_53 : BitVec 32 := 160#32
  let v74 : BitVec 32 := Scalar.muli v73 c160_i32_53
  let v75 : BitVec 32 := Scalar.addi c2816_i32_54 v74
  let c2_i32 : BitVec 32 := 2#32
  let v11 : BitVec 32 := Scalar.shrsi v2 c2_i32
  let c2_i32_184 : BitVec 32 := 2#32
  let v288 : BitVec 32 := Scalar.muli v11 c2_i32_184
  let c160_i32_185 : BitVec 32 := 160#32
  let v289 : BitVec 32 := Scalar.muli v288 c160_i32_185
  let c1_i32_3 : BitVec 32 := 1#32
  let v9 : BitVec 32 := Scalar.shrsi v2 c1_i32_3
  let c1_i32_4 : BitVec 32 := 1#32
  let v10 : BitVec 32 := Scalar.andi v9 c1_i32_4
  let c160_i32_198 : BitVec 32 := 160#32
  let v314 : BitVec 32 := Scalar.muli v10 c160_i32_198
  let v315 : BitVec 32 := Scalar.addi v289 v314
  let v316 : BitVec 32 := Scalar.addi v75 v315
  let c0_i32_203 : BitVec 32 := 0#32
  ![v316.toNat, 0]
def k0_dev12 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_200 : BitVec 32 := 1#32
  let v317 : BitVec 32 := Scalar.muli v3 c1_i32_200
  let v318 : BitVec 32 := Scalar.addi c0_i32_201 v317
  v318.toNat
def k0_off31 (d0 : Dev nD) : Fin 2 → Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c4_i32_16 : BitVec 32 := 4#32
  let v23 : BitVec 32 := Scalar.muli v11 c4_i32_16
  let c176_i32 : BitVec 32 := 176#32
  let v24 : BitVec 32 := Scalar.muli v23 c176_i32
  let v25 : BitVec 32 := Scalar.addi c0_i32_17 v24
  let c1_i32_3 : BitVec 32 := 1#32
  let v9 : BitVec 32 := Scalar.shrsi v2 c1_i32_3
  let c1_i32_4 : BitVec 32 := 1#32
  let v10 : BitVec 32 := Scalar.andi v9 c1_i32_4
  let c1_i32_24 : BitVec 32 := 1#32
  let v33 : BitVec 32 := Scalar.xori v10 c1_i32_24
  let c2_i32_25 : BitVec 32 := 2#32
  let v34 : BitVec 32 := Scalar.muli v33 c2_i32_25
  let c176_i32_26 : BitVec 32 := 176#32
  let v35 : BitVec 32 := Scalar.muli v34 c176_i32_26
  let v36 : BitVec 32 := Scalar.addi v25 v35
  let v342 : Index := Scalar.indexCast v36
  let c0_221 : Index := 0#32
  ![v342.toNat, 0]
def k0_off32 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c1_i32_218 : BitVec 32 := 1#32
  let v339 : BitVec 32 := Scalar.xori v10 c1_i32_218
  let c2_i32_219 : BitVec 32 := 2#32
  let v340 : BitVec 32 := Scalar.muli v339 c2_i32_219
  let c176_i32_220 : BitVec 32 := 176#32
  let v341 : BitVec 32 := Scalar.muli v340 c176_i32_220
  let v344 : Index := Scalar.indexCast v341
  let c0_222 : Index := 0#32
  ![v344.toNat, 0]
def k0_off33 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c1_i32_224 : BitVec 32 := 1#32
  let v353 : BitVec 32 := Scalar.xori v8 c1_i32_224
  let c176_i32_226 : BitVec 32 := 176#32
  let v356 : BitVec 32 := Scalar.muli v353 c176_i32_226
  let c0_i32_231 : BitVec 32 := 0#32
  ![v356.toNat, 0]
def k0_off34 (d0 : Dev nD) : Fin 2 → Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c4_i32_16 : BitVec 32 := 4#32
  let v23 : BitVec 32 := Scalar.muli v11 c4_i32_16
  let c176_i32 : BitVec 32 := 176#32
  let v24 : BitVec 32 := Scalar.muli v23 c176_i32
  let v25 : BitVec 32 := Scalar.addi c0_i32_17 v24
  let c1_i32_3 : BitVec 32 := 1#32
  let v9 : BitVec 32 := Scalar.shrsi v2 c1_i32_3
  let c1_i32_4 : BitVec 32 := 1#32
  let v10 : BitVec 32 := Scalar.andi v9 c1_i32_4
  let c1_i32_24 : BitVec 32 := 1#32
  let v33 : BitVec 32 := Scalar.xori v10 c1_i32_24
  let c2_i32_25 : BitVec 32 := 2#32
  let v34 : BitVec 32 := Scalar.muli v33 c2_i32_25
  let c176_i32_26 : BitVec 32 := 176#32
  let v35 : BitVec 32 := Scalar.muli v34 c176_i32_26
  let v36 : BitVec 32 := Scalar.addi v25 v35
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c1_i32_224 : BitVec 32 := 1#32
  let v353 : BitVec 32 := Scalar.xori v8 c1_i32_224
  let c176_i32_225 : BitVec 32 := 176#32
  let v354 : BitVec 32 := Scalar.muli v353 c176_i32_225
  let v355 : BitVec 32 := Scalar.addi v36 v354
  let c0_i32_232 : BitVec 32 := 0#32
  ![v355.toNat, 0]
def k0_dev13 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_229 : BitVec 32 := 1#32
  let v357 : BitVec 32 := Scalar.muli v4 c1_i32_229
  let v358 : BitVec 32 := Scalar.addi c0_i32_230 v357
  v358.toNat
def k0_off35 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c176_i32_234 : BitVec 32 := 176#32
  let v367 : BitVec 32 := Scalar.muli v8 c176_i32_234
  let c0_i32_239 : BitVec 32 := 0#32
  ![v367.toNat, 0]
def k0_off36 (d0 : Dev nD) : Fin 2 → Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c4_i32_16 : BitVec 32 := 4#32
  let v23 : BitVec 32 := Scalar.muli v11 c4_i32_16
  let c176_i32 : BitVec 32 := 176#32
  let v24 : BitVec 32 := Scalar.muli v23 c176_i32
  let v25 : BitVec 32 := Scalar.addi c0_i32_17 v24
  let c1_i32_3 : BitVec 32 := 1#32
  let v9 : BitVec 32 := Scalar.shrsi v2 c1_i32_3
  let c1_i32_4 : BitVec 32 := 1#32
  let v10 : BitVec 32 := Scalar.andi v9 c1_i32_4
  let c1_i32_24 : BitVec 32 := 1#32
  let v33 : BitVec 32 := Scalar.xori v10 c1_i32_24
  let c2_i32_25 : BitVec 32 := 2#32
  let v34 : BitVec 32 := Scalar.muli v33 c2_i32_25
  let c176_i32_26 : BitVec 32 := 176#32
  let v35 : BitVec 32 := Scalar.muli v34 c176_i32_26
  let v36 : BitVec 32 := Scalar.addi v25 v35
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c176_i32_233 : BitVec 32 := 176#32
  let v365 : BitVec 32 := Scalar.muli v8 c176_i32_233
  let v366 : BitVec 32 := Scalar.addi v36 v365
  let c0_i32_240 : BitVec 32 := 0#32
  ![v366.toNat, 0]
def k0_dev14 (d0 : Dev nD) : Nat :=
  let c0_i32_238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_237 : BitVec 32 := 1#32
  let v368 : BitVec 32 := Scalar.muli v4 c1_i32_237
  let v369 : BitVec 32 := Scalar.addi c0_i32_238 v368
  v369.toNat
def k0_off37 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c4_i32_33 : BitVec 32 := 4#32
  let v46 : BitVec 32 := Scalar.muli v10 c4_i32_33
  let c176_i32_34 : BitVec 32 := 176#32
  let v47 : BitVec 32 := Scalar.muli v46 c176_i32_34
  let v48 : BitVec 32 := Scalar.addi c1408_i32 v47
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c1_i32_41 : BitVec 32 := 1#32
  let v56 : BitVec 32 := Scalar.xori v8 c1_i32_41
  let c2_i32_42 : BitVec 32 := 2#32
  let v57 : BitVec 32 := Scalar.muli v56 c2_i32_42
  let c176_i32_43 : BitVec 32 := 176#32
  let v58 : BitVec 32 := Scalar.muli v57 c176_i32_43
  let v59 : BitVec 32 := Scalar.addi v48 v58
  let v393 : Index := Scalar.indexCast v59
  let c0_258 : Index := 0#32
  ![v393.toNat, 0]
def k0_off38 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c1_i32_255 : BitVec 32 := 1#32
  let v390 : BitVec 32 := Scalar.xori v8 c1_i32_255
  let c2_i32_256 : BitVec 32 := 2#32
  let v391 : BitVec 32 := Scalar.muli v390 c2_i32_256
  let c176_i32_257 : BitVec 32 := 176#32
  let v392 : BitVec 32 := Scalar.muli v391 c176_i32_257
  let v395 : Index := Scalar.indexCast v392
  let c0_259 : Index := 0#32
  ![v395.toNat, 0]
def k0_off39 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_261 : BitVec 32 := 1#32
  let v404 : BitVec 32 := Scalar.xori v11 c1_i32_261
  let c176_i32_263 : BitVec 32 := 176#32
  let v407 : BitVec 32 := Scalar.muli v404 c176_i32_263
  let c0_i32_267 : BitVec 32 := 0#32
  ![v407.toNat, 0]
def k0_off40 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c4_i32_33 : BitVec 32 := 4#32
  let v46 : BitVec 32 := Scalar.muli v10 c4_i32_33
  let c176_i32_34 : BitVec 32 := 176#32
  let v47 : BitVec 32 := Scalar.muli v46 c176_i32_34
  let v48 : BitVec 32 := Scalar.addi c1408_i32 v47
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c1_i32_41 : BitVec 32 := 1#32
  let v56 : BitVec 32 := Scalar.xori v8 c1_i32_41
  let c2_i32_42 : BitVec 32 := 2#32
  let v57 : BitVec 32 := Scalar.muli v56 c2_i32_42
  let c176_i32_43 : BitVec 32 := 176#32
  let v58 : BitVec 32 := Scalar.muli v57 c176_i32_43
  let v59 : BitVec 32 := Scalar.addi v48 v58
  let c2_i32 : BitVec 32 := 2#32
  let v11 : BitVec 32 := Scalar.shrsi v2 c2_i32
  let c1_i32_261 : BitVec 32 := 1#32
  let v404 : BitVec 32 := Scalar.xori v11 c1_i32_261
  let c176_i32_262 : BitVec 32 := 176#32
  let v405 : BitVec 32 := Scalar.muli v404 c176_i32_262
  let v406 : BitVec 32 := Scalar.addi v59 v405
  let c0_i32_268 : BitVec 32 := 0#32
  ![v406.toNat, 0]
def k0_dev15 (d0 : Dev nD) : Nat :=
  let c0_i32_266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_265 : BitVec 32 := 1#32
  let v408 : BitVec 32 := Scalar.muli v3 c1_i32_265
  let v409 : BitVec 32 := Scalar.addi c0_i32_266 v408
  v409.toNat
def k0_off41 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c176_i32_270 : BitVec 32 := 176#32
  let v418 : BitVec 32 := Scalar.muli v11 c176_i32_270
  let c0_i32_274 : BitVec 32 := 0#32
  ![v418.toNat, 0]
def k0_off42 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c4_i32_33 : BitVec 32 := 4#32
  let v46 : BitVec 32 := Scalar.muli v10 c4_i32_33
  let c176_i32_34 : BitVec 32 := 176#32
  let v47 : BitVec 32 := Scalar.muli v46 c176_i32_34
  let v48 : BitVec 32 := Scalar.addi c1408_i32 v47
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c1_i32_41 : BitVec 32 := 1#32
  let v56 : BitVec 32 := Scalar.xori v8 c1_i32_41
  let c2_i32_42 : BitVec 32 := 2#32
  let v57 : BitVec 32 := Scalar.muli v56 c2_i32_42
  let c176_i32_43 : BitVec 32 := 176#32
  let v58 : BitVec 32 := Scalar.muli v57 c176_i32_43
  let v59 : BitVec 32 := Scalar.addi v48 v58
  let c2_i32 : BitVec 32 := 2#32
  let v11 : BitVec 32 := Scalar.shrsi v2 c2_i32
  let c176_i32_269 : BitVec 32 := 176#32
  let v416 : BitVec 32 := Scalar.muli v11 c176_i32_269
  let v417 : BitVec 32 := Scalar.addi v59 v416
  let c0_i32_275 : BitVec 32 := 0#32
  ![v417.toNat, 0]
def k0_dev16 (d0 : Dev nD) : Nat :=
  let c0_i32_273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_272 : BitVec 32 := 1#32
  let v419 : BitVec 32 := Scalar.muli v3 c1_i32_272
  let v420 : BitVec 32 := Scalar.addi c0_i32_273 v419
  v420.toNat
def k0_off43 (d0 : Dev nD) : Fin 2 → Nat :=
  let c2816_i32 : BitVec 32 := 2816#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c4_i32_50 : BitVec 32 := 4#32
  let v69 : BitVec 32 := Scalar.muli v8 c4_i32_50
  let c160_i32 : BitVec 32 := 160#32
  let v70 : BitVec 32 := Scalar.muli v69 c160_i32
  let v71 : BitVec 32 := Scalar.addi c2816_i32 v70
  let c2_i32 : BitVec 32 := 2#32
  let v11 : BitVec 32 := Scalar.shrsi v2 c2_i32
  let c1_i32_57 : BitVec 32 := 1#32
  let v79 : BitVec 32 := Scalar.xori v11 c1_i32_57
  let c2_i32_58 : BitVec 32 := 2#32
  let v80 : BitVec 32 := Scalar.muli v79 c2_i32_58
  let c160_i32_59 : BitVec 32 := 160#32
  let v81 : BitVec 32 := Scalar.muli v80 c160_i32_59
  let v82 : BitVec 32 := Scalar.addi v71 v81
  let v444 : Index := Scalar.indexCast v82
  let c0_293 : Index := 0#32
  ![v444.toNat, 0]
def k0_off44 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_290 : BitVec 32 := 1#32
  let v441 : BitVec 32 := Scalar.xori v11 c1_i32_290
  let c2_i32_291 : BitVec 32 := 2#32
  let v442 : BitVec 32 := Scalar.muli v441 c2_i32_291
  let c160_i32_292 : BitVec 32 := 160#32
  let v443 : BitVec 32 := Scalar.muli v442 c160_i32_292
  let v446 : Index := Scalar.indexCast v443
  let c0_294 : Index := 0#32
  ![v446.toNat, 0]
def k0_off45 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c1_i32_296 : BitVec 32 := 1#32
  let v455 : BitVec 32 := Scalar.xori v10 c1_i32_296
  let c160_i32_298 : BitVec 32 := 160#32
  let v458 : BitVec 32 := Scalar.muli v455 c160_i32_298
  let c0_i32_302 : BitVec 32 := 0#32
  ![v458.toNat, 0]
def k0_off46 (d0 : Dev nD) : Fin 2 → Nat :=
  let c2816_i32 : BitVec 32 := 2816#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c4_i32_50 : BitVec 32 := 4#32
  let v69 : BitVec 32 := Scalar.muli v8 c4_i32_50
  let c160_i32 : BitVec 32 := 160#32
  let v70 : BitVec 32 := Scalar.muli v69 c160_i32
  let v71 : BitVec 32 := Scalar.addi c2816_i32 v70
  let c2_i32 : BitVec 32 := 2#32
  let v11 : BitVec 32 := Scalar.shrsi v2 c2_i32
  let c1_i32_57 : BitVec 32 := 1#32
  let v79 : BitVec 32 := Scalar.xori v11 c1_i32_57
  let c2_i32_58 : BitVec 32 := 2#32
  let v80 : BitVec 32 := Scalar.muli v79 c2_i32_58
  let c160_i32_59 : BitVec 32 := 160#32
  let v81 : BitVec 32 := Scalar.muli v80 c160_i32_59
  let v82 : BitVec 32 := Scalar.addi v71 v81
  let c1_i32_3 : BitVec 32 := 1#32
  let v9 : BitVec 32 := Scalar.shrsi v2 c1_i32_3
  let c1_i32_4 : BitVec 32 := 1#32
  let v10 : BitVec 32 := Scalar.andi v9 c1_i32_4
  let c1_i32_296 : BitVec 32 := 1#32
  let v455 : BitVec 32 := Scalar.xori v10 c1_i32_296
  let c160_i32_297 : BitVec 32 := 160#32
  let v456 : BitVec 32 := Scalar.muli v455 c160_i32_297
  let v457 : BitVec 32 := Scalar.addi v82 v456
  let c0_i32_303 : BitVec 32 := 0#32
  ![v457.toNat, 0]
def k0_dev17 (d0 : Dev nD) : Nat :=
  let c0_i32_301 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_300 : BitVec 32 := 1#32
  let v459 : BitVec 32 := Scalar.muli v5 c1_i32_300
  let v460 : BitVec 32 := Scalar.addi c0_i32_301 v459
  v460.toNat
def k0_off47 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c160_i32_305 : BitVec 32 := 160#32
  let v469 : BitVec 32 := Scalar.muli v10 c160_i32_305
  let c0_i32_309 : BitVec 32 := 0#32
  ![v469.toNat, 0]
def k0_off48 (d0 : Dev nD) : Fin 2 → Nat :=
  let c2816_i32 : BitVec 32 := 2816#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c4_i32_50 : BitVec 32 := 4#32
  let v69 : BitVec 32 := Scalar.muli v8 c4_i32_50
  let c160_i32 : BitVec 32 := 160#32
  let v70 : BitVec 32 := Scalar.muli v69 c160_i32
  let v71 : BitVec 32 := Scalar.addi c2816_i32 v70
  let c2_i32 : BitVec 32 := 2#32
  let v11 : BitVec 32 := Scalar.shrsi v2 c2_i32
  let c1_i32_57 : BitVec 32 := 1#32
  let v79 : BitVec 32 := Scalar.xori v11 c1_i32_57
  let c2_i32_58 : BitVec 32 := 2#32
  let v80 : BitVec 32 := Scalar.muli v79 c2_i32_58
  let c160_i32_59 : BitVec 32 := 160#32
  let v81 : BitVec 32 := Scalar.muli v80 c160_i32_59
  let v82 : BitVec 32 := Scalar.addi v71 v81
  let c1_i32_3 : BitVec 32 := 1#32
  let v9 : BitVec 32 := Scalar.shrsi v2 c1_i32_3
  let c1_i32_4 : BitVec 32 := 1#32
  let v10 : BitVec 32 := Scalar.andi v9 c1_i32_4
  let c160_i32_304 : BitVec 32 := 160#32
  let v467 : BitVec 32 := Scalar.muli v10 c160_i32_304
  let v468 : BitVec 32 := Scalar.addi v82 v467
  let c0_i32_310 : BitVec 32 := 0#32
  ![v468.toNat, 0]
def k0_dev18 (d0 : Dev nD) : Nat :=
  let c0_i32_308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_307 : BitVec 32 := 1#32
  let v470 : BitVec 32 := Scalar.muli v5 c1_i32_307
  let v471 : BitVec 32 := Scalar.addi c0_i32_308 v470
  v471.toNat
def k0_off49 (d0 : Dev nD) : Fin 2 → Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c4_i32_16 : BitVec 32 := 4#32
  let v23 : BitVec 32 := Scalar.muli v11 c4_i32_16
  let c176_i32 : BitVec 32 := 176#32
  let v24 : BitVec 32 := Scalar.muli v23 c176_i32
  let v25 : BitVec 32 := Scalar.addi c0_i32_17 v24
  let c1_i32_3 : BitVec 32 := 1#32
  let v9 : BitVec 32 := Scalar.shrsi v2 c1_i32_3
  let c1_i32_4 : BitVec 32 := 1#32
  let v10 : BitVec 32 := Scalar.andi v9 c1_i32_4
  let c2_i32_22 : BitVec 32 := 2#32
  let v30 : BitVec 32 := Scalar.muli v10 c2_i32_22
  let c176_i32_23 : BitVec 32 := 176#32
  let v31 : BitVec 32 := Scalar.muli v30 c176_i32_23
  let v32 : BitVec 32 := Scalar.addi v25 v31
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c1_i32_29 : BitVec 32 := 1#32
  let v39 : BitVec 32 := Scalar.xori v8 c1_i32_29
  let c176_i32_30 : BitVec 32 := 176#32
  let v40 : BitVec 32 := Scalar.muli v39 c176_i32_30
  let v41 : BitVec 32 := Scalar.addi v32 v40
  let v493 : Index := Scalar.indexCast v41
  let c0_326 : Index := 0#32
  ![v493.toNat, 0]
def k0_off50 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c2_i32_322 : BitVec 32 := 2#32
  let v488 : BitVec 32 := Scalar.muli v10 c2_i32_322
  let c176_i32_323 : BitVec 32 := 176#32
  let v489 : BitVec 32 := Scalar.muli v488 c176_i32_323
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c1_i32_324 : BitVec 32 := 1#32
  let v490 : BitVec 32 := Scalar.xori v8 c1_i32_324
  let c176_i32_325 : BitVec 32 := 176#32
  let v491 : BitVec 32 := Scalar.muli v490 c176_i32_325
  let v492 : BitVec 32 := Scalar.addi v489 v491
  let v495 : Index := Scalar.indexCast v492
  let c0_327 : Index := 0#32
  ![v495.toNat, 0]
def k0_off51 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c4_i32_33 : BitVec 32 := 4#32
  let v46 : BitVec 32 := Scalar.muli v10 c4_i32_33
  let c176_i32_34 : BitVec 32 := 176#32
  let v47 : BitVec 32 := Scalar.muli v46 c176_i32_34
  let v48 : BitVec 32 := Scalar.addi c1408_i32 v47
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c2_i32_39 : BitVec 32 := 2#32
  let v53 : BitVec 32 := Scalar.muli v8 c2_i32_39
  let c176_i32_40 : BitVec 32 := 176#32
  let v54 : BitVec 32 := Scalar.muli v53 c176_i32_40
  let v55 : BitVec 32 := Scalar.addi v48 v54
  let c2_i32 : BitVec 32 := 2#32
  let v11 : BitVec 32 := Scalar.shrsi v2 c2_i32
  let c1_i32_46 : BitVec 32 := 1#32
  let v62 : BitVec 32 := Scalar.xori v11 c1_i32_46
  let c176_i32_47 : BitVec 32 := 176#32
  let v63 : BitVec 32 := Scalar.muli v62 c176_i32_47
  let v64 : BitVec 32 := Scalar.addi v55 v63
  let v519 : Index := Scalar.indexCast v64
  let c0_344 : Index := 0#32
  ![v519.toNat, 0]
def k0_off52 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c2_i32_340 : BitVec 32 := 2#32
  let v514 : BitVec 32 := Scalar.muli v8 c2_i32_340
  let c176_i32_341 : BitVec 32 := 176#32
  let v515 : BitVec 32 := Scalar.muli v514 c176_i32_341
  let c2_i32 : BitVec 32 := 2#32
  let v11 : BitVec 32 := Scalar.shrsi v2 c2_i32
  let c1_i32_342 : BitVec 32 := 1#32
  let v516 : BitVec 32 := Scalar.xori v11 c1_i32_342
  let c176_i32_343 : BitVec 32 := 176#32
  let v517 : BitVec 32 := Scalar.muli v516 c176_i32_343
  let v518 : BitVec 32 := Scalar.addi v515 v517
  let v521 : Index := Scalar.indexCast v518
  let c0_345 : Index := 0#32
  ![v521.toNat, 0]
def k0_off53 (d0 : Dev nD) : Fin 2 → Nat :=
  let c2816_i32 : BitVec 32 := 2816#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c4_i32_50 : BitVec 32 := 4#32
  let v69 : BitVec 32 := Scalar.muli v8 c4_i32_50
  let c160_i32 : BitVec 32 := 160#32
  let v70 : BitVec 32 := Scalar.muli v69 c160_i32
  let v71 : BitVec 32 := Scalar.addi c2816_i32 v70
  let c2_i32 : BitVec 32 := 2#32
  let v11 : BitVec 32 := Scalar.shrsi v2 c2_i32
  let c2_i32_55 : BitVec 32 := 2#32
  let v76 : BitVec 32 := Scalar.muli v11 c2_i32_55
  let c160_i32_56 : BitVec 32 := 160#32
  let v77 : BitVec 32 := Scalar.muli v76 c160_i32_56
  let v78 : BitVec 32 := Scalar.addi v71 v77
  let c1_i32_3 : BitVec 32 := 1#32
  let v9 : BitVec 32 := Scalar.shrsi v2 c1_i32_3
  let c1_i32_4 : BitVec 32 := 1#32
  let v10 : BitVec 32 := Scalar.andi v9 c1_i32_4
  let c1_i32_62 : BitVec 32 := 1#32
  let v85 : BitVec 32 := Scalar.xori v10 c1_i32_62
  let c160_i32_63 : BitVec 32 := 160#32
  let v86 : BitVec 32 := Scalar.muli v85 c160_i32_63
  let v87 : BitVec 32 := Scalar.addi v78 v86
  let v545 : Index := Scalar.indexCast v87
  let c0_362 : Index := 0#32
  ![v545.toNat, 0]
def k0_off54 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c2_i32_358 : BitVec 32 := 2#32
  let v540 : BitVec 32 := Scalar.muli v11 c2_i32_358
  let c160_i32_359 : BitVec 32 := 160#32
  let v541 : BitVec 32 := Scalar.muli v540 c160_i32_359
  let c1_i32_3 : BitVec 32 := 1#32
  let v9 : BitVec 32 := Scalar.shrsi v2 c1_i32_3
  let c1_i32_4 : BitVec 32 := 1#32
  let v10 : BitVec 32 := Scalar.andi v9 c1_i32_4
  let c1_i32_360 : BitVec 32 := 1#32
  let v542 : BitVec 32 := Scalar.xori v10 c1_i32_360
  let c160_i32_361 : BitVec 32 := 160#32
  let v543 : BitVec 32 := Scalar.muli v542 c160_i32_361
  let v544 : BitVec 32 := Scalar.addi v541 v543
  let v547 : Index := Scalar.indexCast v544
  let c0_363 : Index := 0#32
  ![v547.toNat, 0]
def k0_off55 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c1_i32_376 : BitVec 32 := 1#32
  let v566 : BitVec 32 := Scalar.xori v8 c1_i32_376
  let c176_i32_377 : BitVec 32 := 176#32
  let v567 : BitVec 32 := Scalar.muli v566 c176_i32_377
  let v571 : Index := Scalar.indexCast v567
  let c0_379 : Index := 0#32
  ![v571.toNat, 0]
def k0_off56 (d0 : Dev nD) : Fin 2 → Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c4_i32_16 : BitVec 32 := 4#32
  let v23 : BitVec 32 := Scalar.muli v11 c4_i32_16
  let c176_i32 : BitVec 32 := 176#32
  let v24 : BitVec 32 := Scalar.muli v23 c176_i32
  let v25 : BitVec 32 := Scalar.addi c0_i32_17 v24
  let c1_i32_3 : BitVec 32 := 1#32
  let v9 : BitVec 32 := Scalar.shrsi v2 c1_i32_3
  let c1_i32_4 : BitVec 32 := 1#32
  let v10 : BitVec 32 := Scalar.andi v9 c1_i32_4
  let c2_i32_22 : BitVec 32 := 2#32
  let v30 : BitVec 32 := Scalar.muli v10 c2_i32_22
  let c176_i32_23 : BitVec 32 := 176#32
  let v31 : BitVec 32 := Scalar.muli v30 c176_i32_23
  let v32 : BitVec 32 := Scalar.addi v25 v31
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c1_i32_29 : BitVec 32 := 1#32
  let v39 : BitVec 32 := Scalar.xori v8 c1_i32_29
  let c176_i32_30 : BitVec 32 := 176#32
  let v40 : BitVec 32 := Scalar.muli v39 c176_i32_30
  let v41 : BitVec 32 := Scalar.addi v32 v40
  let c0_i32_385 : BitVec 32 := 0#32
  ![v41.toNat, 0]
def k0_dev19 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_383 : BitVec 32 := 1#32
  let v580 : BitVec 32 := Scalar.muli v3 c1_i32_383
  let v581 : BitVec 32 := Scalar.addi c0_i32_384 v580
  v581.toNat
def k0_off57 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c1_i32_397 : BitVec 32 := 1#32
  let v597 : BitVec 32 := Scalar.xori v11 c1_i32_397
  let c176_i32_398 : BitVec 32 := 176#32
  let v598 : BitVec 32 := Scalar.muli v597 c176_i32_398
  let v602 : Index := Scalar.indexCast v598
  let c0_400 : Index := 0#32
  ![v602.toNat, 0]
def k0_off58 (d0 : Dev nD) : Fin 2 → Nat :=
  let c1408_i32 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c4_i32_33 : BitVec 32 := 4#32
  let v46 : BitVec 32 := Scalar.muli v10 c4_i32_33
  let c176_i32_34 : BitVec 32 := 176#32
  let v47 : BitVec 32 := Scalar.muli v46 c176_i32_34
  let v48 : BitVec 32 := Scalar.addi c1408_i32 v47
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c2_i32_39 : BitVec 32 := 2#32
  let v53 : BitVec 32 := Scalar.muli v8 c2_i32_39
  let c176_i32_40 : BitVec 32 := 176#32
  let v54 : BitVec 32 := Scalar.muli v53 c176_i32_40
  let v55 : BitVec 32 := Scalar.addi v48 v54
  let c2_i32 : BitVec 32 := 2#32
  let v11 : BitVec 32 := Scalar.shrsi v2 c2_i32
  let c1_i32_46 : BitVec 32 := 1#32
  let v62 : BitVec 32 := Scalar.xori v11 c1_i32_46
  let c176_i32_47 : BitVec 32 := 176#32
  let v63 : BitVec 32 := Scalar.muli v62 c176_i32_47
  let v64 : BitVec 32 := Scalar.addi v55 v63
  let c0_i32_405 : BitVec 32 := 0#32
  ![v64.toNat, 0]
def k0_dev20 (d0 : Dev nD) : Nat :=
  let c0_i32_404 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_403 : BitVec 32 := 1#32
  let v611 : BitVec 32 := Scalar.muli v5 c1_i32_403
  let v612 : BitVec 32 := Scalar.addi c0_i32_404 v611
  v612.toNat
def k0_off59 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c1_i32_417 : BitVec 32 := 1#32
  let v628 : BitVec 32 := Scalar.xori v10 c1_i32_417
  let c160_i32_418 : BitVec 32 := 160#32
  let v629 : BitVec 32 := Scalar.muli v628 c160_i32_418
  let v633 : Index := Scalar.indexCast v629
  let c0_420 : Index := 0#32
  ![v633.toNat, 0]
def k0_off60 (d0 : Dev nD) : Fin 2 → Nat :=
  let c2816_i32 : BitVec 32 := 2816#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c4_i32_50 : BitVec 32 := 4#32
  let v69 : BitVec 32 := Scalar.muli v8 c4_i32_50
  let c160_i32 : BitVec 32 := 160#32
  let v70 : BitVec 32 := Scalar.muli v69 c160_i32
  let v71 : BitVec 32 := Scalar.addi c2816_i32 v70
  let c2_i32 : BitVec 32 := 2#32
  let v11 : BitVec 32 := Scalar.shrsi v2 c2_i32
  let c2_i32_55 : BitVec 32 := 2#32
  let v76 : BitVec 32 := Scalar.muli v11 c2_i32_55
  let c160_i32_56 : BitVec 32 := 160#32
  let v77 : BitVec 32 := Scalar.muli v76 c160_i32_56
  let v78 : BitVec 32 := Scalar.addi v71 v77
  let c1_i32_3 : BitVec 32 := 1#32
  let v9 : BitVec 32 := Scalar.shrsi v2 c1_i32_3
  let c1_i32_4 : BitVec 32 := 1#32
  let v10 : BitVec 32 := Scalar.andi v9 c1_i32_4
  let c1_i32_62 : BitVec 32 := 1#32
  let v85 : BitVec 32 := Scalar.xori v10 c1_i32_62
  let c160_i32_63 : BitVec 32 := 160#32
  let v86 : BitVec 32 := Scalar.muli v85 c160_i32_63
  let v87 : BitVec 32 := Scalar.addi v78 v86
  let c0_i32_425 : BitVec 32 := 0#32
  ![v87.toNat, 0]
def k0_dev21 (d0 : Dev nD) : Nat :=
  let c0_i32_424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_423 : BitVec 32 := 1#32
  let v642 : BitVec 32 := Scalar.muli v4 c1_i32_423
  let v643 : BitVec 32 := Scalar.addi c0_i32_424 v642
  v643.toNat
def k0_off61 (d0 : Dev nD) : Fin 2 → Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c4_i32_14 : BitVec 32 := 4#32
  let v19 : BitVec 32 := Scalar.muli v11 c4_i32_14
  let c1_i32_3 : BitVec 32 := 1#32
  let v9 : BitVec 32 := Scalar.shrsi v2 c1_i32_3
  let c1_i32_4 : BitVec 32 := 1#32
  let v10 : BitVec 32 := Scalar.andi v9 c1_i32_4
  let c2_i32_15 : BitVec 32 := 2#32
  let v20 : BitVec 32 := Scalar.muli v10 c2_i32_15
  let v21 : BitVec 32 := Scalar.addi v19 v20
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let v22 : BitVec 32 := Scalar.addi v21 v8
  let c176_i32_27 : BitVec 32 := 176#32
  let v37 : BitVec 32 := Scalar.muli v22 c176_i32_27
  let v38 : BitVec 32 := Scalar.addi c0_i32_28 v37
  let v663 : Index := Scalar.indexCast v38
  let c0_440 : Index := 0#32
  ![v663.toNat, 0]
def k0_off62 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c2_i32_437 : BitVec 32 := 2#32
  let v659 : BitVec 32 := Scalar.muli v10 c2_i32_437
  let c176_i32_438 : BitVec 32 := 176#32
  let v660 : BitVec 32 := Scalar.muli v659 c176_i32_438
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c176_i32_439 : BitVec 32 := 176#32
  let v661 : BitVec 32 := Scalar.muli v8 c176_i32_439
  let v662 : BitVec 32 := Scalar.addi v660 v661
  let v665 : Index := Scalar.indexCast v662
  let c0_441 : Index := 0#32
  ![v665.toNat, 0]
def k0_off63 (d0 : Dev nD) : Fin 2 → Nat :=
  let c1408_i32_45 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c4_i32_31 : BitVec 32 := 4#32
  let v42 : BitVec 32 := Scalar.muli v10 c4_i32_31
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c2_i32_32 : BitVec 32 := 2#32
  let v43 : BitVec 32 := Scalar.muli v8 c2_i32_32
  let v44 : BitVec 32 := Scalar.addi v42 v43
  let c2_i32 : BitVec 32 := 2#32
  let v11 : BitVec 32 := Scalar.shrsi v2 c2_i32
  let v45 : BitVec 32 := Scalar.addi v44 v11
  let c176_i32_44 : BitVec 32 := 176#32
  let v60 : BitVec 32 := Scalar.muli v45 c176_i32_44
  let v61 : BitVec 32 := Scalar.addi c1408_i32_45 v60
  let v688 : Index := Scalar.indexCast v61
  let c0_457 : Index := 0#32
  ![v688.toNat, 0]
def k0_off64 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c2_i32_454 : BitVec 32 := 2#32
  let v684 : BitVec 32 := Scalar.muli v8 c2_i32_454
  let c176_i32_455 : BitVec 32 := 176#32
  let v685 : BitVec 32 := Scalar.muli v684 c176_i32_455
  let c2_i32 : BitVec 32 := 2#32
  let v11 : BitVec 32 := Scalar.shrsi v2 c2_i32
  let c176_i32_456 : BitVec 32 := 176#32
  let v686 : BitVec 32 := Scalar.muli v11 c176_i32_456
  let v687 : BitVec 32 := Scalar.addi v685 v686
  let v690 : Index := Scalar.indexCast v687
  let c0_458 : Index := 0#32
  ![v690.toNat, 0]
def k0_off65 (d0 : Dev nD) : Fin 2 → Nat :=
  let c2816_i32_61 : BitVec 32 := 2816#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c4_i32_48 : BitVec 32 := 4#32
  let v65 : BitVec 32 := Scalar.muli v8 c4_i32_48
  let c2_i32 : BitVec 32 := 2#32
  let v11 : BitVec 32 := Scalar.shrsi v2 c2_i32
  let c2_i32_49 : BitVec 32 := 2#32
  let v66 : BitVec 32 := Scalar.muli v11 c2_i32_49
  let v67 : BitVec 32 := Scalar.addi v65 v66
  let c1_i32_3 : BitVec 32 := 1#32
  let v9 : BitVec 32 := Scalar.shrsi v2 c1_i32_3
  let c1_i32_4 : BitVec 32 := 1#32
  let v10 : BitVec 32 := Scalar.andi v9 c1_i32_4
  let v68 : BitVec 32 := Scalar.addi v67 v10
  let c160_i32_60 : BitVec 32 := 160#32
  let v83 : BitVec 32 := Scalar.muli v68 c160_i32_60
  let v84 : BitVec 32 := Scalar.addi c2816_i32_61 v83
  let v713 : Index := Scalar.indexCast v84
  let c0_474 : Index := 0#32
  ![v713.toNat, 0]
def k0_off66 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c2_i32_471 : BitVec 32 := 2#32
  let v709 : BitVec 32 := Scalar.muli v11 c2_i32_471
  let c160_i32_472 : BitVec 32 := 160#32
  let v710 : BitVec 32 := Scalar.muli v709 c160_i32_472
  let c1_i32_3 : BitVec 32 := 1#32
  let v9 : BitVec 32 := Scalar.shrsi v2 c1_i32_3
  let c1_i32_4 : BitVec 32 := 1#32
  let v10 : BitVec 32 := Scalar.andi v9 c1_i32_4
  let c160_i32_473 : BitVec 32 := 160#32
  let v711 : BitVec 32 := Scalar.muli v10 c160_i32_473
  let v712 : BitVec 32 := Scalar.addi v710 v711
  let v715 : Index := Scalar.indexCast v712
  let c0_475 : Index := 0#32
  ![v715.toNat, 0]
def k0_off67 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c176_i32_488 : BitVec 32 := 176#32
  let v734 : BitVec 32 := Scalar.muli v8 c176_i32_488
  let v738 : Index := Scalar.indexCast v734
  let c0_490 : Index := 0#32
  ![v738.toNat, 0]
def k0_off68 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c176_i32_503 : BitVec 32 := 176#32
  let v757 : BitVec 32 := Scalar.muli v11 c176_i32_503
  let v761 : Index := Scalar.indexCast v757
  let c0_505 : Index := 0#32
  ![v761.toNat, 0]
def k0_off69 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c160_i32_518 : BitVec 32 := 160#32
  let v780 : BitVec 32 := Scalar.muli v10 c160_i32_518
  let v784 : Index := Scalar.indexCast v780
  let c0_520 : Index := 0#32
  ![v784.toNat, 0]
def k0_off70 (d0 : Dev nD) : Fin 2 → Nat :=
  let c0_i32_536 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c4_i32_14 : BitVec 32 := 4#32
  let v19 : BitVec 32 := Scalar.muli v11 c4_i32_14
  let c1_i32_3 : BitVec 32 := 1#32
  let v9 : BitVec 32 := Scalar.shrsi v2 c1_i32_3
  let c1_i32_4 : BitVec 32 := 1#32
  let v10 : BitVec 32 := Scalar.andi v9 c1_i32_4
  let c2_i32_15 : BitVec 32 := 2#32
  let v20 : BitVec 32 := Scalar.muli v10 c2_i32_15
  let v21 : BitVec 32 := Scalar.addi v19 v20
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let v22 : BitVec 32 := Scalar.addi v21 v8
  let c176_i32_535 : BitVec 32 := 176#32
  let v820 : BitVec 32 := Scalar.muli v22 c176_i32_535
  let v821 : BitVec 32 := Scalar.addi c0_i32_536 v820
  let c0_i32_541 : BitVec 32 := 0#32
  ![v821.toNat, 0]
def k0_dev22 (d0 : Dev nD) : Nat :=
  let c0_i32_540 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_539 : BitVec 32 := 1#32
  let v822 : BitVec 32 := Scalar.muli v3 c1_i32_539
  let v823 : BitVec 32 := Scalar.addi c0_i32_540 v822
  v823.toNat
def k0_dev23 (d0 : Dev nD) : Nat :=
  let c0_i32_546 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_545 : BitVec 32 := 1#32
  let v830 : BitVec 32 := Scalar.muli v4 c1_i32_545
  let v831 : BitVec 32 := Scalar.addi c0_i32_546 v830
  v831.toNat
def k0_dev24 (d0 : Dev nD) : Nat :=
  let c0_i32_552 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_551 : BitVec 32 := 1#32
  let v838 : BitVec 32 := Scalar.muli v5 c1_i32_551
  let v839 : BitVec 32 := Scalar.addi c0_i32_552 v838
  v839.toNat
def k0_off71 (d0 : Dev nD) : Fin 2 → Nat :=
  let c1408_i32_575 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c4_i32_31 : BitVec 32 := 4#32
  let v42 : BitVec 32 := Scalar.muli v10 c4_i32_31
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c2_i32_32 : BitVec 32 := 2#32
  let v43 : BitVec 32 := Scalar.muli v8 c2_i32_32
  let v44 : BitVec 32 := Scalar.addi v42 v43
  let c2_i32 : BitVec 32 := 2#32
  let v11 : BitVec 32 := Scalar.shrsi v2 c2_i32
  let v45 : BitVec 32 := Scalar.addi v44 v11
  let c176_i32_574 : BitVec 32 := 176#32
  let v879 : BitVec 32 := Scalar.muli v45 c176_i32_574
  let v880 : BitVec 32 := Scalar.addi c1408_i32_575 v879
  let c0_i32_579 : BitVec 32 := 0#32
  ![v880.toNat, 0]
def k0_dev25 (d0 : Dev nD) : Nat :=
  let c0_i32_578 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_577 : BitVec 32 := 1#32
  let v881 : BitVec 32 := Scalar.muli v5 c1_i32_577
  let v882 : BitVec 32 := Scalar.addi c0_i32_578 v881
  v882.toNat
def k0_dev26 (d0 : Dev nD) : Nat :=
  let c0_i32_583 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_582 : BitVec 32 := 1#32
  let v889 : BitVec 32 := Scalar.muli v3 c1_i32_582
  let v890 : BitVec 32 := Scalar.addi c0_i32_583 v889
  v890.toNat
def k0_dev27 (d0 : Dev nD) : Nat :=
  let c0_i32_588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_587 : BitVec 32 := 1#32
  let v897 : BitVec 32 := Scalar.muli v4 c1_i32_587
  let v898 : BitVec 32 := Scalar.addi c0_i32_588 v897
  v898.toNat
def k0_off72 (d0 : Dev nD) : Fin 2 → Nat :=
  let c2816_i32_611 : BitVec 32 := 2816#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c4_i32_48 : BitVec 32 := 4#32
  let v65 : BitVec 32 := Scalar.muli v8 c4_i32_48
  let c2_i32 : BitVec 32 := 2#32
  let v11 : BitVec 32 := Scalar.shrsi v2 c2_i32
  let c2_i32_49 : BitVec 32 := 2#32
  let v66 : BitVec 32 := Scalar.muli v11 c2_i32_49
  let v67 : BitVec 32 := Scalar.addi v65 v66
  let c1_i32_3 : BitVec 32 := 1#32
  let v9 : BitVec 32 := Scalar.shrsi v2 c1_i32_3
  let c1_i32_4 : BitVec 32 := 1#32
  let v10 : BitVec 32 := Scalar.andi v9 c1_i32_4
  let v68 : BitVec 32 := Scalar.addi v67 v10
  let c160_i32_610 : BitVec 32 := 160#32
  let v938 : BitVec 32 := Scalar.muli v68 c160_i32_610
  let v939 : BitVec 32 := Scalar.addi c2816_i32_611 v938
  let c0_i32_615 : BitVec 32 := 0#32
  ![v939.toNat, 0]
def k0_dev28 (d0 : Dev nD) : Nat :=
  let c0_i32_614 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_613 : BitVec 32 := 1#32
  let v940 : BitVec 32 := Scalar.muli v4 c1_i32_613
  let v941 : BitVec 32 := Scalar.addi c0_i32_614 v940
  v941.toNat
def k0_dev29 (d0 : Dev nD) : Nat :=
  let c0_i32_619 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_618 : BitVec 32 := 1#32
  let v948 : BitVec 32 := Scalar.muli v5 c1_i32_618
  let v949 : BitVec 32 := Scalar.addi c0_i32_619 v948
  v949.toNat
def k0_dev30 (d0 : Dev nD) : Nat :=
  let c0_i32_624 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_623 : BitVec 32 := 1#32
  let v956 : BitVec 32 := Scalar.muli v3 c1_i32_623
  let v957 : BitVec 32 := Scalar.addi c0_i32_624 v956
  v957.toNat
def k0_off73 (d0 : Dev nD) (c1_i32_643 : BitVec 32) : Fin 2 → Nat :=
  let c0_i32_645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.shrsi v2 c2_i32
  let c4_i32_14 : BitVec 32 := 4#32
  let v19 : BitVec 32 := Scalar.muli v11 c4_i32_14
  let c1_i32_3 : BitVec 32 := 1#32
  let v9 : BitVec 32 := Scalar.shrsi v2 c1_i32_3
  let c1_i32_4 : BitVec 32 := 1#32
  let v10 : BitVec 32 := Scalar.andi v9 c1_i32_4
  let c2_i32_15 : BitVec 32 := 2#32
  let v20 : BitVec 32 := Scalar.muli v10 c2_i32_15
  let v21 : BitVec 32 := Scalar.addi v19 v20
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let v22 : BitVec 32 := Scalar.addi v21 v8
  let v980 : BitVec 32 := Scalar.xori v22 c1_i32_643
  let c176_i32_644 : BitVec 32 := 176#32
  let v981 : BitVec 32 := Scalar.muli v980 c176_i32_644
  let v982 : BitVec 32 := Scalar.addi c0_i32_645 v981
  let c0_i32_649 : BitVec 32 := 0#32
  ![v982.toNat, 0]
def k0_dev31 (d0 : Dev nD) : Nat :=
  let c0_i32_648 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_647 : BitVec 32 := 1#32
  let v983 : BitVec 32 := Scalar.muli v4 c1_i32_647
  let v984 : BitVec 32 := Scalar.addi c0_i32_648 v983
  v984.toNat
def k0_dev32 (d0 : Dev nD) : Nat :=
  let c0_i32_653 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_652 : BitVec 32 := 1#32
  let v991 : BitVec 32 := Scalar.muli v5 c1_i32_652
  let v992 : BitVec 32 := Scalar.addi c0_i32_653 v991
  v992.toNat
def k0_off74 (d0 : Dev nD) (c1_i32_673 : BitVec 32) : Fin 2 → Nat :=
  let c1408_i32_675 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.shrsi v2 c1_i32_3
  let c1_i32_4 : BitVec 32 := 1#32
  let v10 : BitVec 32 := Scalar.andi v9 c1_i32_4
  let c4_i32_31 : BitVec 32 := 4#32
  let v42 : BitVec 32 := Scalar.muli v10 c4_i32_31
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c2_i32_32 : BitVec 32 := 2#32
  let v43 : BitVec 32 := Scalar.muli v8 c2_i32_32
  let v44 : BitVec 32 := Scalar.addi v42 v43
  let c2_i32 : BitVec 32 := 2#32
  let v11 : BitVec 32 := Scalar.shrsi v2 c2_i32
  let v45 : BitVec 32 := Scalar.addi v44 v11
  let v1016 : BitVec 32 := Scalar.xori v45 c1_i32_673
  let c176_i32_674 : BitVec 32 := 176#32
  let v1017 : BitVec 32 := Scalar.muli v1016 c176_i32_674
  let v1018 : BitVec 32 := Scalar.addi c1408_i32_675 v1017
  let c0_i32_679 : BitVec 32 := 0#32
  ![v1018.toNat, 0]
def k0_dev33 (d0 : Dev nD) : Nat :=
  let c0_i32_678 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_677 : BitVec 32 := 1#32
  let v1019 : BitVec 32 := Scalar.muli v3 c1_i32_677
  let v1020 : BitVec 32 := Scalar.addi c0_i32_678 v1019
  v1020.toNat
def k0_dev34 (d0 : Dev nD) : Nat :=
  let c0_i32_683 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_682 : BitVec 32 := 1#32
  let v1027 : BitVec 32 := Scalar.muli v4 c1_i32_682
  let v1028 : BitVec 32 := Scalar.addi c0_i32_683 v1027
  v1028.toNat
def k0_off75 (d0 : Dev nD) (c1_i32_703 : BitVec 32) : Fin 2 → Nat :=
  let c2816_i32_705 : BitVec 32 := 2816#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.shrsi v2 c1_i32_1
  let v7 : BitVec 32 := Scalar.xori v2 v6
  let c1_i32_2 : BitVec 32 := 1#32
  let v8 : BitVec 32 := Scalar.andi v7 c1_i32_2
  let c4_i32_48 : BitVec 32 := 4#32
  let v65 : BitVec 32 := Scalar.muli v8 c4_i32_48
  let c2_i32 : BitVec 32 := 2#32
  let v11 : BitVec 32 := Scalar.shrsi v2 c2_i32
  let c2_i32_49 : BitVec 32 := 2#32
  let v66 : BitVec 32 := Scalar.muli v11 c2_i32_49
  let v67 : BitVec 32 := Scalar.addi v65 v66
  let c1_i32_3 : BitVec 32 := 1#32
  let v9 : BitVec 32 := Scalar.shrsi v2 c1_i32_3
  let c1_i32_4 : BitVec 32 := 1#32
  let v10 : BitVec 32 := Scalar.andi v9 c1_i32_4
  let v68 : BitVec 32 := Scalar.addi v67 v10
  let v1052 : BitVec 32 := Scalar.xori v68 c1_i32_703
  let c160_i32_704 : BitVec 32 := 160#32
  let v1053 : BitVec 32 := Scalar.muli v1052 c160_i32_704
  let v1054 : BitVec 32 := Scalar.addi c2816_i32_705 v1053
  let c0_i32_709 : BitVec 32 := 0#32
  ![v1054.toNat, 0]
def k0_dev35 (d0 : Dev nD) : Nat :=
  let c0_i32_708 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_707 : BitVec 32 := 1#32
  let v1055 : BitVec 32 := Scalar.muli v5 c1_i32_707
  let v1056 : BitVec 32 := Scalar.addi c0_i32_708 v1055
  v1056.toNat
def k0_dev36 (d0 : Dev nD) : Nat :=
  let c0_i32_713 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_712 : BitVec 32 := 1#32
  let v1063 : BitVec 32 := Scalar.muli v3 c1_i32_712
  let v1064 : BitVec 32 := Scalar.addi c0_i32_713 v1063
  v1064.toNat
def k0_dev37 (d0 : Dev nD) : Nat :=
  let c0_i32_738 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_737 : BitVec 32 := 1#32
  let v1091 : BitVec 32 := Scalar.muli v5 c1_i32_737
  let v1092 : BitVec 32 := Scalar.addi c0_i32_738 v1091
  v1092.toNat
def k0_dev38 (d0 : Dev nD) : Nat :=
  let c0_i32_763 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_762 : BitVec 32 := 1#32
  let v1119 : BitVec 32 := Scalar.muli v4 c1_i32_762
  let v1120 : BitVec 32 := Scalar.addi c0_i32_763 v1119
  v1120.toNat
def k0_dev39 (d0 : Dev nD) : Nat :=
  let c0_i32_788 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_787 : BitVec 32 := 1#32
  let v1147 : BitVec 32 := Scalar.muli v3 c1_i32_787
  let v1148 : BitVec 32 := Scalar.addi c0_i32_788 v1147
  v1148.toNat
def k0_dev40 (d0 : Dev nD) : Nat :=
  let c0_i32_813 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_812 : BitVec 32 := 1#32
  let v1175 : BitVec 32 := Scalar.muli v5 c1_i32_812
  let v1176 : BitVec 32 := Scalar.addi c0_i32_813 v1175
  v1176.toNat
def k0_dev41 (d0 : Dev nD) : Nat :=
  let c0_i32_838 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_837 : BitVec 32 := 1#32
  let v1203 : BitVec 32 := Scalar.muli v4 c1_i32_837
  let v1204 : BitVec 32 := Scalar.addi c0_i32_838 v1203
  v1204.toNat
def k0_dev42 (d0 : Dev nD) : Nat :=
  let c0_i32_863 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_862 : BitVec 32 := 1#32
  let v1231 : BitVec 32 := Scalar.muli v3 c1_i32_862
  let v1232 : BitVec 32 := Scalar.addi c0_i32_863 v1231
  v1232.toNat
-- ==== ReferenceIdeal.lean ====
abbrev S32768x1024 : Shape := ⟨2, ![32768, 1024]⟩
abbrev S8x4096x1024 : Shape := ⟨3, ![8, 4096, 1024]⟩
abbrev S_ : Shape := ⟨0, ![]⟩
abbrev S4096x1024 : Shape := ⟨2, ![4096, 1024]⟩

abbrev nBuf : Space → Nat
  | .hbm => 14
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x4096x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Proof.Geometry.lean ====
/-
# The cube of eight devices and the rows they own

Device `c` sits on a cube: its three bits are named `x`, `y` and `z`, and a link runs along each
axis. The 4096 rows of the sum are cut in three streams, each of eight chunks; a stream visits the
axes in its own order, and a device owns the chunk of a stream whose number its bits spell in that
order. This file holds the arithmetic and the closed forms of the kernel's offsets and devices.
-/
module

public import proofs.«01_k».proof.Proof.Gen.KernelIdeal
public import proofs.«01_k».proof.Proof.Gen.KernelIdeal.Skeleton

@[expose] public section

noncomputable section

namespace Cert.KernelIdeal.Sum

open Cert.KernelIdeal Cert.KernelIdeal.Gen
open Idealize.ShloMosaic

/-- The bit of a device along the x link. -/
def bx (c : ℕ) : ℕ := (c ^^^ (c / 2)) % 2
/-- The bit of a device along the y link. -/
def yy (c : ℕ) : ℕ := c / 2 % 2
/-- The bit of a device along the z link. -/
def bz (c : ℕ) : ℕ := c / 4

/-- The chunk of stream `s` that device `c` owns. -/
def own (s : ℕ) (c : Dev nD) : ℕ :=
  match s with
  | 0 => 4 * bz c.val + 2 * yy c.val + bx c.val
  | 1 => 4 * yy c.val + 2 * bx c.val + bz c.val
  | _ => 4 * bx c.val + 2 * bz c.val + yy c.val

/-- The neighbour of `c` across one link: 0 is x, 1 is y, 2 is z. -/
def nbr (a : ℕ) (c : Dev nD) : Dev nD :=
  match a with
  | 0 => ⟨(c.val ^^^ 1) % 8, Nat.mod_lt _ (by decide)⟩
  | 1 => ⟨(c.val ^^^ 3) % 8, Nat.mod_lt _ (by decide)⟩
  | _ => ⟨(c.val ^^^ 4) % 8, Nat.mod_lt _ (by decide)⟩

/-- The link that stream `s` uses at level `l` of its recursive halving. -/
def axis (s l : ℕ) : ℕ :=
  match s, l with
  | 0, 0 => 2 | 0, 1 => 1 | 0, _ => 0
  | 1, 0 => 1 | 1, 1 => 0 | 1, _ => 2
  | _, 0 => 0 | _, 1 => 2 | _, _ => 1

/-- The device that `c` exchanges with in stream `s` at level `l`. -/
def part (s l : ℕ) (c : Dev nD) : Dev nD := nbr (axis s l) c

/-- The rows of one chunk of stream `s`. -/
def ch (s : ℕ) : ℕ := match s with | 0 => 176 | 1 => 176 | _ => 160
/-- The first row of stream `s`. -/
def base (s : ℕ) : ℕ := match s with | 0 => 0 | 1 => 1408 | _ => 2816

/-- The first row of the chunk whose number differs from `c`'s own by the bits of `j`. -/
def crow (s : ℕ) (c : Dev nD) (j : ℕ) : ℕ := base s + (own s c ^^^ j) * ch s
/-- The first row of the pair of chunks that holds chunk `own ^^^ j`. -/
def prow (s : ℕ) (c : Dev nD) (j : ℕ) : ℕ := base s + (own s c ^^^ j) / 2 * 2 * ch s
/-- The first row of the half of the stream that holds chunk `own ^^^ j`. -/
def hrow (s : ℕ) (c : Dev nD) (j : ℕ) : ℕ := base s + (own s c ^^^ j) / 4 * 4 * ch s

/-- The first row of the part of the stream that `c` keeps once level `l` is done: what row 0 of
    its landing buffer of that level stands for. -/
def keep (s l : ℕ) (c : Dev nD) : ℕ :=
  match l with
  | 0 => hrow s c 0
  | 1 => prow s c 0
  | _ => crow s c 0

theorem nbr_nbr (a : ℕ) (c : Dev nD) : nbr a (nbr a c) = c := by
  match a with
  | 0 => revert c; decide
  | 1 => revert c; decide
  | _ + 2 => show nbr 2 (nbr 2 c) = c; revert c; decide

theorem part_part (s l : ℕ) (c : Dev nD) : part s l (part s l c) = c := nbr_nbr _ c

/-- The device that owns chunk `t` of stream `s`. -/
def owner (s t : ℕ) : Dev nD := ((List.finRange 8).find? fun d => own s d == t).getD 0

theorem owner_own {s : ℕ} (hs : s < 3) (c : Dev nD) : owner s (own s c) = c := by
  rcases (by omega : s = 0 ∨ s = 1 ∨ s = 2) with rfl | rfl | rfl <;> (revert c; decide)

theorem own_lt {s : ℕ} (hs : s < 3) (c : Dev nD) : own s c < 8 := by
  rcases (by omega : s = 0 ∨ s = 1 ∨ s = 2) with rfl | rfl | rfl <;> (revert c; decide)

end Cert.KernelIdeal.Sum
-- ==== Proof.Regions.lean ====
/-
# Rows of a buffer

The kernel moves whole rows of arrays of 1024 columns. `At` says that a device holds a range of rows
of such an array, at a share, with given contents; this file splits and joins such ranges and reads
and writes through rectangles of whole rows.
-/
module

public import proofs.«01_k».proof.Proof.Geometry
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

/-- The resources of the pipeline library and of the rounds library, side by side. -/
abbrev UU : Type := UR sig nD τ × URounds (GSem nD τ sig) (Fin 3)

local notation "𝕄" => MT nD τ sig Unit (Elt F) ℕ UU ℕ

/-- An array of `R` rows of 1024 columns. -/
abbrev Sh (R : ℕ) : Shape := ⟨2, ![R, 1024]⟩

/-- The indices of `n` rows from row `lo` on. -/
def rows (R lo n : ℕ) : Finset (Sh R).Idx :=
  Finset.univ.filter fun i => lo ≤ (i (0 : Fin 2)).val ∧ (i (0 : Fin 2)).val < lo + n

theorem mem_rows {R lo n : ℕ} {i : (Sh R).Idx} :
    i ∈ rows R lo n ↔ lo ≤ (i (0 : Fin 2)).val ∧ (i (0 : Fin 2)).val < lo + n := by
  simp [rows]

/-- Adjacent ranges of rows are disjoint and make up the longer range. -/
theorem rows_disjoint (R lo n₁ n₂ : ℕ) : Disjoint (rows R lo n₁) (rows R (lo + n₁) n₂) := by
  rw [Finset.disjoint_left]; intro i h h'; rw [mem_rows] at h h'; omega

theorem rows_union (R lo n₁ n₂ : ℕ) : rows R lo n₁ ∪ rows R (lo + n₁) n₂ = rows R lo (n₁ + n₂) := by
  ext i; rw [Finset.mem_union, mem_rows, mem_rows, mem_rows]; omega

theorem rows_all (R : ℕ) : rows R 0 R = Finset.univ := by
  ext i; rw [mem_rows]; simpa using (i (0 : Fin 2)).isLt

/-- A rectangle of whole rows is the range of its rows. -/
theorem rect_rows {R n lo : ℕ} {off : Fin 2 → ℕ} {size : Fin 2 → ℕ} {inb : ∀ a, off a + size a ≤ (Sh R).size a}
    (ho : off = ![lo, 0]) (hs : size = ![n, 1024]) : (Rect.unit (s := Sh R) off size inb).set = rows R lo n := by
  subst ho; subst hs
  ext i
  rw [Rect.mem_set_unit, mem_rows]
  constructor
  · intro h; exact h (0 : Fin 2)
  · intro h a
    match a with
    | ⟨0, _⟩ => exact h
    | ⟨1, _⟩ => exact ⟨Nat.zero_le _, by simpa using (i (1 : Fin 2)).isLt⟩

section
variable {sp : Space} {e : EltTy}

/-- Device `c` holds, at share `q`, the `n` rows from row `lo` on of the array that `M` names, and
    they read as `G` there. -/
def At {R : ℕ} (M : Memref sig .tc sp (Sh R) e) (c : Dev nD) (lo n : ℕ) (q : PosShare TreeShare)
    (G : (Sh R).Idx → Elt F e) : sProp 𝕄 :=
  iprop(∃ f : Buf (Elt F) (M.view.loc (c : Thread nD τ)),
    ⌜∀ i ∈ rows R lo n, M.view.read (Elt F) f i = G i⌝
      ∗ (M.view.loc (c : Thread nD τ) ↦[M.view.setOn (rows R lo n)]{q} f))

/-- The same rows at full share with contents of no interest. -/
def Any {R : ℕ} (M : Memref sig .tc sp (Sh R) e) (c : Dev nD) (lo n : ℕ) : sProp 𝕄 :=
  iprop(∃ G, At (F := F) M c lo n fullShare G)

variable {R : ℕ} {M : Memref sig .tc sp (Sh R) e} {c : Dev nD}

omit [FloatOps F] in
instance At_storable (lo n : ℕ) (q : PosShare TreeShare) (G : (Sh R).Idx → Elt F e) :
    BI.Storable (upEmb : UEmb _ 𝕄) (At (F := F) M c lo n q G) := by unfold At; infer_instance

omit [FloatOps F] in
instance Any_storable (lo n : ℕ) : BI.Storable (upEmb : UEmb _ 𝕄) (Any (F := F) M c lo n) := by
  unfold Any; infer_instance

omit [FloatOps F] in
theorem At_any {lo n : ℕ} {G : (Sh R).Idx → Elt F e} :
    At (F := F) M c lo n fullShare G ⊢ Any (F := F) M c lo n := by
  unfold Any; iintro H; iexists G; iexact H

omit [FloatOps F] in
theorem At_congr {lo n : ℕ} {q : PosShare TreeShare} {G G' : (Sh R).Idx → Elt F e}
    (h : ∀ i ∈ rows R lo n, G i = G' i) : At (F := F) M c lo n q G ⊢ At (F := F) M c lo n q G' := by
  unfold At
  iintro ⟨%f, %hf, H⟩
  iexists f
  isplitr
  · ipureintro; intro i hi; rw [hf i hi, h i hi]
  · iexact H

omit [FloatOps F] in
theorem setOn_rows_disjoint (lo n₁ n₂ : ℕ) :
    Disjoint (M.view.setOn (rows R lo n₁)) (M.view.setOn (rows R (lo + n₁) n₂)) := by
  unfold View.setOn; exact (Finset.disjoint_map _).mpr (rows_disjoint R lo n₁ n₂)

omit [FloatOps F] in
theorem setOn_rows_union (lo n₁ n₂ : ℕ) :
    M.view.setOn (rows R lo n₁) ∪ M.view.setOn (rows R (lo + n₁) n₂) = M.view.setOn (rows R lo (n₁ + n₂)) := by
  unfold View.setOn; rw [← Finset.map_union, rows_union]

omit [FloatOps F] in
/-- A range of rows splits in two adjacent ranges. -/
theorem At_split {lo n₁ n₂ : ℕ} {q : PosShare TreeShare} {G : (Sh R).Idx → Elt F e} :
    At (F := F) M c lo (n₁ + n₂) q G ⊢ iprop(At M c lo n₁ q G ∗ At M c (lo + n₁) n₂ q G) := by
  unfold At
  iintro ⟨%f, %hf, H⟩
  rw [← setOn_rows_union]
  ihave H := (pointsTo_union (setOn_rows_disjoint lo n₁ n₂)).1 $$ H
  icases H with ⟨H1, H2⟩
  isplitl [H1]
  · iexists f
    isplitr
    · ipureintro; intro i hi; exact hf i (by rw [← rows_union]; exact Finset.mem_union_left _ hi)
    · iexact H1
  · iexists f
    isplitr
    · ipureintro; intro i hi; exact hf i (by rw [← rows_union]; exact Finset.mem_union_right _ hi)
    · iexact H2

omit [FloatOps F] in
theorem read_piecewise {lo n₁ n₂ : ℕ} {G : (Sh R).Idx → Elt F e} {f g : Buf (Elt F) (M.view.loc (c : Thread nD τ))}
    (hf : ∀ i ∈ rows R lo n₁, M.view.read (Elt F) f i = G i)
    (hg : ∀ i ∈ rows R (lo + n₁) n₂, M.view.read (Elt F) g i = G i) :
    ∀ i ∈ rows R lo (n₁ + n₂),
      M.view.read (Elt F) ((M.view.setOn (rows R (lo + n₁) n₂)).piecewise g f) i = G i := by
  intro i hi
  by_cases h : i ∈ rows R (lo + n₁) n₂
  · rw [← hg i h, View.read_apply, View.read_apply, Finset.piecewise_eq_of_mem _ _ _ (M.view.mem_setOn.mpr h)]
  · have h' : i ∈ rows R lo n₁ := by
      rw [← rows_union, Finset.mem_union] at hi; exact hi.resolve_right h
    rw [← hf i h', View.read_apply, View.read_apply,
      Finset.piecewise_eq_of_notMem _ _ _ (fun hh => h (M.view.mem_setOn.mp hh))]

omit [FloatOps F] in
/-- Two adjacent ranges of the same contents join. -/
theorem At_join {lo n₁ n₂ : ℕ} {q : PosShare TreeShare} {G : (Sh R).Idx → Elt F e} :
    iprop(At (F := F) M c lo n₁ q G ∗ At M c (lo + n₁) n₂ q G) ⊢ At M c lo (n₁ + n₂) q G := by
  unfold At
  iintro ⟨⟨%f, %hf, H1⟩, ⟨%g, %hg, H2⟩⟩
  ihave H := (pointsTo_join (f := f) (g := g) (q := q) (setOn_rows_disjoint (M := M) lo n₁ n₂)) $$ [H1 H2]
  · isplitl [H1] <;> iassumption
  rw [setOn_rows_union]
  iexists _
  isplitr
  rotate_left
  · iexact H
  · ipureintro; exact read_piecewise hf hg

omit [FloatOps F] in
/-- Two adjacent ranges join, whatever they hold. -/
theorem Any_join {lo n₁ n₂ : ℕ} :
    iprop(Any (F := F) M c lo n₁ ∗ Any (F := F) M c (lo + n₁) n₂) ⊢ Any (F := F) M c lo (n₁ + n₂) := by
  unfold Any
  iintro ⟨⟨%G, H1⟩, ⟨%G', H2⟩⟩
  iexists (rows R (lo + n₁) n₂).piecewise G' G
  iapply At_join
  isplitl [H1]
  · iapply (At_congr (G := G)) $$ H1
    intro i hi
    rw [Finset.piecewise_eq_of_notMem]
    exact Finset.disjoint_left.mp (rows_disjoint R lo n₁ n₂) hi
  · iapply (At_congr (G := G')) $$ H2
    intro i hi
    rw [Finset.piecewise_eq_of_mem _ _ _ hi]

omit [FloatOps F] in
/-- Two adjacent ranges split, whatever they hold. -/
theorem Any_split {lo n₁ n₂ : ℕ} :
    Any (F := F) M c lo (n₁ + n₂) ⊢ iprop(Any (F := F) M c lo n₁ ∗ Any (F := F) M c (lo + n₁) n₂) := by
  unfold Any
  iintro ⟨%G, H⟩
  ihave H := At_split $$ H
  icases H with ⟨H1, H2⟩
  isplitl [H1]
  · iexists G; iexact H1
  · iexists G; iexact H2

omit [FloatOps F] in
/-- A share of a range splits. -/
theorem At_share {lo n : ℕ} {q q₁ q₂ : PosShare TreeShare} (h : q ∈ q₁ ·? q₂) {G : (Sh R).Idx → Elt F e} :
    At (F := F) M c lo n q G ⊢ iprop(At M c lo n q₁ G ∗ At M c lo n q₂ G) := by
  unfold At
  iintro ⟨%f, %hf, H⟩
  ihave H := (pointsTo_share h).1 $$ H
  icases H with ⟨H1, H2⟩
  isplitl [H1]
  · iexists f
    isplitr
    · ipureintro; exact hf
    · iexact H1
  · iexists f
    isplitr
    · ipureintro; exact hf
    · iexact H2

omit [FloatOps F] in
/-- Two shares of a range with the same contents join. -/
theorem At_unshare {lo n : ℕ} {q q₁ q₂ : PosShare TreeShare} (h : q ∈ q₁ ·? q₂) {G : (Sh R).Idx → Elt F e} :
    iprop(At (F := F) M c lo n q₁ G ∗ At M c lo n q₂ G) ⊢ At M c lo n q G := by
  unfold At
  iintro ⟨⟨%f, %hf, H1⟩, ⟨%g, %hg, H2⟩⟩
  iexists f
  isplitr
  · ipureintro; exact hf
  · iapply (pointsTo_share h).2
    isplitl [H1]
    · iexact H1
    · rw [pointsTo_congr (f := f) (g := g) (fun j hj => ?_)]
      · iexact H2
      · obtain ⟨i, hi, rfl⟩ := Finset.mem_map.mp hj
        have hfg := (hf i hi).trans (hg i hi).symm
        rw [View.read_apply, View.read_apply] at hfg
        exact (cast_inj _).mp hfg

/-! ## Rectangles of whole rows -/

variable {lo n : ℕ} {off size : Fin 2 → ℕ} {inb : ∀ a, off a + size a ≤ (Sh R).size a}
  {hu : ∀ a, (Rect.unit (s := Sh R) off size inb).stride a = 1}

omit [FloatOps F] in
theorem slice_set (ho : off = ![lo, 0]) (hs : size = ![n, 1024]) :
    (M.slice (Rect.unit (s := Sh R) off size inb) hu).view.set = M.view.setOn (rows R lo n) := by
  show (M.view.slice (Rect.unit (s := Sh R) off size inb)).set = _
  rw [View.set_slice, rect_rows ho hs]; rfl

omit [FloatOps F] in
/-- A range of rows, seen through the rectangle of those rows. -/
theorem At_slice (ho : off = ![lo, 0]) (hs : size = ![n, 1024]) {q : PosShare TreeShare} {G : (Sh R).Idx → Elt F e} :
    At (F := F) M c lo n q G ⊢ iprop(∃ f : Buf (Elt F) ((M.slice (Rect.unit (s := Sh R) off size inb) hu).view.loc (c : Thread nD τ)),
      ⌜∀ x, (M.slice (Rect.unit (s := Sh R) off size inb) hu).view.read (Elt F) f x = G ((Rect.unit (s := Sh R) off size inb).emb x)⌝
        ∗ ((M.slice (Rect.unit (s := Sh R) off size inb) hu).view.loc (c : Thread nD τ)
            ↦[(M.slice (Rect.unit (s := Sh R) off size inb) hu).view.set]{q} f)) := by
  rw [slice_set ho hs]
  unfold At
  iintro ⟨%f, %hf, H⟩
  iexists f
  isplitr
  · ipureintro
    intro x
    exact hf _ (by rw [← rect_rows ho hs (inb := inb), ← Rect.map_emb_univ]; exact Finset.mem_map_of_mem _ (Finset.mem_univ x))
  · iexact H

omit [FloatOps F] in
/-- A rectangle of whole rows whose elements read as `G` is that range of rows. -/
theorem slice_At (ho : off = ![lo, 0]) (hs : size = ![n, 1024]) {q : PosShare TreeShare} {G : (Sh R).Idx → Elt F e}
    {f : Buf (Elt F) ((M.slice (Rect.unit (s := Sh R) off size inb) hu).view.loc (c : Thread nD τ))}
    (hf : ∀ x, (M.slice (Rect.unit (s := Sh R) off size inb) hu).view.read (Elt F) f x = G ((Rect.unit (s := Sh R) off size inb).emb x)) :
    ((M.slice (Rect.unit (s := Sh R) off size inb) hu).view.loc (c : Thread nD τ)
        ↦[(M.slice (Rect.unit (s := Sh R) off size inb) hu).view.set]{q} f) ⊢ At (F := F) M c lo n q G := by
  rw [slice_set ho hs]
  unfold At
  iintro H
  iexists f
  isplitr
  · ipureintro
    intro i hi
    rw [← rect_rows ho hs (inb := inb), ← Rect.map_emb_univ] at hi
    obtain ⟨x, -, rfl⟩ := Finset.mem_map.mp hi
    exact hf x
  · iexact H

omit [FloatOps F] in
/-- A rectangle of whole rows once written holds what was written. -/
theorem written_At (ho : off = ![lo, 0]) (hs : size = ![n, 1024]) {G : (Sh R).Idx → Elt F e}
    {f : Buf (Elt F) ((M.slice (Rect.unit (s := Sh R) off size inb) hu).view.loc (c : Thread nD τ))}
    {w : (Rect.unit (s := Sh R) off size inb).shape.Idx → Elt F e}
    (hw : ∀ x, w x = G ((Rect.unit (s := Sh R) off size inb).emb x)) :
    ((M.slice (Rect.unit (s := Sh R) off size inb) hu).view.loc (c : Thread nD τ)
        ↦[(M.slice (Rect.unit (s := Sh R) off size inb) hu).view.set]{fullShare}
          ((M.slice (Rect.unit (s := Sh R) off size inb) hu).view.write (Elt F) f w Finset.univ))
      ⊢ At (F := F) M c lo n fullShare G := by
  refine slice_At ho hs fun x => ?_
  rw [View.read_apply, View.write_emb_of_mem _ _ (Finset.mem_univ x), cast_cast, cast_eq, hw]

omit [FloatOps F] in
/-- A range of rows, seen through the rectangle of those rows, whatever it holds. -/
theorem Any_slice (ho : off = ![lo, 0]) (hs : size = ![n, 1024]) :
    Any (F := F) M c lo n ⊢ iprop(∃ f : Buf (Elt F) ((M.slice (Rect.unit (s := Sh R) off size inb) hu).view.loc (c : Thread nD τ)),
      ((M.slice (Rect.unit (s := Sh R) off size inb) hu).view.loc (c : Thread nD τ)
            ↦[(M.slice (Rect.unit (s := Sh R) off size inb) hu).view.set]{fullShare} f)) := by
  unfold Any
  iintro ⟨%G, H⟩
  ihave H := (At_slice (inb := inb) (hu := hu) ho hs) $$ H
  icases H with ⟨%f, -, H⟩
  iexists f
  iexact H

omit [FloatOps F] in
/-- A whole array is all its rows. -/
theorem At_whole {f : Buf (Elt F) (M.view.loc (c : Thread nD τ))} {q : PosShare TreeShare} (hM : M.IsWhole) :
    (M.view.loc (c : Thread nD τ) ↦{q} f) ⊢ At (F := F) M c 0 R q (M.view.read (Elt F) f) := by
  unfold At
  iintro H
  iexists f
  isplitr
  · ipureintro; intro i _; rfl
  · rw [rows_all]
    have h : M.view.setOn Finset.univ = Finset.univ := hM.set_eq_univ
    rw [h]; iexact H

omit [FloatOps F] in
theorem whole_At {q : PosShare TreeShare} {G : (Sh R).Idx → Elt F e} (hM : M.IsWhole) :
    At (F := F) M c 0 R q G ⊢ iprop(∃ f : Buf (Elt F) (M.view.loc (c : Thread nD τ)), ⌜∀ i, M.view.read (Elt F) f i = G i⌝
      ∗ (M.view.loc (c : Thread nD τ) ↦{q} f)) := by
  unfold At
  rw [rows_all]
  have h : M.view.setOn Finset.univ = Finset.univ := hM.set_eq_univ
  rw [h]
  iintro ⟨%f, %hf, H⟩
  iexists f
  isplitr
  · ipureintro; intro i; exact hf i (Finset.mem_univ i)
  · iexact H

/-! ## Loads and stores of whole rows -/

/-- The kernel uses no named variants. -/
abbrev 𝒱₀ : Variants := Variants.none

/-- The weakest precondition of a program run by device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section
variable {cs : CoreSpace} {M : Memref sig .tc cs (Sh R) e} {α : Type} {lo' n' : ℕ} {off' size' : Fin 2 → ℕ}
  {inb' : ∀ a, off' a + size' a ≤ (Sh R).size a}

omit [FloatOps F] in
theorem access_set (ho : off' = ![lo', 0]) (hs : size' = ![n', 1024]) (h₁ : lo ≤ lo') (h₂ : lo' + n' ≤ lo + n) :
    (M.access (Rect.unit (s := Sh R) off' size' inb')).set ⊆ M.view.setOn (rows R lo n) := by
  show (M.view.slice (Rect.unit (s := Sh R) off' size' inb')).set ⊆ _
  rw [View.set_slice, rect_rows ho hs]
  exact Finset.map_subset_map.mpr fun i hi => by rw [mem_rows] at hi ⊢; omega

omit [FloatOps F] in
theorem access_read {f : Buf (Elt F) (M.view.loc (c : Thread nD τ))} {G : (Sh R).Idx → Elt F e}
    (ho : off' = ![lo', 0]) (hs : size' = ![n', 1024]) (h₁ : lo ≤ lo') (h₂ : lo' + n' ≤ lo + n)
    (hf : ∀ i ∈ rows R lo n, M.view.read (Elt F) f i = G i) :
    (M.access (Rect.unit (s := Sh R) off' size' inb')).read (Elt F) f
      = fun x => G ((Rect.unit (s := Sh R) off' size' inb').emb x) := by
  funext x
  have hx : (Rect.unit (s := Sh R) off' size' inb').emb x ∈ rows R lo' n' := by
    rw [← rect_rows ho hs (inb := inb'), ← Rect.map_emb_univ]; exact Finset.mem_map_of_mem _ (Finset.mem_univ x)
  have hx' : (Rect.unit (s := Sh R) off' size' inb').emb x ∈ rows R lo n := by
    rw [mem_rows] at hx ⊢; omega
  exact hf _ hx'

/-- A load of whole rows from a held range reads the contents there. -/
theorem wp_load_rows {hl : M.view.LoadsAt (Rect.unit (s := Sh R) off' size' inb').toLoadRect}
    {k : ((Rect.unit (s := Sh R) off' size' inb').shape.Idx → Elt F e) → Prog (TpuEff nD τ sig (Elt F) Λ₀ .tc) α}
    {q : PosShare TreeShare} {G : (Sh R).Idx → Elt F e} {Q : α → sProp 𝕄}
    (ho : off' = ![lo', 0]) (hs : size' = ![n', 1024]) (h₁ : lo ≤ lo') (h₂ : lo' + n' ≤ lo + n) :
    At (F := F) M c lo n q G
      ⊢ iprop((At (F := F) M c lo n q G -∗ WP c (k fun x => G ((Rect.unit (s := Sh R) off' size' inb').emb x)) Q)
        -∗ WP c (.op (.load M (Rect.unit (s := Sh R) off' size' inb').toLoadRect hl) k) Q) := by
  unfold At
  iintro ⟨%f, %hf, H⟩ Hk
  have hv := access_read (c := c) (M := M) (inb' := inb') (f := f) (G := G) ho hs h₁ h₂ hf
  iapply (wp_load_rect 𝒱₀ (c : Thread nD τ) none Set.univ (m := M) (r := Rect.unit (s := Sh R) off' size' inb') (f := f) (access_set (M := M) ho hs h₁ h₂)) $$ H
  iintro H
  rw [hv]
  iapply Hk
  iexists f
  isplitr
  · ipureintro; exact hf
  · iexact H

/-- A store over a whole held range of rows leaves there what was stored. -/
theorem wp_store_rows {w : (Rect.unit (s := Sh R) off' size' inb').shape.Idx → Elt F e}
    {hx : (M.access (Rect.unit (s := Sh R) off' size' inb')).Stores Finset.univ} {hm : (Finset.univ : Finset (Rect.unit (s := Sh R) off' size' inb').shape.Idx) = Finset.univ ∨ ∀ a, (Rect.unit (s := Sh R) off' size' inb').stride a = 1}
    {k : PUnit → Prog (TpuEff nD τ sig (Elt F) Λ₀ .tc) α} (G : (Sh R).Idx → Elt F e) {Q : α → sProp 𝕄}
    (ho : off' = ![lo, 0]) (hs : size' = ![n, 1024]) (hw : ∀ x, w x = G ((Rect.unit (s := Sh R) off' size' inb').emb x)) :
    Any (F := F) M c lo n
      ⊢ iprop((At (F := F) M c lo n fullShare G -∗ WP c (k ⟨⟩) Q)
        -∗ WP c (.op (.store M (Rect.unit (s := Sh R) off' size' inb') w Finset.univ hx hm) k) Q) := by
  iintro H Hk
  ihave H := (Any_slice (inb := inb') (hu := fun _ => rfl) ho hs) $$ H
  icases H with ⟨%f, H⟩
  iapply (wp_store 𝒱₀ (c : Thread nD τ) none Set.univ (m := M) (r := Rect.unit (s := Sh R) off' size' inb') (Mk := Finset.univ)
    (View.setOn_subset_set _ _)) $$ H
  iintro H
  iapply Hk
  iapply (written_At (M := M) (inb := inb') (hu := fun _ => rfl) ho hs hw) $$ H

end

end

end Cert.KernelIdeal.Sum
-- ==== Proof.Contents.lean ====
/-
# What the rows hold

Every device starts from its own block `X c`. The halving adds, level by level, what the partner of
that level holds; after three levels the owner of a chunk has the sum over all eight devices, in the
order of its stream, and applies the nonlinearity. All of it is pointwise, so each stage is written
once for the whole array; a device uses of each stage only the rows it has.
-/
module

public import proofs.«01_k».proof.Proof.Regions

@[expose] public section

noncomputable section

namespace Cert.KernelIdeal.Sum

open Cert.KernelIdeal Cert.KernelIdeal.Gen
open Idealize.ShloMosaic
open Idealize.ShloMosaic.TcCoe

variable {F : FTy → Type} [FloatOps F]

/-- The nonlinearity that follows the sum: `tanh x * x * x + max x 0 ^ 3`, rounded. -/
def fin {S : Shape} (v : FVec F S .f32) : FVec F S .bf16 :=
  have r : FVec F S .f32 := maximumf v (broadcast S (Scalar.ofBits .f32 0x00000000#32 : F .f32))
  truncf .bf16 (addf (mulf (mulf (tanh v) v) v) (mulf (mulf r r) r)) bitsLt_bf16_f32

/-- One step of the sum on rounded numbers: widen, add, round. -/
def plus {S : Shape} (a b : FVec F S .bf16) : FVec F S .bf16 :=
  truncf .bf16 (addf (extf .f32 a bitsLt_bf16_f32) (extf .f32 b bitsLt_bf16_f32)) bitsLt_bf16_f32

/-- The first step of the sum, whose own summand is not yet rounded. -/
def plus₁ {S : Shape} (a : FVec F S .f32) (b : FVec F S .bf16) : FVec F S .bf16 :=
  truncf .bf16 (addf a (extf .f32 b bitsLt_bf16_f32)) bitsLt_bf16_f32

variable (X : Dev nD → FVec F (Sh 4096) .f32)

/-- A device's own block, rounded: what it sends at level 0. -/
def V0 (c : Dev nD) : FVec F (Sh 4096) .bf16 := truncf .bf16 (X c) bitsLt_bf16_f32
/-- The sum over two devices: after level 0. -/
def V1 (s : ℕ) (c : Dev nD) : FVec F (Sh 4096) .bf16 := plus₁ (X c) (V0 X (part s 0 c))
/-- The sum over four devices: after level 1. -/
def V2 (s : ℕ) (c : Dev nD) : FVec F (Sh 4096) .bf16 := plus (V1 X s c) (V1 X s (part s 1 c))
/-- The sum over all devices with the nonlinearity: after level 2. -/
def VF (s : ℕ) (c : Dev nD) : FVec F (Sh 4096) .bf16 :=
  fin (addf (extf .f32 (V2 X s c) bitsLt_bf16_f32) (extf .f32 (V2 X s (part s 2 c)) bitsLt_bf16_f32))

/-- The stream of a row. -/
def streamOf (r : ℕ) : ℕ := if r < 1408 then 0 else if r < 2816 then 1 else 2
/-- The device that owns a row. -/
def ownerOf (r : ℕ) : Dev nD := owner (streamOf r) ((r - base (streamOf r)) / ch (streamOf r))

/-- The result, the same on every device: each row as its owner computes it. -/
def OUT : FVec F (Sh 4096) .bf16 :=
  fun i => VF X (streamOf (i (0 : Fin 2)).val) (ownerOf (i (0 : Fin 2)).val) i

theorem ownerOf_own {s : ℕ} (hs : s < 3) (c : Dev nD) {r : ℕ} (h : crow s c 0 ≤ r) (h' : r < crow s c 0 + ch s) :
    streamOf r = s ∧ ownerOf r = c := by
  have ho := owner_own hs c
  have hl := own_lt hs c
  unfold crow at h h'
  rw [Nat.xor_zero] at h h'
  generalize hn : own s c = n at *
  have hst : streamOf r = s := by
    unfold streamOf
    rcases (by omega : s = 0 ∨ s = 1 ∨ s = 2) with rfl | rfl | rfl <;> simp only [base, ch] at h h' <;> split_ifs <;> omega
  refine ⟨hst, ?_⟩
  unfold ownerOf
  rw [hst, ← ho]
  congr 1
  rcases (by omega : s = 0 ∨ s = 1 ∨ s = 2) with rfl | rfl | rfl <;> simp only [base, ch] at h h' ⊢ <;> omega

/-- What the owner of a chunk computes there is the result. -/
theorem VF_eq_OUT {s : ℕ} (hs : s < 3) (c : Dev nD) : ∀ i ∈ rows 4096 (crow s c 0) (ch s), VF X s c i = OUT X i := by
  intro i hi
  rw [mem_rows] at hi
  obtain ⟨h, h'⟩ := ownerOf_own hs c hi.1 hi.2
  unfold OUT
  rw [h, h']

/-- An array whose row 0 stands for row `sh` of another. -/
def shiftRows {α : Type} (R sh : ℕ) (g : (Sh 4096).Idx → α) : (Sh R).Idx → α := fun i =>
  g (Fin.cons (⟨((i (0 : Fin 2)).val + sh) % 4096, Nat.mod_lt _ (by decide)⟩ : Fin 4096)
    (Fin.cons (i (1 : Fin 2) : Fin 1024) (fun k => k.elim0)))

theorem shiftRows_emb {α : Type} {R sh lo lo' : ℕ} {g : (Sh 4096).Idx → α} {off off' size : Fin 2 → ℕ}
    {inb : ∀ a, off a + size a ≤ (Sh 4096).size a} {inb' : ∀ a, off' a + size a ≤ (Sh R).size a}
    (ho : off = ![lo, 0]) (ho' : off' = ![lo', 0]) (h : lo' + sh = lo) :
    ∀ x, shiftRows R sh g ((Rect.unit (s := Sh R) off' size inb').emb x) = g ((Rect.unit (s := Sh 4096) off size inb).emb x) := by
  subst ho; subst ho'; subst h
  intro x
  unfold shiftRows
  congr 1
  have h0 := ((Rect.unit (s := Sh 4096) ![lo' + sh, 0] size inb).emb x (0 : Fin 2)).isLt
  funext a
  match a with
  | ⟨0, _⟩ =>
    refine Fin.ext ?_
    have h1 : ((Rect.unit (s := Sh 4096) ![lo' + sh, 0] size inb).emb x (0 : Fin 2)).val = lo' + sh + 1 * (x (0 : Fin 2)).val := rfl
    have h2 : ((Rect.unit (s := Sh R) ![lo', 0] size inb').emb x (0 : Fin 2)).val = lo' + 1 * (x (0 : Fin 2)).val := rfl
    show (((Rect.unit (s := Sh R) ![lo', 0] size inb').emb x (0 : Fin 2)).val + sh) % 4096
      = ((Rect.unit (s := Sh 4096) ![lo' + sh, 0] size inb).emb x (0 : Fin 2)).val
    have h0' : ((Rect.unit (s := Sh 4096) ![lo' + sh, 0] size inb).emb x (0 : Fin 2)).val < 4096 := h0
    omega
  | ⟨1, _⟩ => rfl

end Cert.KernelIdeal.Sum
-- ==== Proof.Schedule.lean ====
/-
# The protocol

One round of every semaphore the kernel uses. Device `c` has 39 send cells and 39 receive cells, one
pair per remote copy (stream `s`, copy `k` of the stream, number `13 s + k`), 9 cells for the copies
in and 24 for the copies out, and the barrier.

* The barrier: each of the three neighbours signals once and hands over the three landing buffers
  that the waiting device will write on that neighbour.
* Copies 0 to 5 of a stream move a part of the accumulator into a landing buffer of the partner. The
  receiver gets the landed rows and, with them, the rows of the SENDER's accumulator they came from:
  the sender is done with those until their final value is sent back.
* Copies 6 to 12 move a finished chunk into those same rows of the partner's accumulator. The
  receiver gets the landed chunk, and the sender its share of the source back.
* Copies in and out give back source and destination.
-/
module

public import proofs.«01_k».proof.Proof.Contents

@[expose] public section

noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

/-- The rounds library's resources in the kernel's. -/
abbrev ER : Emb (URounds (GSem nD τ sig) (Fin 3)) (MT nD τ sig Unit (Elt F) ℕ UU ℕ) := embR

/-! ## The buffers -/

abbrev xM : Memref sig .tc .hbm (Sh 4096) .f32 := Memref.whole main_arg0
abbrev oM : Memref sig .tc .hbm (Sh 4096) .bf16 := Memref.whole main_v1
abbrev accM : Memref sig .tc .vmem (Sh 4096) .bf16 := Memref.whole cc0_scratch0
abbrev xvM : Memref sig .tc .vmem (Sh 4096) .f32 := Memref.whole cc0_scratch1

/-- The rows of the landing buffer of stream `s` and level `l`. -/
abbrev rsR (s l : ℕ) : ℕ :=
  match s, l with
  | 0, 0 => 704 | 0, 1 => 352 | 0, _ => 176
  | 1, 0 => 704 | 1, 1 => 352 | 1, _ => 176
  | _, 0 => 640 | _, 1 => 320 | _, _ => 160

/-- The landing buffer of stream `s` and level `l`. -/
abbrev rsM (s l : ℕ) : Memref sig .tc .vmem (Sh (rsR s l)) .bf16 :=
  match s, l with
  | 0, 0 => Memref.whole cc0_scratch2 | 0, 1 => Memref.whole cc0_scratch3 | 0, _ + 2 => Memref.whole cc0_scratch4
  | 1, 0 => Memref.whole cc0_scratch5 | 1, 1 => Memref.whole cc0_scratch6 | 1, _ + 2 => Memref.whole cc0_scratch7
  | _ + 2, 0 => Memref.whole cc0_scratch8 | _ + 2, 1 => Memref.whole cc0_scratch9 | _ + 2, _ + 2 => Memref.whole cc0_scratch10

/-! ## The cells -/

/-- The cell of DMA semaphore `q` of device `c`. -/
abbrev cell (c : Dev nD) (q : DmaSem sig) : GSem nD τ sig := ((c : Thread nD τ), .dma q)
/-- The cell of the barrier semaphore of device `c`. -/
abbrev bcell (c : Dev nD) : GSem nD τ sig := ((c : Thread nD τ), .reg barrier0)

/-- The level whose partner copy `k` of a stream goes to. -/
def lvl (k : ℕ) : ℕ :=
  match k with
  | 3 | 4 | 7 | 9 => 1
  | 5 | 6 => 2
  | _ => 0
/-- The chunk that copy `k ≥ 6` sends, relative to the sender's own. -/
def gch (k : ℕ) : ℕ := match k with | 9 | 10 => 1 | 11 => 2 | 12 => 3 | _ => 0
/-- The chunk that copy `k ≥ 6` lands, relative to the receiver's own. -/
def lch (k : ℕ) : ℕ := match k with | 6 => 1 | 7 => 2 | 8 => 4 | 9 => 3 | 10 => 5 | 11 => 6 | _ => 7
/-- The partner of copy `q`. -/
def prt (q : DmaSem sig) (c : Dev nD) : Dev nD := part (q.val / 13) (lvl (q.val % 13)) c
/-- The receive cell that goes with the send cell `q`. -/
def rcv (q : DmaSem sig) : DmaSem sig := ⟨(q.val + 39) % 111, Nat.mod_lt _ (by decide)⟩

theorem prt_prt (q : DmaSem sig) (c : Dev nD) : prt q (prt q c) = c := part_part _ _ c

/-- The share of its source that copy `k ≥ 6` borrows. -/
def qsend (k : ℕ) : PosShare TreeShare :=
  match k with
  | 7 | 10 => (fullShare : PosShare TreeShare).right.left
  | 8 => (fullShare : PosShare TreeShare).right.right.left
  | _ => (fullShare : PosShare TreeShare).left
/-- The share of its source that a copy out borrows, by the chunk relative to the device's own. -/
def qout (j : ℕ) : PosShare TreeShare :=
  match j with
  | 0 => (fullShare : PosShare TreeShare).right.right.right
  | 1 => (fullShare : PosShare TreeShare).right.right
  | 2 | 3 => (fullShare : PosShare TreeShare).right
  | _ => fullShare

/-- Stream and chunk of the copies out, in the order they start. -/
def outS (i : ℕ) : ℕ := if i < 12 then i % 3 else (i - 12) / 4
def outJ (i : ℕ) : ℕ := if i < 12 then i / 3 else 4 + (i - 12) % 4

/-- First row and number of rows of the copies in, in the order they start. -/
def cinRow (a : ℕ) (c : Dev nD) : ℕ := match a / 3 with | 0 => prow (a % 3) c 6 | 1 => prow (a % 3) c 4 | _ => hrow (a % 3) c 0
def cinN (a : ℕ) : ℕ := match a / 3 with | 0 => 2 * ch (a % 3) | 1 => 2 * ch (a % 3) | _ => 4 * ch (a % 3)

/-- The rows a transfer on semaphore `q` moves. -/
def rowsOf (q : ℕ) : ℕ :=
  if q < 39 then (if q % 13 = 0 then 2 * ch (q / 13) else ch (q / 13))
  else if q < 78 then (if (q - 39) % 13 = 0 then 2 * ch ((q - 39) / 13) else ch ((q - 39) / 13))
  else if q < 87 then cinN (q - 78) else ch (outS (q - 87))
def eltOf (q : ℕ) : EltTy := if 78 ≤ q ∧ q < 87 then .f32 else .bf16

/-- What a transfer on semaphore `q` credits. -/
def amt (q : DmaSem sig) : ℕ := RefSig.tileCredit (Sh (rowsOf q.val)) (eltOf q.val)

theorem rowsOf_pos : ∀ q : Fin 111, 0 < rowsOf q.val := by decide
theorem amt_pos (q : DmaSem sig) : 0 < amt q := by
  refine RefSig.tileCredit_pos _ _ ?_
  have h := rowsOf_pos q
  unfold Shape.numel
  rw [Fin.prod_univ_two]
  exact Nat.mul_pos h (show 0 < 1024 by decide)
theorem amt_rcv (q : DmaSem sig) (h : q.val < 39) : amt (rcv q) = amt q := by
  have h1 : ∀ q : Fin 111, q.val < 39 → rowsOf ((q.val + 39) % 111) = rowsOf q.val ∧ eltOf ((q.val + 39) % 111) = eltOf q.val := by decide
  unfold amt rcv
  rw [(h1 q h).1, (h1 q h).2]

/-! ## What each cell hands out -/

variable (X : Dev nD → FVec F (Sh 4096) .f32)

/-- The landing buffer of stream `s` that is written across link `a`. -/
def lvOf (s a : ℕ) : ℕ :=
  match s, a with
  | 0, 0 => 2 | 0, 1 => 1 | 0, _ => 0
  | 1, 0 => 1 | 1, 1 => 0 | 1, _ => 2
  | _, 0 => 0 | _, 1 => 2 | _, _ => 1

/-- A whole landing buffer of device `d`, whatever it holds. -/
abbrev RS (s l : ℕ) (d : Dev nD) : sProp 𝕄 := Any (F := F) (rsM s l) d 0 (rsR s l)

/-- The signal of the neighbour `d` across link `a`: the landing buffers of `d` that are written across it. -/
def barPay (a : ℕ) (d : Dev nD) : sProp 𝕄 :=
  match a with
  | 0 => iprop(RS (F := F) 0 2 d ∗ RS (F := F) 1 1 d ∗ RS (F := F) 2 0 d)
  | 1 => iprop(RS (F := F) 0 1 d ∗ RS (F := F) 1 0 d ∗ RS (F := F) 2 2 d)
  | _ => iprop(RS (F := F) 0 0 d ∗ RS (F := F) 1 2 d ∗ RS (F := F) 2 1 d)

/-- Rows of the landing buffer of stream `s` and level `l` on `d`, holding rows of `V`. -/
abbrev Landed (s l : ℕ) (d : Dev nD) (lo n : ℕ) (V : FVec F (Sh 4096) .bf16) : sProp 𝕄 :=
  At (F := F) (rsM s l) d (lo - keep s l d) n fullShare (shiftRows (rsR s l) (keep s l d) V)

/-- What copy `k` of stream `s` from `c` to `d` leaves with `d`. -/
def recvFrom (s k : ℕ) (c d : Dev nD) : sProp 𝕄 :=
  match k with
  | 0 => iprop(Landed s 0 d (prow s d 2) (2 * ch s) (V0 X c)
      ∗ Any (F := F) accM c (crow s c 6) (ch s) ∗ Any (F := F) accM c (crow s c 7) (ch s))
  | 1 => iprop(Landed s 0 d (crow s d 1) (ch s) (V0 X c) ∗ Any (F := F) accM c (crow s c 5) (ch s))
  | 2 => iprop(Landed s 0 d (crow s d 0) (ch s) (V0 X c) ∗ Any (F := F) accM c (crow s c 4) (ch s))
  | 3 => iprop(Landed s 1 d (crow s d 1) (ch s) (V1 X s c) ∗ Any (F := F) accM c (crow s c 3) (ch s))
  | 4 => iprop(Landed s 1 d (crow s d 0) (ch s) (V1 X s c) ∗ Any (F := F) accM c (crow s c 2) (ch s))
  | 5 => iprop(Landed s 2 d (crow s d 0) (ch s) (V2 X s c) ∗ Any (F := F) accM c (crow s c 1) (ch s))
  | k => At (F := F) accM d (crow s d (lch k)) (ch s) fullShare (OUT X)

/-- What copy `k` of stream `s` gives its sender back. -/
def sendPay (s k : ℕ) (c : Dev nD) : sProp 𝕄 :=
  if k < 6 then iprop(emp) else At (F := F) accM c (crow s c (gch k)) (ch s) (qsend k) (OUT X)

/-- What copy in `a` gives back. -/
def cinPay (a : ℕ) (c : Dev nD) : sProp 𝕄 :=
  iprop(At (F := F) xvM c (cinRow a c) (cinN a) fullShare (X c) ∗ At (F := F) xM c (cinRow a c) (cinN a) fullShare (X c))

/-- What a copy out gives back. -/
def outPay (i : ℕ) (c : Dev nD) : sProp 𝕄 :=
  iprop(At (F := F) oM c (crow (outS i) c (outJ i)) (ch (outS i)) fullShare (OUT X)
    ∗ At (F := F) accM c (crow (outS i) c (outJ i)) (ch (outS i)) (qout (outJ i)) (OUT X))

/-- What the cell of DMA semaphore `q` of device `c` hands out. -/
def pay (q : DmaSem sig) (c : Dev nD) : sProp 𝕄 :=
  if q.val < 39 then sendPay X (q.val / 13) (q.val % 13) c
  else if q.val < 78 then recvFrom X ((q.val - 39) / 13) ((q.val - 39) % 13) (part ((q.val - 39) / 13) (lvl ((q.val - 39) % 13)) c) c
  else if q.val < 87 then cinPay X (q.val - 78) c
  else outPay X (q.val - 87) c

theorem pay_rcv (q : DmaSem sig) (h : q.val < 39) (c : Dev nD) :
    pay X (rcv q) (prt q c) = recvFrom X (q.val / 13) (q.val % 13) c (prt q c) := by
  have hv : (rcv q).val = q.val + 39 := Nat.mod_eq_of_lt (by omega)
  unfold pay
  rw [hv, if_neg (by omega), if_pos (by omega), Nat.add_sub_cancel]
  show recvFrom X _ _ (prt q (prt q c)) _ = _
  rw [prt_prt]

theorem pay_snd (q : DmaSem sig) (h : q.val < 39) (c : Dev nD) :
    pay X q c = sendPay X (q.val / 13) (q.val % 13) c := by
  unfold pay; rw [if_pos h]

instance barPay_storable (a : ℕ) (d : Dev nD) : BI.Storable (upEmb : UEmb _ 𝕄) (barPay (F := F) a d) := by
  unfold barPay; split <;> infer_instance
instance recvFrom_storable (s k : ℕ) (c d : Dev nD) : BI.Storable (upEmb : UEmb _ 𝕄) (recvFrom X s k c d) := by
  unfold recvFrom; split <;> infer_instance
instance pay_storable (q : DmaSem sig) (c : Dev nD) : BI.Storable (upEmb : UEmb _ 𝕄) (pay X q c) := by
  unfold pay sendPay cinPay outPay
  (repeat' split) <;> infer_instance

/-! ## The schedule -/

/-- One round: each neighbour's signal at the barrier, one transfer on each DMA semaphore. -/
def Rd : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma q => amt q
  payload g _ d := match g.2 with | .reg _ => barPay (F := F) d.val (nbr d.val g.1.1) | .dma q => pay X q g.1.1
  amount_pos g _ _ _ := by
    rcases g with ⟨t, _ | q⟩
    · exact Nat.one_pos
    · exact amt_pos q

instance Rd_payload_storable (g : GSem nD τ sig) (r : ℕ) (d : Fin 3) : BI.Storable (upEmb : UEmb _ 𝕄) ((Rd X).payload g r d) := by
  rcases g with ⟨t, _ | q⟩
  · exact barPay_storable (F := F) d.val (nbr d.val t.1)
  · exact pay_storable X q t.1

theorem duties_cell (c : Dev nD) (q : DmaSem sig) : (Rd X).duties (cell c q) 0 = {0} := by
  dsimp only [Rd]; exact if_pos ⟨rfl, rfl⟩
theorem duties_bcell (c : Dev nD) : (Rd X).duties (bcell c) 0 = Finset.univ := by
  dsimp only [Rd]; exact if_pos ⟨rfl, rfl⟩
theorem duties_later (g : GSem nD τ sig) : ∀ r, 1 ≤ r → (Rd X).duties g r = ∅ :=
  fun r hr => by dsimp only [Rd]; exact if_neg fun h => by omega
theorem amount_cell (c : Dev nD) (q : DmaSem sig) (d : Fin 3) : (Rd X).amount (cell c q) 0 d = amt q := rfl
theorem amount_bcell (c : Dev nD) (d : Fin 3) : (Rd X).amount (bcell c) 0 d = 1 := rfl
theorem payload_cell (c : Dev nD) (q : DmaSem sig) (d : Fin 3) : (Rd X).payload (cell c q) 0 d = pay X q c := rfl
theorem payload_bcell (c : Dev nD) (d : Fin 3) : (Rd X).payload (bcell c) 0 d = barPay (F := F) d.val (nbr d.val c) := rfl
theorem expect_cell (c : Dev nD) (q : DmaSem sig) : (Rd X).expect (cell c q) 0 = amt q := by
  unfold Schedule.expect Schedule.amountOf; rw [duties_cell, Finset.sum_singleton, amount_cell]
theorem expect_bcell (c : Dev nD) : (Rd X).expect (bcell c) 0 = 3 := by
  unfold Schedule.expect Schedule.amountOf; rw [duties_bcell, Fin.sum_univ_three, amount_bcell, amount_bcell, amount_bcell]
theorem rest_cell (c : Dev nD) (q : DmaSem sig) :
    bigSep ((Rd X).duties (cell c q) 0 \ ∅) (fun d => (Rd X).payload (cell c q) 0 d) = pay X q c := by
  rw [Finset.sdiff_empty, duties_cell, bigSep_singleton, payload_cell]
theorem rest_bcell (c : Dev nD) :
    bigSep ((Rd X).duties (bcell c) 0 \ ∅) (fun d => (Rd X).payload (bcell c) 0 d)
      = iprop(barPay (F := F) 0 (nbr 0 c) ∗ barPay (F := F) 1 (nbr 1 c) ∗ barPay (F := F) 2 (nbr 2 c)) := by
  rw [Finset.sdiff_empty, duties_bcell, bigSep_univ_eq_bigSepL [0, 1, 2] (by decide) (by decide)]
  rfl

/-! ## Levels -/

def L (g : GSem nD τ sig) : Finset Unit := if g.1.2 = .tc then {()} else ∅
/-- The level of a receive cell, by the copy. -/
def rlev (k : ℕ) : ℕ :=
  match k with
  | 0 => 2 | 1 | 2 => 3 | 3 | 4 => 4 | 5 => 5 | 6 | 7 | 8 => 6 | 9 | 10 => 7 | 11 => 8 | _ => 9
def slev (q : ℕ) : ℕ := if 39 ≤ q ∧ q < 78 then rlev ((q - 39) % 13) else 0
/-- A wait may happen while only cells of higher level are owed. -/
def lv (g : GSem nD τ sig) (_ : Unit) : ℕ := match g.2 with | .reg _ => 1 | .dma q => slev q.val

theorem L_of_ne (g : GSem nD τ sig) (h : g.1.2 ≠ .tc) : L g = ∅ := if_neg h
theorem L_tc (c : Dev nD) (sm : SemLoc sig) : L ((c : Thread nD τ), sm) = {()} := if_pos rfl

end Cert.KernelIdeal.Sum
-- ==== Proof.State.lean ====
/-
# The state of a device between two operations

The order in which a device starts its transfers and waits for them is fixed. After `i` starts and
`j` waits a device holds: for every transfer still to start its tokens and its destination, what it
still owes, for every wait still to come the position of the cell, the credits of what has started
and is not waited for, and the counters of the cells it is done with.
-/
module

public import proofs.«01_k».proof.Proof.Schedule
public import Idealize.ShloMosaic.Lib.Pipeline.BigSepL

@[expose] public section

noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

/-- The transfers in the order they start. -/
def starts : List (Fin 111) :=
  [78,79,80,81,82,83,84,85,86,0,13,26,1,2,14,15,27,28,3,4,16,17,29,30,5,18,31,6,7,8,87,19,20,21,88,32,33,34,89,9,10,90,
   22,23,91,35,36,92,11,93,24,94,37,95,12,96,25,97,38,98,99,100,101,102,103,104,105,106,107,108,109,110]
/-- The cells in the order they are waited for. -/
def waits : List (Fin 111) :=
  [78,79,80,81,82,83,0,39,84,13,52,85,26,65,86,1,40,14,53,27,66,3,42,16,55,29,68,2,41,15,54,28,67,4,43,17,56,30,69,5,44,
   18,57,31,70,6,45,19,58,32,71,7,46,20,59,33,72,9,48,22,61,35,74,8,47,10,49,11,50,12,51,21,60,23,62,24,63,25,64,34,73,
   36,75,37,76,38,77,87,88,89,90,91,92,93,94,95,96,97,98,99,100,101,102,103,104,105,106,107,108,109,110]

theorem starts_nodup : starts.Nodup := by decide
theorem waits_nodup : waits.Nodup := by decide

/-! ## The rows each transfer reads and writes -/

/-- The first row copy `k` of stream `s` reads on its sender. -/
def srcRow (s k : ℕ) (c : Dev nD) : ℕ :=
  match k with
  | 0 => prow s c 6 | 1 => crow s c 5 | 2 => crow s c 4 | 3 => crow s c 3 | 4 => crow s c 2 | 5 => crow s c 1
  | k => crow s c (gch k)
/-- The row of the stream at which copy `k < 6` lands on its receiver. -/
def dstRow (s k : ℕ) (d : Dev nD) : ℕ :=
  match k with
  | 0 => prow s d 2 | 1 | 3 => crow s d 1 | _ => crow s d 0
/-- The rows copy `k` of stream `s` moves. -/
def sndN (s k : ℕ) : ℕ := if k = 0 then 2 * ch s else ch s

variable (X : Dev nD → FVec F (Sh 4096) .f32)

/-- What the source of copy `k` holds. -/
def sndV (s k : ℕ) (c : Dev nD) : FVec F (Sh 4096) .bf16 :=
  match k with
  | 0 | 1 | 2 => V0 X c
  | 3 | 4 => V1 X s c
  | 5 => V2 X s c
  | _ => OUT X

/-- The destination of copy `k < 6` at its receiver `d`. -/
def dstOf (s k : ℕ) (d : Dev nD) : sProp 𝕄 :=
  Any (F := F) (rsM s (lvl k)) d (dstRow s k d - keep s (lvl k) d) (sndN s k)

/-- The rows copy `q` of device `c` reads, with what they hold. -/
abbrev Src (q : DmaSem sig) (c : Dev nD) : sProp 𝕄 :=
  At (F := F) accM c (srcRow (q.val / 13) (q.val % 13) c) (sndN (q.val / 13) (q.val % 13)) fullShare (sndV X (q.val / 13) (q.val % 13) c)

/-- Rows read by a copy of the accumulator and landed with the receiver make its payload. -/
theorem recvFrom_intro {s k : ℕ} (hs : s < 3) (hk : k < 6) (c : Dev nD) :
    iprop(Landed (F := F) s (lvl k) (part s (lvl k) c) (dstRow s k (part s (lvl k) c)) (sndN s k) (sndV X s k c)
        ∗ At (F := F) accM c (srcRow s k c) (sndN s k) fullShare (sndV X s k c))
      ⊢ recvFrom X s k c (part s (lvl k) c) := by
  have hp : ∀ c : Dev nD, (crow s c 6 = prow s c 6 ∧ crow s c 7 = prow s c 6 + ch s) ∨ (crow s c 7 = prow s c 6 ∧ crow s c 6 = prow s c 6 + ch s) := by
    rcases (by omega : s = 0 ∨ s = 1 ∨ s = 2) with rfl | rfl | rfl <;> decide
  rcases (by omega : k = 0 ∨ k = 1 ∨ k = 2 ∨ k = 3 ∨ k = 4 ∨ k = 5) with rfl | rfl | rfl | rfl | rfl | rfl
  · show iprop(_ ∗ At (F := F) accM c (prow s c 6) (2 * ch s) fullShare (V0 X c)) ⊢ iprop(_ ∗ _ ∗ _)
    rw [Nat.two_mul]
    refine BIClass.sep_mono (by rw [← Nat.two_mul]; exact BI.Entails.refl _) ?_
    refine At_split.trans ?_
    rcases hp c with ⟨h1, h2⟩ | ⟨h1, h2⟩
    · rw [h1, h2]; exact BIClass.sep_mono At_any At_any
    · rw [h1, h2]; exact sep_comm.1.trans (BIClass.sep_mono At_any At_any)
  all_goals exact BIClass.sep_mono (BI.Entails.refl _) At_any

/-! ## Tokens, destinations, debts -/

/-- The tokens a device needs to start transfer `q`. -/
def tokR (c : Dev nD) (q : Fin 111) : sProp 𝕄 :=
  if q.val < 39 then iprop(dutyTok ER (cell c q) 0 0 ∗ dutyTok ER (cell (prt q c) (rcv q)) 0 0) else dutyTok ER (cell c q) 0 0

/-- The destination of transfer `q`, and for a copy in its source too. -/
def destR (c : Dev nD) (q : Fin 111) : sProp 𝕄 :=
  if q.val < 39 then (if q.val % 13 < 6 then dstOf (F := F) (q.val / 13) (q.val % 13) (prt q c) else iprop(emp))
  else if q.val < 87 then
    iprop(Any (F := F) xvM c (cinRow (q.val - 78) c) (cinN (q.val - 78)) ∗ At (F := F) xM c (cinRow (q.val - 78) c) (cinN (q.val - 78)) fullShare (X c))
  else Any (F := F) oM c (crow (outS (q.val - 87)) c (outJ (q.val - 87))) (ch (outS (q.val - 87)))

/-- What a device owes while the transfers `l` are still to start. -/
def owedL (c : Dev nD) : List (Fin 111) → CellTallies nD τ sig Unit
  | [] => 0
  | q :: l => owedL c l + (if q.val < 39 then tallyAt (cell (prt q c) (rcv q)) () (amt q) else 0)

abbrev credC (c : Dev nD) (q : Fin 111) : sProp 𝕄 := cred (tallyAt (cell c q) () (amt q))

/-- What a device holds for a wait to come. -/
def waitR (c : Dev nD) (q : Fin 111) : sProp 𝕄 :=
  iprop(atPos ER (cell c q) 0 ∅ 0 ∗ (if 39 ≤ q.val ∧ q.val < 78 then credC (F := F) c q else iprop(emp)))

/-- What a device holds for a wait that is done: the counter, and what a copy of a finished chunk gave
    back. -/
def doneR (c : Dev nD) (q : Fin 111) : sProp 𝕄 :=
  iprop(semVal (cell c q) 0 ∗ (if 39 ≤ q.val ∧ q.val < 87 then iprop(emp) else pay X q c))

/-- The transfers started and not waited for, after `i` starts and `j` waits. -/
def pool (i j : ℕ) : Finset (Fin 111) := (starts.take i).toFinset \ (waits.take j).toFinset

/-- The state after `i` starts and `j` waits. -/
def St (c : Dev nD) (i j : ℕ) : sProp 𝕄 :=
  iprop(bigSepL (starts.drop i) (tokR (F := F) c) ∗ bigSepL (starts.drop i) (destR X c)
    ∗ (∃ W, owes (c : Thread nD τ) (owedL c (starts.drop i)) W)
    ∗ bigSepL (waits.drop j) (waitR (F := F) c)
    ∗ bigSep (waits.take j).toFinset (doneR X c)
    ∗ bigSep (pool i j) (credC (F := F) c))

section
variable {I : Type} [DecidableEq I] {t : Finset I} {a : I}
omit [FloatOps F] in
theorem bigSep_put {Φ : I → sProp 𝕄} (h : a ∉ t) : bigSep (insert a t) Φ = iprop(Φ a ∗ bigSep t Φ) := bigSep_insert h
omit [FloatOps F] in
theorem bigSep_take {Φ : I → sProp 𝕄} (h : a ∈ t) : bigSep t Φ = iprop(Φ a ∗ bigSep (t.erase a) Φ) := bigSep_erase h
omit [FloatOps F] in
theorem bigSep_one {Φ : I → sProp 𝕄} (h : a ∈ t) : (bigSep t Φ : sProp 𝕄) ⊢ Φ a := bigSep_elim h
end

theorem drop_of_get {l : List (Fin 111)} {i : ℕ} {q : Fin 111} (h : l[i]? = some q) : l.drop i = q :: l.drop (i + 1) := by
  obtain ⟨hi, he⟩ := List.getElem?_eq_some_iff.mp h
  rw [List.drop_eq_getElem_cons hi, he]
theorem take_of_get {l : List (Fin 111)} {i : ℕ} {q : Fin 111} (h : l[i]? = some q) : (l.take (i + 1)).toFinset = insert q (l.take i).toFinset := by
  obtain ⟨hi, he⟩ := List.getElem?_eq_some_iff.mp h
  rw [List.take_add_one, h]
  ext x; simp [or_comm]
theorem notMem_take {l : List (Fin 111)} (hl : l.Nodup) {i : ℕ} {q : Fin 111} (h : l[i]? = some q) : q ∉ (l.take i).toFinset := by
  rw [List.mem_toFinset]
  intro hm
  have h1 := List.disjoint_take_drop hl (Nat.le_refl i)
  exact h1 hm (by rw [drop_of_get h]; exact List.mem_cons_self)

/-- Starting transfer `q`: its tokens and its destination come out, and what is owed with the rest of
    the state stays. -/
theorem St_start {c : Dev nD} {i j : ℕ} {q : Fin 111} (hi : starts[i]? = some q) (hj : q ∉ waits.take j) :
    St X c i j ⊢ iprop(tokR (F := F) c q ∗ destR X c q ∗ (∃ W, owes (c : Thread nD τ) (owedL c (q :: starts.drop (i + 1))) W)
      ∗ ((credC (F := F) c q ∗ (∃ W, owes (c : Thread nD τ) (owedL c (starts.drop (i + 1))) W)) -∗ St X c (i + 1) j)) := by
  unfold St
  rw [drop_of_get hi, bigSepL_cons', bigSepL_cons']
  iintro ⟨⟨HT, HTs⟩, ⟨HD, HDs⟩, HO, HW, HZ, HP⟩
  isplitl [HT]; · iexact HT
  isplitl [HD]; · iexact HD
  isplitl [HO]; · iexact HO
  iintro ⟨HC, HO⟩
  isplitl [HTs]; · iexact HTs
  isplitl [HDs]; · iexact HDs
  isplitl [HO]; · iexact HO
  isplitl [HW]; · iexact HW
  isplitl [HZ]; · iexact HZ
  have hp : pool (i + 1) j = insert q (pool i j) := by
    unfold pool
    rw [take_of_get hi, Finset.insert_sdiff_of_notMem]
    rw [List.mem_toFinset]; exact hj
  rw [hp, bigSep_put (by unfold pool; exact fun h => notMem_take starts_nodup hi (Finset.mem_sdiff.mp h).1)]
  isplitl [HC] <;> iassumption

/-- Waiting for cell `q`: its position and credit come out, and its counter goes in. -/
theorem St_wait {c : Dev nD} {i j : ℕ} {q : Fin 111} (hj : waits[j]? = some q)
    (hi : q ∈ starts.take i ∨ (39 ≤ q.val ∧ q.val < 78 ∧ q ∉ starts.take i)) :
    St X c i j ⊢ iprop(atPos ER (cell c q) 0 ∅ 0 ∗ credC (F := F) c q ∗ (∃ W, owes (c : Thread nD τ) (owedL c (starts.drop i)) W)
      ∗ ((doneR X c q ∗ (∃ W, owes (c : Thread nD τ) (owedL c (starts.drop i)) W)) -∗ St X c i (j + 1))) := by
  unfold St
  rw [drop_of_get hj, bigSepL_cons', take_of_get hj, bigSep_put (notMem_take waits_nodup hj)]
  have hq : q ∉ (waits.take j).toFinset := notMem_take waits_nodup hj
  have hp : pool i (j + 1) = (pool i j).erase q := by
    unfold pool; rw [take_of_get hj]; ext x; simp only [Finset.mem_sdiff, Finset.mem_insert, Finset.mem_erase]; tauto
  have hs : ∀ q ∈ starts, ¬ (39 ≤ q.val ∧ q.val < 78) := by decide
  rcases hi with hi | ⟨h1, h2, h3⟩
  · have hm : q ∈ pool i j := by unfold pool; rw [Finset.mem_sdiff, List.mem_toFinset]; exact ⟨hi, hq⟩
    rw [bigSep_take hm, hp]
    unfold waitR
    rw [if_neg (hs q (List.mem_of_mem_take hi))]
    iintro ⟨HTs, HDs, HO, ⟨⟨HA, -⟩, HW⟩, HZ, HC, HP⟩
    isplitl [HA]; · iexact HA
    isplitl [HC]; · iexact HC
    isplitl [HO]; · iexact HO
    iintro ⟨Hz, HO⟩
    isplitl [HTs]; · iexact HTs
    isplitl [HDs]; · iexact HDs
    isplitl [HO]; · iexact HO
    isplitl [HW]; · iexact HW
    isplitl [Hz HZ]; · isplitl [Hz] <;> iassumption
    iexact HP
  · have hm : q ∉ pool i j := by unfold pool; rw [Finset.mem_sdiff, List.mem_toFinset]; exact fun h => h3 h.1
    rw [hp, Finset.erase_eq_of_notMem hm]
    unfold waitR
    rw [if_pos ⟨h1, h2⟩]
    iintro ⟨HTs, HDs, HO, ⟨⟨HA, HC⟩, HW⟩, HZ, HP⟩
    isplitl [HA]; · iexact HA
    isplitl [HC]; · iexact HC
    isplitl [HO]; · iexact HO
    iintro ⟨Hz, HO⟩
    isplitl [HTs]; · iexact HTs
    isplitl [HDs]; · iexact HDs
    isplitl [HO]; · iexact HO
    isplitl [HW]; · iexact HW
    isplitl [Hz HZ]; · isplitl [Hz] <;> iassumption
    iexact HP

/-! ## Levels -/

theorem owedL_pos {c : Dev nD} {g : GSem nD τ sig} {u : Unit} : ∀ {l : List (Fin 111)}, 0 < owedL c l g u →
    ∃ p ∈ l, p.val < 39 ∧ g = cell (prt p c) (rcv p)
  | [], h => absurd h (Nat.lt_irrefl 0)
  | q :: l, h => by
    by_cases hq : q.val < 39
    · by_cases hg : g = cell (prt q c) (rcv q) ∧ u = ()
      · exact ⟨q, List.mem_cons_self, hq, hg.1⟩
      · have h' : 0 < owedL c l g u + (if q.val < 39 then tallyAt (cell (prt q c) (rcv q)) () (amt q) else 0) g u := h
        rw [if_pos hq, tallyAt_apply, if_neg hg] at h'
        obtain ⟨p, hp, h1⟩ := owedL_pos (l := l) h'
        exact ⟨p, List.mem_cons_of_mem _ hp, h1⟩
    · have h' : 0 < owedL c l g u + (if q.val < 39 then tallyAt (cell (prt q c) (rcv q)) () (amt q) else 0) g u := h
      rw [if_neg hq] at h'
      obtain ⟨p, hp, h1⟩ := owedL_pos (l := l) h'
      exact ⟨p, List.mem_cons_of_mem _ hp, h1⟩

/-- A wait is allowed below every cell that is still owed. -/
theorem mayWait_owedL (c : Dev nD) (sm : SemLoc sig) (l : List (Fin 111))
    (h : ∀ p ∈ l, p.val < 39 → lv ((c : Thread nD τ), sm) () < slev (rcv p).val) :
    (levAts L lv : sProp 𝕄) ⊢ MayWait (c : Thread nD τ) sm () (owedL c l) :=
  MayOwe.of_cut (L := L) (lev := lv) (lv ((c : Thread nD τ), sm) ())
    (fun p hp => by rw [Finset.mem_singleton.mp hp, L_tc]; exact Finset.mem_singleton_self _)
    (fun g u hg => by obtain ⟨p, _, _, rfl⟩ := owedL_pos hg; rw [L_tc]; exact Finset.mem_singleton_self _)
    (fun p hp => by rw [Finset.mem_singleton.mp hp])
    (fun g u hg => by obtain ⟨p, hp, h39, rfl⟩ := owedL_pos hg; exact h p hp h39)

/-! ## What every device knows -/

/-- The invariant of every cell, that its round has begun, and the levels. -/
def Rec (K : Dev nD × SemLoc sig → ℕ) : sProp 𝕄 :=
  iprop(bigSep Finset.univ (fun p : Dev nD × SemLoc sig => cellInv ER (Rd X) (K p) ((p.1 : Thread nD τ), p.2))
    ∗ bigSep Finset.univ (fun p : Dev nD × SemLoc sig => reached ER ((p.1 : Thread nD τ), p.2) 0)
    ∗ levAts L lv)

instance Rec_persistent (K : Dev nD × SemLoc sig → ℕ) : BI.Persistent (Rec X K) := by unfold Rec; infer_instance

variable {X} {K : Dev nD × SemLoc sig → ℕ}

theorem Rec_inv (c : Dev nD) (sm : SemLoc sig) : Rec X K ⊢ cellInv ER (Rd X) (K (c, sm)) ((c : Thread nD τ), sm) := by
  unfold Rec
  iintro ⟨H, -, -⟩
  iapply (bigSep_one (Φ := fun p : Dev nD × SemLoc sig => cellInv ER (Rd X) (K p) ((p.1 : Thread nD τ), p.2)) (Finset.mem_univ (c, sm))) $$ H
theorem Rec_reached (c : Dev nD) (sm : SemLoc sig) : Rec X K ⊢ reached ER ((c : Thread nD τ), sm) 0 := by
  unfold Rec
  iintro ⟨-, H, -⟩
  iapply (bigSep_one (Φ := fun p : Dev nD × SemLoc sig => reached ER ((p.1 : Thread nD τ), p.2) 0) (Finset.mem_univ (c, sm))) $$ H
theorem Rec_lev : Rec X K ⊢ (levAts L lv : sProp 𝕄) := by
  unfold Rec
  iintro ⟨-, -, H⟩
  iexact H

end Cert.KernelIdeal.Sum
-- ==== Proof.Steps.lean ====
/-
# The steps: one lemma for each kind of operation on a semaphore
-/
module

public import proofs.«01_k».proof.Proof.State

@[expose] public section

noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable {X : Dev nD → FVec F (Sh 4096) .f32} {K : Dev nD × SemLoc sig → ℕ} {c : Dev nD} {i j : ℕ} {q : Fin 111}

/-- A wait on a DMA cell: its payload comes out and the cell is closed. -/
theorem step_wait {α : Type} {Q : α → sProp 𝕄} {sp sp' : Space} {s s' : Shape} {e e' : EltTy} {sem : DmaSem sig}
    {src : Memref sig .tc sp' s' e'} {κ' : Kind} {dst : Memref sig κ' sp s e} {hsrc : src.view.WordExact} {hdst : dst.view.WordExact}
    {k : PUnit → Prog (TpuEff nD τ sig (Elt F) Λ₀ .tc) α}
    (hj : waits[j]? = some q) (hi : q ∈ starts.take i ∨ (39 ≤ q.val ∧ q.val < 78 ∧ q ∉ starts.take i))
    (hl : ∀ p ∈ starts.drop i, p.val < 39 → slev q.val < slev (rcv p).val)
    (hs : sem = q) (ha : dst.view.dmaCredit = amt q) :
    iprop(Rec X K ∗ St X c i j)
      ⊢ iprop(((St X c i (j + 1) ∗ (if 39 ≤ q.val ∧ q.val < 87 then pay X q c else iprop(emp))) -∗ WP c (k ⟨⟩) Q)
        -∗ WP c (.op (.waitDma2 sem src dst hsrc hdst) k) Q) := by
  subst hs
  iintro ⟨#HR, HS⟩ Hk
  ihave HS := (St_wait X hj hi) $$ HS
  icases HS with ⟨HA, HC, ⟨%W, HO⟩, HS⟩
  iapply (Rounds.wp_wait_rest_token 𝒱₀ ER (Rd X) (c : Thread nD τ) none (κ := K (c, .dma sem))
      (wpE_waitDma2_eq 𝒱₀ (c : Thread nD τ) none Set.univ) (Set.mem_univ _) () (O := owedL c (starts.drop i)) (W := W) (R := 0) (m := 0) (T := ∅)
      (by rw [Nat.zero_add, expect_cell, ha])) $$ [HC HO HA]
  · isplitr; · iapply (Rec_inv c (.dma sem)); iexact HR
    isplitl [HC]; · rw [ha]; iexact HC
    isplitl [HO]; · iexact HO
    isplitr
    · iapply (mayWait_owedL c (.dma sem) (starts.drop i) hl)
      iapply Rec_lev; iexact HR
    iexact HA
  iintro ⟨HO, HA, -, HP⟩
  imod (Rounds.cell_close ER (Rd X) (Set.mem_univ (K (c, .dma sem))) (fun h => h) (R := 0 + 1) (duties_later X (cell c sem))) $$ [HA] with HZ
  · isplitr; · iapply (Rec_inv c (.dma sem)); iexact HR
    iexact HA
  ihave HP := (Entails.of_eq (rest_cell X c sem)) $$ HP
  iapply Hk
  by_cases h : 39 ≤ sem.val ∧ sem.val < 87
  · rw [if_pos h]
    isplitl [HS HZ HO]
    · iapply HS
      isplitl [HZ]
      · unfold doneR; rw [if_pos h]; isplitl [HZ]; · iexact HZ
        iempintro
      iexists _; iexact HO
    · iexact HP
  · rw [if_neg h]
    isplitl [HS HZ HO HP]
    · iapply HS
      isplitl [HZ HP]
      · unfold doneR; rw [if_neg h]; isplitl [HZ]; · iexact HZ
        iexact HP
      iexists _; iexact HO
    · iempintro

/-- Starting a copy of rows of the accumulator into a landing buffer of the partner. -/
theorem step_send_core {α : Type} {Q : α → sProp 𝕄} {d : Dev nD} {s : Shape} {src dst : Memref sig .tc .vmem s .bf16}
    {hsc : (show Memref sig (Dev.tc d : Thread nD τ).2.kind .vmem s .bf16 from dst).view.ref.isScScratch = false} {sS sR : DmaSem sig}
    {hsrc : src.view.WordExact} {hdst : dst.view.WordExact}
    {hsem : DmaTarget.Typed .vmem (.dma sR) (.remote (Dev.tc d : Thread nD τ) dst (.dma sS) hsc)}
    {k : PUnit → Prog (TpuEff nD τ sig (Elt F) Λ₀ .tc) α}
    (hi : starts[i]? = some q) (hj : q ∉ waits.take j) (hq : q.val < 39) (hk : q.val % 13 < 6)
    (hd : d = prt q c) (hs : sS = q) (hr : sR = rcv q) (ha : dst.view.dmaCredit = amt q)
    {fs : Buf (Elt F) (src.view.loc (c : Thread nD τ))}
    (hD : dstOf (F := F) (q.val / 13) (q.val % 13) d ⊢ iprop(∃ f, dst.view.loc (d : Thread nD τ) ↦[dst.view.set]{fullShare} f))
    (hP : ∀ fd, iprop((dst.view.loc (d : Thread nD τ) ↦[dst.view.set]{fullShare} (dst.view.write (Elt F) fd (src.view.read (Elt F) fs) Finset.univ))
        ∗ (src.view.loc (c : Thread nD τ) ↦[src.view.set]{fullShare} fs)) ⊢ recvFrom X (q.val / 13) (q.val % 13) c d) :
    iprop(Rec X K ∗ St X c i j ∗ (src.view.loc (c : Thread nD τ) ↦[src.view.set]{fullShare} fs))
      ⊢ iprop((St X c (i + 1) j -∗ WP c (k ⟨⟩) Q)
        -∗ WP c (.op (.enqueueDma src (.remote (Dev.tc d : Thread nD τ) dst (.dma sS) hsc) (.dma sR) hsrc hdst hsem) k) Q) := by
  subst hs; subst hr; subst hd
  iintro ⟨#HR, HS, HX⟩ Hk
  ihave HS := (St_start X hi hj) $$ HS
  unfold tokR destR
  rw [if_pos hq, if_pos hq, if_pos hk]
  icases HS with ⟨⟨HT1, HT2⟩, HD, ⟨%W, HO⟩, HS⟩
  ihave HD := hD $$ HD
  icases HD with ⟨%fd, HD⟩
  iapply (Rounds.wp_send_landing_pointsTo 𝒱₀ ER (Rd X) (c : Thread nD τ) none (sS := .dma sS) (sem := .dma (rcv sS)) (κ₁ := K (c, .dma sS)) (κ₂ := K (prt sS c, .dma (rcv sS)))
    (r₁ := 0) (r₂ := 0) (d₁ := 0) (d₂ := 0) (fd := fd) (fs := fs) (W := W) (O₀ := owedL c (sS :: starts.drop (i + 1)))
    (by rw [duties_cell]; exact Finset.mem_singleton_self _) (by rw [duties_cell]; exact Finset.mem_singleton_self _)
    () () (amt sS) ha (amount_cell X c sS 0) ((amount_cell X (prt sS c) (rcv sS) 0).trans (amt_rcv sS hq))
    (owedL c (starts.drop (i + 1))) (by show owedL c _ + _ = _; rw [if_pos hq])
    (by rw [payload_cell, pay_snd X sS hq]; unfold sendPay; rw [if_pos hk])
    (by rw [payload_cell, pay_rcv X sS hq]; exact hP fd)) $$ [HX HD HO HT1 HT2]
  · isplitr; · iapply (Rec_inv c (.dma sS)); iexact HR
    isplitr; · iapply (Rec_inv (prt sS c) (.dma (rcv sS))); iexact HR
    isplitl [HX]; · iexact HX
    isplitl [HD]; · iexact HD
    isplitl [HO]; · iexact HO
    isplitl [HT1]; · iexact HT1
    isplitr; · iapply (Rec_reached c (.dma sS)); iexact HR
    isplitl [HT2]; · iexact HT2
    iapply (Rec_reached (prt sS c) (.dma (rcv sS))); iexact HR
  iintro ⟨HC, HO⟩
  iapply Hk
  iapply HS
  isplitl [HC]; · iexact HC
  iexists W; iexact HO

section
variable {R : ℕ} {off off' size : Fin 2 → ℕ} {inb : ∀ a, off a + size a ≤ (Sh 4096).size a} {inb' : ∀ a, off' a + size a ≤ (Sh R).size a}
  {hu : ∀ a, (Rect.unit (s := Sh 4096) off size inb).stride a = 1} {hu' : ∀ a, (Rect.unit (s := Sh R) off' size inb').stride a = 1}
  {M : Memref sig .tc .vmem (Sh R) .bf16}

/-- The same, for a destination given by its rows. -/
theorem step_send {α : Type} {Q : α → sProp 𝕄} {d : Dev nD}
    {hsc : (show Memref sig (Dev.tc d : Thread nD τ).2.kind .vmem _ .bf16 from M.slice (Rect.unit (s := Sh R) off' size inb') hu').view.ref.isScScratch = false} {sS sR : DmaSem sig}
    {hsrc : (accM.slice (Rect.unit (s := Sh 4096) off size inb) hu).view.WordExact}
    {hdst : (M.slice (Rect.unit (s := Sh R) off' size inb') hu').view.WordExact}
    {hsem : DmaTarget.Typed .vmem (.dma sR) (.remote (Dev.tc d : Thread nD τ) (M.slice (Rect.unit (s := Sh R) off' size inb') hu') (.dma sS) hsc)}
    {k : PUnit → Prog (TpuEff nD τ sig (Elt F) Λ₀ .tc) α}
    (q : Fin 111) (hi : starts[i]? = some q) (hj : q ∉ waits.take j) (hq : q.val < 39) (hk : q.val % 13 < 6)
    (hd : d = prt q c) (hs : sS = q) (hr : sR = rcv q)
    (ha : (M.slice (Rect.unit (s := Sh R) off' size inb') hu').view.dmaCredit = amt q)
    (hR : (⟨R, M⟩ : Σ R, Memref sig .tc .vmem (Sh R) .bf16) = ⟨rsR (q.val / 13) (lvl (q.val % 13)), rsM (q.val / 13) (lvl (q.val % 13))⟩)
    (ho : off = ![srcRow (q.val / 13) (q.val % 13) c, 0])
    (ho' : off' = ![dstRow (q.val / 13) (q.val % 13) (prt q c) - keep (q.val / 13) (lvl (q.val % 13)) (prt q c), 0])
    (hz : size = ![sndN (q.val / 13) (q.val % 13), 1024])
    (hrow : (dstRow (q.val / 13) (q.val % 13) (prt q c) - keep (q.val / 13) (lvl (q.val % 13)) (prt q c)) + keep (q.val / 13) (lvl (q.val % 13)) (prt q c)
      = srcRow (q.val / 13) (q.val % 13) c) :
    iprop(Rec X K ∗ St X c i j ∗ Src X q c)
      ⊢ iprop((St X c (i + 1) j -∗ WP c (k ⟨⟩) Q)
        -∗ WP c (.op (.enqueueDma (accM.slice (Rect.unit (s := Sh 4096) off size inb) hu)
            (.remote (Dev.tc d : Thread nD τ) (M.slice (Rect.unit (s := Sh R) off' size inb') hu') (.dma sS) hsc) (.dma sR) hsrc hdst hsem) k) Q) := by
  obtain ⟨rfl, hM⟩ := Sigma.mk.inj_iff.mp hR
  have hM := eq_of_heq hM
  subst hM
  subst hd
  have hs3 : q.val / 13 < 3 := by omega
  iintro ⟨#HR, HS, HX⟩ Hk
  ihave HX := (At_slice (inb := inb) (hu := hu) ho hz) $$ HX
  icases HX with ⟨%fs, %hfs, HX⟩
  iapply (step_send_core (dst := (rsM (q.val / 13) (lvl (q.val % 13))).slice (Rect.unit (s := Sh _) off' size inb') hu')
    (src := accM.slice (Rect.unit (s := Sh 4096) off size inb) hu)
    hi hj hq hk rfl hs hr ha (fs := fs) (by unfold dstOf; exact Any_slice (inb := inb') (hu := hu') ho' hz) (fun fd => by
      refine (BIClass.sep_mono ?_ ?_).trans (recvFrom_intro X (s := q.val / 13) (k := q.val % 13) hs3 hk c)
      · exact written_At ho' hz (fun x => (hfs x).trans (shiftRows_emb ho ho' hrow x).symm)
      · exact slice_At ho hz hfs)) $$ [HS HX]
  · isplitr; · iexact HR
    isplitl [HS] <;> iassumption
  iexact Hk

/-- The same, for a destination that is a whole landing buffer (copy 5 of a stream). -/
theorem step_send_whole {α : Type} {Q : α → sProp 𝕄} {d : Dev nD} {n : ℕ} {inb : ∀ a, off a + (Sh n).size a ≤ (Sh 4096).size a}
    {hu : ∀ a, (Rect.unit (s := Sh 4096) off (Sh n).size inb).stride a = 1}
    {M : Memref sig .tc .vmem (Sh n) .bf16}
    {hsc : (show Memref sig (Dev.tc d : Thread nD τ).2.kind .vmem _ .bf16 from M).view.ref.isScScratch = false} {sS sR : DmaSem sig}
    {hsrc : (accM.slice (Rect.unit (s := Sh 4096) off (Sh n).size inb) hu).view.WordExact}
    {hdst : M.view.WordExact}
    {hsem : DmaTarget.Typed .vmem (.dma sR) (.remote (Dev.tc d : Thread nD τ) M (.dma sS) hsc)}
    {k : PUnit → Prog (TpuEff nD τ sig (Elt F) Λ₀ .tc) α}
    (q : Fin 111) (hi : starts[i]? = some q) (hj : q ∉ waits.take j) (hq : q.val < 39) (hk : q.val % 13 = 5)
    (hd : d = prt q c) (hs : sS = q) (hr : sR = rcv q)
    (ha : M.view.dmaCredit = amt q)
    (hR : (⟨n, M⟩ : Σ R, Memref sig .tc .vmem (Sh R) .bf16) = ⟨rsR (q.val / 13) 2, rsM (q.val / 13) 2⟩)
    (hM : M.IsWhole)
    (ho : off = ![crow (q.val / 13) c 1, 0]) (hn : n = ch (q.val / 13))
    (hrow : crow (q.val / 13) (prt q c) 0 = crow (q.val / 13) c 1) :
    iprop(Rec X K ∗ St X c i j ∗ At (F := F) accM c (crow (q.val / 13) c 1) (ch (q.val / 13)) fullShare (V2 X (q.val / 13) c))
      ⊢ iprop((St X c (i + 1) j -∗ WP c (k ⟨⟩) Q)
        -∗ WP c (.op (.enqueueDma (accM.slice (Rect.unit (s := Sh 4096) off (Sh n).size inb) hu)
            (.remote (Dev.tc d : Thread nD τ) M (.dma sS) hsc) (.dma sR) hsrc hdst hsem) k) Q) := by
  obtain ⟨rfl, hM'⟩ := Sigma.mk.inj_iff.mp hR
  have hM' := eq_of_heq hM'
  subst hM'
  subst hd
  have hs3 : q.val / 13 < 3 := by omega
  have hz : (Sh (rsR (q.val / 13) 2)).size = ![ch (q.val / 13), 1024] := by rw [← hn]
  have hk0 : crow (q.val / 13) (prt q c) 0 - keep (q.val / 13) 2 (prt q c) = 0 := Nat.sub_self _
  have hset : (rsM (q.val / 13) 2).view.set = (rsM (q.val / 13) 2).view.setOn (rows (rsR (q.val / 13) 2) 0 (rsR (q.val / 13) 2)) := by rw [rows_all]; rfl
  have hland : Landed (F := F) (q.val / 13) 2 (prt q c) (crow (q.val / 13) (prt q c) 0) (ch (q.val / 13)) (V2 X (q.val / 13) c)
      = At (F := F) (rsM (q.val / 13) 2) (prt q c) 0 (rsR (q.val / 13) 2) fullShare (shiftRows (rsR (q.val / 13) 2) (keep (q.val / 13) 2 (prt q c)) (V2 X (q.val / 13) c)) := by
    unfold Landed; rw [hk0, ← hn]
  have hdst : dstOf (F := F) (q.val / 13) 5 (prt q c) = Any (F := F) (rsM (q.val / 13) 2) (prt q c) 0 (rsR (q.val / 13) 2) := by
    show Any (F := F) (rsM (q.val / 13) 2) (prt q c) (crow (q.val / 13) (prt q c) 0 - keep (q.val / 13) 2 (prt q c)) (ch (q.val / 13)) = _
    rw [hk0, ← hn]
  iintro ⟨#HR, HS, HX⟩ Hk
  ihave HX := (At_slice (inb := inb) (hu := hu) ho hz) $$ HX
  icases HX with ⟨%fs, %hfs, HX⟩
  iapply (step_send_core (dst := rsM (q.val / 13) 2)
    (src := accM.slice (Rect.unit (s := Sh 4096) off (Sh (rsR (q.val / 13) 2)).size inb) hu)
    hi hj hq (by omega) rfl hs hr ha (fs := fs) (by
      rw [hk, hdst, hset]; unfold Any At; iintro ⟨%G, %f, -, H⟩; iexists f; iexact H) (fun fd => by
      have h0 := recvFrom_intro X (s := q.val / 13) (k := 5) hs3 (by decide) c
      have hp : prt q c = part (q.val / 13) (lvl 5) c := by unfold prt; rw [hk]
      rw [← hp] at h0
      rw [hk]
      refine BIBase.Entails.trans ?_ h0
      refine BIClass.sep_mono ?_ (slice_At ho hz hfs)
      refine BIBase.Entails.trans ?_ (Entails.of_eq hland.symm)
      rw [hset]
      unfold At
      iintro H
      iexists _
      isplitr
      swap
      · iexact H
      ipureintro
      intro x _
      rw [View.read_write_univ, hfs]
      have h1 := shiftRows_emb (R := rsR (q.val / 13) 2) (off' := ![0, 0]) (size := (Sh (rsR (q.val / 13) 2)).size) (inb := inb)
          (inb' := fun a => by fin_cases a <;> simp) (g := V2 X (q.val / 13) c) ho rfl
          (show 0 + keep (q.val / 13) 2 (prt q c) = crow (q.val / 13) c 1 by rw [Nat.zero_add]; exact hrow) x
      rw [← h1]
      congr 1
      funext a; refine Fin.ext ?_
      fin_cases a <;> simp [Rect.unit, Rect.emb])) $$ [HS HX]
  · isplitr; · iexact HR
    isplitl [HS] <;> iassumption
  iexact Hk

/-- Starting a copy of a finished chunk into the same rows of the partner's accumulator. -/
theorem step_share {α : Type} {Q : α → sProp 𝕄} {d : Dev nD}
    {hsc : (show Memref sig (Dev.tc d : Thread nD τ).2.kind .vmem _ .bf16 from accM.slice (Rect.unit (s := Sh 4096) off size inb) hu).view.ref.isScScratch = false} {sS sR : DmaSem sig}
    {hsrc : (accM.slice (Rect.unit (s := Sh 4096) off size inb) hu).view.WordExact}
    {hdst : (accM.slice (Rect.unit (s := Sh 4096) off size inb) hu).view.WordExact}
    {hsem : DmaTarget.Typed .vmem (.dma sR) (.remote (Dev.tc d : Thread nD τ) (accM.slice (Rect.unit (s := Sh 4096) off size inb) hu) (.dma sS) hsc)}
    {k : PUnit → Prog (TpuEff nD τ sig (Elt F) Λ₀ .tc) α}
    (q : Fin 111) (hi : starts[i]? = some q) (hj : q ∉ waits.take j) (hq : q.val < 39) (hk : ¬ q.val % 13 < 6)
    (hd : d = prt q c) (hs : sS = q) (hr : sR = rcv q)
    (ha : (accM.slice (Rect.unit (s := Sh 4096) off size inb) hu).view.dmaCredit = amt q)
    (ho : off = ![crow (q.val / 13) c (gch (q.val % 13)), 0]) (hz : size = ![ch (q.val / 13), 1024])
    (hrow : crow (q.val / 13) (prt q c) (lch (q.val % 13)) = crow (q.val / 13) c (gch (q.val % 13))) :
    iprop(Rec X K ∗ St X c i j ∗ At (F := F) accM c (crow (q.val / 13) c (gch (q.val % 13))) (ch (q.val / 13)) (qsend (q.val % 13)) (OUT X)
        ∗ Any (F := F) accM (prt q c) (crow (q.val / 13) (prt q c) (lch (q.val % 13))) (ch (q.val / 13)))
      ⊢ iprop((St X c (i + 1) j -∗ WP c (k ⟨⟩) Q)
        -∗ WP c (.op (.enqueueDma (accM.slice (Rect.unit (s := Sh 4096) off size inb) hu)
            (.remote (Dev.tc d : Thread nD τ) (accM.slice (Rect.unit (s := Sh 4096) off size inb) hu) (.dma sS) hsc) (.dma sR) hsrc hdst hsem) k) Q) := by
  subst hs; subst hr; subst hd
  iintro ⟨#HR, HS, HX, HD⟩ Hk
  ihave HS := (St_start X hi hj) $$ HS
  unfold tokR
  rw [if_pos hq]
  icases HS with ⟨⟨HT1, HT2⟩, -, ⟨%W, HO⟩, HS⟩
  rw [hrow]
  ihave HD := (Any_slice (inb := inb) (hu := hu) ho hz) $$ HD
  icases HD with ⟨%fd, HD⟩
  ihave HX := (At_slice (inb := inb) (hu := hu) ho hz) $$ HX
  icases HX with ⟨%fs, %hfs, HX⟩
  have hrv : recvFrom X (sS.val / 13) (sS.val % 13) c (prt sS c)
      = At (F := F) accM (prt sS c) (crow (sS.val / 13) (prt sS c) (lch (sS.val % 13))) (ch (sS.val / 13)) fullShare (OUT X) := by
    have h6 : 6 ≤ sS.val % 13 := Nat.le_of_not_lt hk
    generalize sS.val % 13 = k at h6
    match k, h6 with
    | n + 6, _ => rfl
  iapply (Rounds.wp_send_pointsTo 𝒱₀ ER (Rd X) (c : Thread nD τ) none (sS := .dma sS) (sem := .dma (rcv sS)) (κ₁ := K (c, .dma sS)) (κ₂ := K (prt sS c, .dma (rcv sS)))
    (r₁ := 0) (r₂ := 0) (d₁ := 0) (d₂ := 0) (fd := fd) (fs := fs) (W := W) (O₀ := owedL c (sS :: starts.drop (i + 1)))
    (by rw [duties_cell]; exact Finset.mem_singleton_self _) (by rw [duties_cell]; exact Finset.mem_singleton_self _)
    () () (amt sS) ha (amount_cell X c sS 0) ((amount_cell X (prt sS c) (rcv sS) 0).trans (amt_rcv sS hq))
    (owedL c (starts.drop (i + 1))) (by show owedL c _ + _ = _; rw [if_pos hq])
    (by rw [payload_cell, pay_snd X sS hq]; unfold sendPay; rw [if_neg hk]; exact slice_At ho hz hfs)
    (by rw [payload_cell, pay_rcv X sS hq, hrv, hrow]
        exact written_At ho hz hfs)) $$ [HX HD HO HT1 HT2]
  · isplitr; · iapply (Rec_inv c (.dma sS)); iexact HR
    isplitr; · iapply (Rec_inv (prt sS c) (.dma (rcv sS))); iexact HR
    isplitl [HX]; · iexact HX
    isplitl [HD]; · iexact HD
    isplitl [HO]; · iexact HO
    isplitl [HT1]; · iexact HT1
    isplitr; · iapply (Rec_reached c (.dma sS)); iexact HR
    isplitl [HT2]; · iexact HT2
    iapply (Rec_reached (prt sS c) (.dma (rcv sS))); iexact HR
  iintro ⟨HC, HO⟩
  iapply Hk
  iapply HS
  isplitl [HC]; · iexact HC
  iexists W; iexact HO

/-- Starting a copy of rows of the argument into the working buffer. -/
theorem step_in {α : Type} {Q : α → sProp 𝕄} {sem : DmaSem sig}
    {hsrc : (xM.slice (Rect.unit (s := Sh 4096) off size inb) hu).view.WordExact}
    {hdst : (xvM.slice (Rect.unit (s := Sh 4096) off size inb) hu).view.WordExact}
    {hsem : DmaTarget.Typed (nD := nD) .hbm (.dma sem) (.here (p := Proc.tc) (xvM.slice (Rect.unit (s := Sh 4096) off size inb) hu))}
    {k : PUnit → Prog (TpuEff nD τ sig (Elt F) Λ₀ .tc) α}
    (q : Fin 111) (hi : starts[i]? = some q) (hj : q ∉ waits.take j) (hq : 78 ≤ q.val ∧ q.val < 87) (hs : sem = q)
    (ha : (xvM.slice (Rect.unit (s := Sh 4096) off size inb) hu).view.dmaCredit = amt q)
    (ho : off = ![cinRow (q.val - 78) c, 0]) (hz : size = ![cinN (q.val - 78), 1024]) :
    iprop(Rec X K ∗ St X c i j)
      ⊢ iprop((St X c (i + 1) j -∗ WP c (k ⟨⟩) Q)
        -∗ WP c (.op (.enqueueDma (xM.slice (Rect.unit (s := Sh 4096) off size inb) hu)
            (.here (xvM.slice (Rect.unit (s := Sh 4096) off size inb) hu)) (.dma sem) hsrc hdst hsem) k) Q) := by
  subst hs
  iintro ⟨#HR, HS⟩ Hk
  ihave HS := (St_start X hi hj) $$ HS
  have h39 : ¬ sem.val < 39 := by omega
  unfold tokR destR
  rw [if_neg h39, if_neg h39, if_pos hq.2]
  icases HS with ⟨HT, ⟨HD, HX⟩, ⟨%W, HO⟩, HS⟩
  ihave HD := (Any_slice (inb := inb) (hu := hu) ho hz) $$ HD
  icases HD with ⟨%fd, HD⟩
  ihave HX := (At_slice (inb := inb) (hu := hu) ho hz) $$ HX
  icases HX with ⟨%fs, %hfs, HX⟩
  iapply (Rounds.wp_copy_pointsTo 𝒱₀ ER (Rd X) (c : Thread nD τ) none (sem := .dma sem) (κ := K (c, .dma sem)) (r := 0) (d := 0) (fd := fd) (fs := fs)
    (by rw [duties_cell]; exact Finset.mem_singleton_self _) () (amt sem) ha (amount_cell X c sem 0)
    (by rw [payload_cell]; unfold pay cinPay; rw [if_neg h39, if_neg (by omega), if_pos hq.2]
        exact BIClass.sep_mono (written_At ho hz hfs) (slice_At ho hz hfs))) $$ [HX HD HT]
  · isplitr; · iapply (Rec_inv c (.dma sem)); iexact HR
    isplitl [HX]; · iexact HX
    isplitl [HD]; · iexact HD
    isplitl [HT]; · iexact HT
    iapply (Rec_reached c (.dma sem)); iexact HR
  iintro HC
  iapply Hk
  iapply HS
  isplitl [HC]; · iexact HC
  iexists W
  rw [show owedL c (sem :: starts.drop (i + 1)) = owedL c (starts.drop (i + 1)) by show owedL c _ + _ = _; rw [if_neg h39, add_zero]]
  iexact HO

/-- Starting a copy of a finished chunk into the result. -/
theorem step_out {α : Type} {Q : α → sProp 𝕄} {sem : DmaSem sig}
    {hsrc : (accM.slice (Rect.unit (s := Sh 4096) off size inb) hu).view.WordExact}
    {hdst : (oM.slice (Rect.unit (s := Sh 4096) off size inb) hu).view.WordExact}
    {hsem : DmaTarget.Typed (nD := nD) .vmem (.dma sem) (.here (p := Proc.tc) (oM.slice (Rect.unit (s := Sh 4096) off size inb) hu))}
    {k : PUnit → Prog (TpuEff nD τ sig (Elt F) Λ₀ .tc) α}
    (q : Fin 111) (hi : starts[i]? = some q) (hj : q ∉ waits.take j) (hq : 87 ≤ q.val) (hs : sem = q)
    (ha : (oM.slice (Rect.unit (s := Sh 4096) off size inb) hu).view.dmaCredit = amt q)
    (ho : off = ![crow (outS (q.val - 87)) c (outJ (q.val - 87)), 0]) (hz : size = ![ch (outS (q.val - 87)), 1024]) :
    iprop(Rec X K ∗ St X c i j ∗ At (F := F) accM c (crow (outS (q.val - 87)) c (outJ (q.val - 87))) (ch (outS (q.val - 87))) (qout (outJ (q.val - 87))) (OUT X))
      ⊢ iprop((St X c (i + 1) j -∗ WP c (k ⟨⟩) Q)
        -∗ WP c (.op (.enqueueDma (accM.slice (Rect.unit (s := Sh 4096) off size inb) hu)
            (.here (oM.slice (Rect.unit (s := Sh 4096) off size inb) hu)) (.dma sem) hsrc hdst hsem) k) Q) := by
  subst hs
  iintro ⟨#HR, HS, HX⟩ Hk
  ihave HS := (St_start X hi hj) $$ HS
  have h39 : ¬ sem.val < 39 := by omega
  have h87 : ¬ sem.val < 87 := by omega
  unfold tokR destR
  rw [if_neg h39, if_neg h39, if_neg h87]
  icases HS with ⟨HT, HD, ⟨%W, HO⟩, HS⟩
  ihave HD := (Any_slice (inb := inb) (hu := hu) ho hz) $$ HD
  icases HD with ⟨%fd, HD⟩
  ihave HX := (At_slice (inb := inb) (hu := hu) ho hz) $$ HX
  icases HX with ⟨%fs, %hfs, HX⟩
  iapply (Rounds.wp_copy_pointsTo 𝒱₀ ER (Rd X) (c : Thread nD τ) none (sem := .dma sem) (κ := K (c, .dma sem)) (r := 0) (d := 0) (fd := fd) (fs := fs)
    (by rw [duties_cell]; exact Finset.mem_singleton_self _) () (amt sem) ha (amount_cell X c sem 0)
    (by rw [payload_cell]; unfold pay outPay; rw [if_neg h39, if_neg (by omega), if_neg h87]
        exact BIClass.sep_mono (written_At ho hz hfs) (slice_At ho hz hfs))) $$ [HX HD HT]
  · isplitr; · iapply (Rec_inv c (.dma sem)); iexact HR
    isplitl [HX]; · iexact HX
    isplitl [HD]; · iexact HD
    isplitl [HT]; · iexact HT
    iapply (Rec_reached c (.dma sem)); iexact HR
  iintro HC
  iapply Hk
  iapply HS
  isplitl [HC]; · iexact HC
  iexists W
  rw [show owedL c (sem :: starts.drop (i + 1)) = owedL c (starts.drop (i + 1)) by show owedL c _ + _ = _; rw [if_neg h39, add_zero]]
  iexact HO
end

end Cert.KernelIdeal.Sum
-- ==== Proof.Ops.lean ====
module

public import proofs.«01_k».proof.Proof.Steps

/-! The steps of `Steps` in the form in which the body uses them. The offsets and the addressed device
    are functions of the device, and what is to be checked about them is checked for the eight devices at
    once. -/

@[expose] public section
noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable {X : Dev nD → FVec F (Sh 4096) .f32} {K : Dev nD × SemLoc sig → ℕ} {c : Dev nD} {α : Type}
  {k : PUnit → Prog (TpuEff nD τ sig (Elt F) Λ₀ .tc) α}

/-- Where a device stands after its first `i` starts and `j` waits, with the records of all cells. -/
def Now (X : Dev nD → FVec F (Sh 4096) .f32) (K : Dev nD × SemLoc sig → ℕ) (c : Dev nD) (i j : ℕ) : sProp 𝕄 :=
  iprop(Rec X K ∗ St X c i j)

/-- The wait for a copy into this device: what the cell hands out comes out. -/
theorem op_wait_pay (i j : ℕ) (q : Fin 111) {Q : α → sProp 𝕄} {sp sp' : Space} {s' : Shape} {e' : EltTy}
    {src : Memref sig .tc sp' s' e'} {dst : Memref sig .tc sp (Sh (rowsOf q)) (eltOf q)} {hsrc : src.view.WordExact} {hdst : dst.view.WordExact}
    (hj : waits[j]? = some q := by decide) (hi : q ∈ starts.take i ∨ (39 ≤ q.val ∧ q.val < 78 ∧ q ∉ starts.take i) := by decide)
    (hl : ∀ p ∈ starts.drop i, p.val < 39 → slev q.val < slev (rcv p).val := by decide)
    (hq : 39 ≤ q.val ∧ q.val < 87 := by decide) :
    Now X K c i j
      ⊢ iprop(((Now X K c i (j + 1) ∗ pay X q c) -∗ WP c (k ⟨⟩) Q)
        -∗ WP c (.op (.waitDma2 q src dst hsrc hdst) k) Q) := by
  have h := step_wait (X := X) (K := K) (c := c) (i := i) (Q := Q) (src := src) (dst := dst) (hsrc := hsrc) (hdst := hdst) (k := k) hj hi hl rfl (show RefSig.tileCredit (Sh (rowsOf q)) (eltOf q) = amt q from rfl)
  rw [if_pos hq] at h
  unfold Now
  iintro ⟨#HR, HS⟩ Hk
  iapply h $$ [HS]
  · isplitr; · iexact HR
    iexact HS
  iintro ⟨HS, HP⟩
  iapply Hk
  isplitl [HS]
  · isplitr; · iexact HR
    iexact HS
  · iexact HP

/-- The wait for a copy out of this device. -/
theorem op_done (i j : ℕ) (q : Fin 111) {Q : α → sProp 𝕄} {sp sp' : Space} {s' : Shape} {e' : EltTy}
    {src : Memref sig .tc sp' s' e'} {dst : Memref sig .tc sp (Sh (rowsOf q)) (eltOf q)} {hsrc : src.view.WordExact} {hdst : dst.view.WordExact}
    (hj : waits[j]? = some q := by decide) (hi : q ∈ starts.take i ∨ (39 ≤ q.val ∧ q.val < 78 ∧ q ∉ starts.take i) := by decide)
    (hl : ∀ p ∈ starts.drop i, p.val < 39 → slev q.val < slev (rcv p).val := by decide)
    (hq : ¬ (39 ≤ q.val ∧ q.val < 87) := by decide) :
    Now X K c i j
      ⊢ iprop((Now X K c i (j + 1) -∗ WP c (k ⟨⟩) Q)
        -∗ WP c (.op (.waitDma2 q src dst hsrc hdst) k) Q) := by
  have h := step_wait (X := X) (K := K) (c := c) (i := i) (Q := Q) (src := src) (dst := dst) (hsrc := hsrc) (hdst := hdst) (k := k) hj hi hl rfl (show RefSig.tileCredit (Sh (rowsOf q)) (eltOf q) = amt q from rfl)
  rw [if_neg hq] at h
  unfold Now
  iintro ⟨#HR, HS⟩ Hk
  iapply h $$ [HS]
  · isplitr; · iexact HR
    iexact HS
  iintro ⟨HS, -⟩
  iapply Hk
  isplitr; · iexact HR
  iexact HS

/-- The wait for a piece of the argument. -/
theorem op_got (i j a : ℕ) (q : Fin 111) {Q : α → sProp 𝕄} {sp sp' : Space} {s' : Shape} {e' : EltTy}
    {src : Memref sig .tc sp' s' e'} {dst : Memref sig .tc sp (Sh (rowsOf q)) (eltOf q)} {hsrc : src.view.WordExact} {hdst : dst.view.WordExact}
    (hj : waits[j]? = some q := by decide) (hi : q ∈ starts.take i ∨ (39 ≤ q.val ∧ q.val < 78 ∧ q ∉ starts.take i) := by decide)
    (hl : ∀ p ∈ starts.drop i, p.val < 39 → slev q.val < slev (rcv p).val := by decide)
    (hq : 78 ≤ q.val ∧ q.val < 87 := by decide) (ha : q.val - 78 = a := by decide) :
    Now X K c i j
      ⊢ iprop(((Now X K c i (j + 1) ∗ cinPay X a c) -∗ WP c (k ⟨⟩) Q)
        -∗ WP c (.op (.waitDma2 q src dst hsrc hdst) k) Q) := by
  have h := op_wait_pay (X := X) (K := K) (c := c) i j q (Q := Q) (src := src) (dst := dst) (hsrc := hsrc) (hdst := hdst) (k := k) hj hi hl ⟨by omega, hq.2⟩
  have hp : pay X q c = cinPay X a c := by unfold pay; rw [if_neg (by omega), if_neg (by omega), if_pos hq.2, ha]
  rwa [hp] at h

/-- The wait for a copy from a partner. -/
theorem op_recv (i j s m a : ℕ) (q : Fin 111) {Q : α → sProp 𝕄} {sp sp' : Space} {s' : Shape} {e' : EltTy}
    {src : Memref sig .tc sp' s' e'} {dst : Memref sig .tc sp (Sh (rowsOf q)) (eltOf q)} {hsrc : src.view.WordExact} {hdst : dst.view.WordExact}
    (hj : waits[j]? = some q := by decide) (hi : q ∈ starts.take i ∨ (39 ≤ q.val ∧ q.val < 78 ∧ q ∉ starts.take i) := by decide)
    (hl : ∀ p ∈ starts.drop i, p.val < 39 → slev q.val < slev (rcv p).val := by decide)
    (hq : 39 ≤ q.val ∧ q.val < 78 := by decide) (hs : (q.val - 39) / 13 = s := by decide) (hm : (q.val - 39) % 13 = m := by decide)
    (ha : lvl m = a := by decide) :
    Now X K c i j
      ⊢ iprop(((Now X K c i (j + 1) ∗ recvFrom X s m (part s a c) c) -∗ WP c (k ⟨⟩) Q)
        -∗ WP c (.op (.waitDma2 q src dst hsrc hdst) k) Q) := by
  subst ha
  have h := op_wait_pay (X := X) (K := K) (c := c) i j q (Q := Q) (src := src) (dst := dst) (hsrc := hsrc) (hdst := hdst) (k := k) hj hi hl ⟨hq.1, by omega⟩
  have hp : pay X q c = recvFrom X s m (part s (lvl m) c) c := by unfold pay; rw [if_neg (by omega), if_pos hq.2, hs, hm]
  rwa [hp] at h

section received
variable {s : ℕ} {d : Dev nD}

/-- What the first copy of a stream brings. -/
theorem recv_0 : recvFrom X s 0 d c ⊢ iprop(Landed s 0 c (prow s c 2) (2 * ch s) (V0 X d)
    ∗ Any (F := F) accM d (crow s d 6) (ch s) ∗ Any (F := F) accM d (crow s d 7) (ch s)) := BI.Entails.refl _
/-- What the second copy of a stream brings. -/
theorem recv_1 : recvFrom X s 1 d c ⊢ iprop(Landed s 0 c (crow s c 1) (ch s) (V0 X d) ∗ Any (F := F) accM d (crow s d 5) (ch s)) := BI.Entails.refl _
/-- What the third copy of a stream brings. -/
theorem recv_2 : recvFrom X s 2 d c ⊢ iprop(Landed s 0 c (crow s c 0) (ch s) (V0 X d) ∗ Any (F := F) accM d (crow s d 4) (ch s)) := BI.Entails.refl _
/-- What the fourth copy of a stream brings. -/
theorem recv_3 : recvFrom X s 3 d c ⊢ iprop(Landed s 1 c (crow s c 1) (ch s) (V1 X s d) ∗ Any (F := F) accM d (crow s d 3) (ch s)) := BI.Entails.refl _
/-- What the fifth copy of a stream brings. -/
theorem recv_4 : recvFrom X s 4 d c ⊢ iprop(Landed s 1 c (crow s c 0) (ch s) (V1 X s d) ∗ Any (F := F) accM d (crow s d 2) (ch s)) := BI.Entails.refl _
/-- What the sixth copy of a stream brings. -/
theorem recv_5 : recvFrom X s 5 d c ⊢ iprop(Landed s 2 c (crow s c 0) (ch s) (V2 X s d) ∗ Any (F := F) accM d (crow s d 1) (ch s)) := BI.Entails.refl _
/-- What a later copy of a stream brings: one finished chunk. -/
theorem recv_chunk (k : ℕ) (j : ℕ) (hj : lch (k + 6) = j := by decide) : recvFrom X s (k + 6) d c ⊢ At (F := F) accM c (crow s c j) (ch s) fullShare (OUT X) := by
  subst hj; exact BI.Entails.refl _

end received

/-- The copy of a piece of the argument into its buffer starts. -/
theorem op_in (i j : ℕ) (q : Fin 111) (off : Dev nD → Fin 2 → ℕ) (n : ℕ) {Q : α → sProp 𝕄}
    {inb : ∀ a, off c a + (Sh n).size a ≤ (Sh 4096).size a} {hu : ∀ a, (Rect.unit (s := Sh 4096) (off c) (Sh n).size inb).stride a = 1}
    {hsrc : (xM.slice (Rect.unit (s := Sh 4096) (off c) (Sh n).size inb) hu).view.WordExact}
    {hdst : (xvM.slice (Rect.unit (s := Sh 4096) (off c) (Sh n).size inb) hu).view.WordExact}
    {hsem : DmaTarget.Typed (nD := nD) .hbm (.dma q) (.here (p := Proc.tc) (xvM.slice (Rect.unit (s := Sh 4096) (off c) (Sh n).size inb) hu))}
    (hi : starts[i]? = some q := by decide) (hj : q ∉ waits.take j := by decide) (hq : 78 ≤ q.val ∧ q.val < 87 := by decide)
    (ho : ∀ c, off c = ![cinRow (q.val - 78) c, 0] := by decide) (hz : n = cinN (q.val - 78) := by decide) (hr : rowsOf q = n := by decide)
    (he : eltOf q = .f32 := by decide) :
    Now X K c i j
      ⊢ iprop((Now X K c (i + 1) j -∗ WP c (k ⟨⟩) Q)
        -∗ WP c (.op (.enqueueDma (xM.slice (Rect.unit (s := Sh 4096) (off c) (Sh n).size inb) hu)
            (.here (xvM.slice (Rect.unit (s := Sh 4096) (off c) (Sh n).size inb) hu)) (.dma q) hsrc hdst hsem) k) Q) := by
  unfold Now
  iintro ⟨#HR, HS⟩ Hk
  iapply (step_in q hi hj hq rfl (by unfold amt; rw [hr, he]; rfl) (ho c) (by rw [← hz])) $$ [HS]
  · isplitr; · iexact HR
    iexact HS
  iintro HS
  iapply Hk
  isplitr; · iexact HR
  iexact HS

/-- The copy of a finished chunk into the result starts. -/
theorem op_out (i j s l : ℕ) (q : Fin 111) (off : Dev nD → Fin 2 → ℕ) (n : ℕ) (qs : PosShare TreeShare) {Q : α → sProp 𝕄}
    {inb : ∀ a, off c a + (Sh n).size a ≤ (Sh 4096).size a} {hu : ∀ a, (Rect.unit (s := Sh 4096) (off c) (Sh n).size inb).stride a = 1}
    {hsrc : (accM.slice (Rect.unit (s := Sh 4096) (off c) (Sh n).size inb) hu).view.WordExact}
    {hdst : (oM.slice (Rect.unit (s := Sh 4096) (off c) (Sh n).size inb) hu).view.WordExact}
    {hsem : DmaTarget.Typed (nD := nD) .vmem (.dma q) (.here (p := Proc.tc) (oM.slice (Rect.unit (s := Sh 4096) (off c) (Sh n).size inb) hu))}
    (hi : starts[i]? = some q := by decide) (hj : q ∉ waits.take j := by decide) (hq : 87 ≤ q.val := by decide)
    (hs : outS (q.val - 87) = s := by decide) (hl : outJ (q.val - 87) = l := by decide)
    (ho : ∀ c, off c = ![crow s c l, 0] := by decide) (hz : n = ch s := by decide) (hr : rowsOf q = n := by decide)
    (he : eltOf q = .bf16 := by decide) (hqs : qout l = qs := by rfl) :
    Now X K c i j
      ⊢ iprop(At (F := F) accM c (crow s c l) (ch s) qs (OUT X) -∗ (Now X K c (i + 1) j -∗ WP c (k ⟨⟩) Q)
        -∗ WP c (.op (.enqueueDma (accM.slice (Rect.unit (s := Sh 4096) (off c) (Sh n).size inb) hu)
            (.here (oM.slice (Rect.unit (s := Sh 4096) (off c) (Sh n).size inb) hu)) (.dma q) hsrc hdst hsem) k) Q) := by
  subst hqs; subst hs; subst hl
  unfold Now
  iintro ⟨#HR, HS⟩ HA Hk
  iapply (step_out q hi hj hq rfl (by unfold amt; rw [hr, he]; rfl) (ho c) (by rw [← hz])) $$ [HS HA]
  · isplitr; · iexact HR
    isplitl [HS]; · iexact HS
    iexact HA
  iintro HS
  iapply Hk
  isplitr; · iexact HR
  iexact HS

/-- A remote copy of finished rows into the same rows of the partner starts. -/
theorem op_share (i j s m a g r : ℕ) (q q' : Fin 111) (off : Dev nD → Fin 2 → ℕ) (d : Dev nD → Dev nD) (n : ℕ) {Q : α → sProp 𝕄}
    {inb : ∀ a, off c a + (Sh n).size a ≤ (Sh 4096).size a} {hu : ∀ a, (Rect.unit (s := Sh 4096) (off c) (Sh n).size inb).stride a = 1}
    {hsc : (show Memref sig (Dev.tc (d c) : Thread nD τ).2.kind .vmem _ .bf16 from accM.slice (Rect.unit (s := Sh 4096) (off c) (Sh n).size inb) hu).view.ref.isScScratch = false}
    {hsrc : (accM.slice (Rect.unit (s := Sh 4096) (off c) (Sh n).size inb) hu).view.WordExact}
    {hdst : (accM.slice (Rect.unit (s := Sh 4096) (off c) (Sh n).size inb) hu).view.WordExact}
    {hsem : DmaTarget.Typed .vmem (.dma q') (.remote (Dev.tc (d c) : Thread nD τ) (accM.slice (Rect.unit (s := Sh 4096) (off c) (Sh n).size inb) hu) (.dma q) hsc)}
    (hi : starts[i]? = some q := by decide) (hj : q ∉ waits.take j := by decide) (hq : q.val < 39 := by decide) (hk : ¬ q.val % 13 < 6 := by decide)
    (hs : q.val / 13 = s := by decide) (hm : q.val % 13 = m := by decide)
    (hd : ∀ c, d c = prt q c := by decide) (hr : q' = rcv q := by decide)
    (ho : ∀ c, off c = ![crow s c (gch m), 0] := by decide) (hz : n = ch s := by decide)
    (hrow : ∀ c, crow s (prt q c) (lch m) = crow s c (gch m) := by decide) (hn : rowsOf q = n := by decide)
    (he : eltOf q = .bf16 := by decide)
    (ha : lvl m = a := by decide) (hg : gch m = g := by decide) (hb : lch m = r := by decide) :
    Now X K c i j
      ⊢ iprop(At (F := F) accM c (crow s c g) (ch s) (qsend m) (OUT X) -∗ Any (F := F) accM (part s a c) (crow s (part s a c) r) (ch s) -∗ (Now X K c (i + 1) j -∗ WP c (k ⟨⟩) Q)
        -∗ WP c (.op (.enqueueDma (accM.slice (Rect.unit (s := Sh 4096) (off c) (Sh n).size inb) hu)
            (.remote (Dev.tc (d c) : Thread nD τ) (accM.slice (Rect.unit (s := Sh 4096) (off c) (Sh n).size inb) hu) (.dma q) hsc) (.dma q') hsrc hdst hsem) k) Q) := by
  subst ha; subst hg; subst hb; subst hs; subst hm
  unfold Now
  iintro ⟨#HR, HS⟩ HA HB Hk
  iapply (step_share q hi hj hq hk (hd c) rfl hr (by unfold amt; rw [hn, he]; rfl) (ho c) (by rw [← hz]) (hrow c)) $$ [HS HA HB]
  · isplitr; · iexact HR
    isplitl [HS]; · iexact HS
    isplitl [HA]; · iexact HA
    iexact HB
  iintro HS
  iapply Hk
  isplitr; · iexact HR
  iexact HS

/-- A remote copy of rows of the accumulator into the partner's buffer starts. -/
theorem op_send (i j s m : ℕ) (q q' : Fin 111) (off off' : Dev nD → Fin 2 → ℕ) (d : Dev nD → Dev nD) (n : ℕ)
    (row : Dev nD → ℕ) (N : ℕ) (V : FVec F (Sh 4096) .bf16) {Q : α → sProp 𝕄}
    {inb : ∀ a, off c a + (Sh n).size a ≤ (Sh 4096).size a} {hu : ∀ a, (Rect.unit (s := Sh 4096) (off c) (Sh n).size inb).stride a = 1}
    {inb' : ∀ a, off' c a + (Sh n).size a ≤ (Sh (rsR s (lvl m))).size a} {hu' : ∀ a, (Rect.unit (s := Sh (rsR s (lvl m))) (off' c) (Sh n).size inb').stride a = 1}
    {hsc : (show Memref sig (Dev.tc (d c) : Thread nD τ).2.kind .vmem _ .bf16 from (rsM s (lvl m)).slice (Rect.unit (s := Sh (rsR s (lvl m))) (off' c) (Sh n).size inb') hu').view.ref.isScScratch = false}
    {hsrc : (accM.slice (Rect.unit (s := Sh 4096) (off c) (Sh n).size inb) hu).view.WordExact}
    {hdst : ((rsM s (lvl m)).slice (Rect.unit (s := Sh (rsR s (lvl m))) (off' c) (Sh n).size inb') hu').view.WordExact}
    {hsem : DmaTarget.Typed .vmem (.dma q') (.remote (Dev.tc (d c) : Thread nD τ) ((rsM s (lvl m)).slice (Rect.unit (s := Sh (rsR s (lvl m))) (off' c) (Sh n).size inb') hu') (.dma q) hsc)}
    (hi : starts[i]? = some q := by decide) (hj : q ∉ waits.take j := by decide) (hq : q.val < 39 := by decide) (hk : q.val % 13 < 6 := by decide)
    (hs : q.val / 13 = s := by decide) (hm : q.val % 13 = m := by decide)
    (hd : ∀ c, d c = prt q c := by decide) (hr : q' = rcv q := by decide)
    (ho : ∀ c, off c = ![srcRow s m c, 0] := by decide)
    (ho' : ∀ c, off' c = ![dstRow s m (prt q c) - keep s (lvl m) (prt q c), 0] := by decide) (hz : n = sndN s m := by decide)
    (hrow : ∀ c, (dstRow s m (prt q c) - keep s (lvl m) (prt q c)) + keep s (lvl m) (prt q c) = srcRow s m c := by decide)
    (hn : rowsOf q = n := by decide) (he : eltOf q = .bf16 := by decide)
    (hro : ∀ c, srcRow s m c = row c := by decide) (hN : sndN s m = N := by decide) (hV : sndV X s m c = V := by rfl) :
    Now X K c i j
      ⊢ iprop(At (F := F) accM c (row c) N fullShare V -∗ (Now X K c (i + 1) j -∗ WP c (k ⟨⟩) Q)
        -∗ WP c (.op (.enqueueDma (accM.slice (Rect.unit (s := Sh 4096) (off c) (Sh n).size inb) hu)
            (.remote (Dev.tc (d c) : Thread nD τ) ((rsM s (lvl m)).slice (Rect.unit (s := Sh (rsR s (lvl m))) (off' c) (Sh n).size inb') hu') (.dma q) hsc) (.dma q') hsrc hdst hsem) k) Q) := by
  rw [← hro c]; subst hN; subst hV; subst hs; subst hm
  unfold Now
  iintro ⟨#HR, HS⟩ HA Hk
  iapply (step_send q hi hj hq hk (hd c) rfl hr (by unfold amt; rw [hn, he]; rfl) rfl (ho c) (ho' c) (by rw [← hz]) (hrow c)) $$ [HS HA]
  · isplitr; · iexact HR
    isplitl [HS]; · iexact HS
    iexact HA
  iintro HS
  iapply Hk
  isplitr; · iexact HR
  iexact HS

/-- The remote copy of one chunk into the partner's last landing buffer starts. -/
theorem op_send_whole (i j s : ℕ) (q q' : Fin 111) (off : Dev nD → Fin 2 → ℕ) (d : Dev nD → Dev nD) {Q : α → sProp 𝕄}
    {inb : ∀ a, off c a + (Sh (rsR s 2)).size a ≤ (Sh 4096).size a} {hu : ∀ a, (Rect.unit (s := Sh 4096) (off c) (Sh (rsR s 2)).size inb).stride a = 1}
    {hsc : (show Memref sig (Dev.tc (d c) : Thread nD τ).2.kind .vmem _ .bf16 from rsM s 2).view.ref.isScScratch = false}
    {hsrc : (accM.slice (Rect.unit (s := Sh 4096) (off c) (Sh (rsR s 2)).size inb) hu).view.WordExact}
    {hdst : (rsM s 2).view.WordExact}
    {hsem : DmaTarget.Typed .vmem (.dma q') (.remote (Dev.tc (d c) : Thread nD τ) (rsM s 2) (.dma q) hsc)}
    (hW : (rsM s 2).IsWhole)
    (hi : starts[i]? = some q := by decide) (hj : q ∉ waits.take j := by decide) (hq : q.val < 39 := by decide) (hk : q.val % 13 = 5 := by decide)
    (hs : q.val / 13 = s := by decide)
    (hd : ∀ c, d c = prt q c := by decide) (hr : q' = rcv q := by decide)
    (ho : ∀ c, off c = ![crow s c 1, 0] := by decide) (hz : rsR s 2 = ch s := by decide)
    (hrow : ∀ c, crow s (prt q c) 0 = crow s c 1 := by decide)
    (hn : rowsOf q = rsR s 2 := by decide) (he : eltOf q = .bf16 := by decide) :
    Now X K c i j
      ⊢ iprop(At (F := F) accM c (crow s c 1) (ch s) fullShare (V2 X s c) -∗ (Now X K c (i + 1) j -∗ WP c (k ⟨⟩) Q)
        -∗ WP c (.op (.enqueueDma (accM.slice (Rect.unit (s := Sh 4096) (off c) (Sh (rsR s 2)).size inb) hu)
            (.remote (Dev.tc (d c) : Thread nD τ) (rsM s 2) (.dma q) hsc) (.dma q') hsrc hdst hsem) k) Q) := by
  subst hs
  unfold Now
  iintro ⟨#HR, HS⟩ HA Hk
  iapply (step_send_whole q hi hj hq hk (hd c) rfl hr (by unfold amt; rw [hn, he]) rfl hW (ho c) hz (hrow c)) $$ [HS HA]
  · isplitr; · iexact HR
    isplitl [HS]; · iexact HS
    iexact HA
  iintro HS
  iapply Hk
  isplitr; · iexact HR
  iexact HS

/-! ## Loads and stores -/

section access
variable {R : ℕ} {e : EltTy} (M : Memref sig .tc .vmem (Sh R) e)

/-- A load of rows whose contents are known. -/
theorem op_load (off : Dev nD → Fin 2 → ℕ) (lo lo' : Dev nD → ℕ) (n n' : ℕ) {q : PosShare TreeShare} {G : (Sh R).Idx → Elt F e} {Q : α → sProp 𝕄}
    {inb : ∀ a, off c a + (Sh n').size a ≤ (Sh R).size a} {hl : M.view.LoadsAt (Rect.unit (s := Sh R) (off c) (Sh n').size inb).toLoadRect}
    {k : ((Rect.unit (s := Sh R) (off c) (Sh n').size inb).shape.Idx → Elt F e) → Prog (TpuEff nD τ sig (Elt F) Λ₀ .tc) α}
    (ho : ∀ c, off c = ![lo' c, 0] := by decide) (h₁ : ∀ c, lo c ≤ lo' c := by decide) (h₂ : ∀ c, lo' c + n' ≤ lo c + n := by decide) :
    At (F := F) M c (lo c) n q G
      ⊢ iprop((At (F := F) M c (lo c) n q G -∗ WP c (k fun x => G ((Rect.unit (s := Sh R) (off c) (Sh n').size inb).emb x)) Q)
        -∗ WP c (.op (.load M (Rect.unit (s := Sh R) (off c) (Sh n').size inb).toLoadRect hl) k) Q) :=
  wp_load_rows (ho c) rfl (h₁ c) (h₂ c)

/-- A load of rows whose contents do not matter. -/
theorem op_peek (off : Dev nD → Fin 2 → ℕ) (lo : Dev nD → ℕ) (n m : ℕ) {Q : α → sProp 𝕄}
    {inb : ∀ a, off c a + (Sh n).size a ≤ (Sh R).size a} {hl : M.view.LoadsAt (Rect.unit (s := Sh R) (off c) (Sh n).size inb).toLoadRect}
    {k : ((Rect.unit (s := Sh R) (off c) (Sh n).size inb).shape.Idx → Elt F e) → Prog (TpuEff nD τ sig (Elt F) Λ₀ .tc) α}
    (ho : ∀ c, off c = ![lo c, 0] := by decide) (hmn : m = n := by decide) :
    Any (F := F) M c (lo c) m
      ⊢ iprop((∀ v, Any (F := F) M c (lo c) m -∗ WP c (k v) Q)
        -∗ WP c (.op (.load M (Rect.unit (s := Sh R) (off c) (Sh n).size inb).toLoadRect hl) k) Q) := by
  subst hmn
  iintro H Hk
  unfold Any
  icases H with ⟨%G, H⟩
  iapply (wp_load_rows (ho c) rfl (le_refl _) (le_refl _)) $$ H
  iintro H
  iapply Hk
  iexists G; iexact H

/-- A store over rows whose contents do not matter. -/
theorem op_store (off : Dev nD → Fin 2 → ℕ) (lo : Dev nD → ℕ) (n m : ℕ) (G : (Sh R).Idx → Elt F e) {Q : α → sProp 𝕄}
    {inb : ∀ a, off c a + (Sh n).size a ≤ (Sh R).size a}
    {w : (Rect.unit (s := Sh R) (off c) (Sh n).size inb).shape.Idx → Elt F e}
    {hx : (M.access (Rect.unit (s := Sh R) (off c) (Sh n).size inb)).Stores Finset.univ}
    {hm : (Finset.univ : Finset (Rect.unit (s := Sh R) (off c) (Sh n).size inb).shape.Idx) = Finset.univ ∨ ∀ a, (Rect.unit (s := Sh R) (off c) (Sh n).size inb).stride a = 1}
    (hw : w = fun x => G ((Rect.unit (s := Sh R) (off c) (Sh n).size inb).emb x))
    (ho : ∀ c, off c = ![lo c, 0] := by decide) (hmn : m = n := by decide) :
    Any (F := F) M c (lo c) m
      ⊢ iprop((At (F := F) M c (lo c) m fullShare G -∗ WP c (k ⟨⟩) Q)
        -∗ WP c (.op (.store M (Rect.unit (s := Sh R) (off c) (Sh n).size inb) w Finset.univ hx hm) k) Q) := by
  subst hmn
  exact wp_store_rows G (ho c) rfl (congrFun hw)

/-- A store over rows whose contents were known. -/
theorem op_restore (off : Dev nD → Fin 2 → ℕ) (lo : Dev nD → ℕ) (n m : ℕ) (G : (Sh R).Idx → Elt F e) {G' : (Sh R).Idx → Elt F e} {Q : α → sProp 𝕄}
    {inb : ∀ a, off c a + (Sh n).size a ≤ (Sh R).size a}
    {w : (Rect.unit (s := Sh R) (off c) (Sh n).size inb).shape.Idx → Elt F e}
    {hx : (M.access (Rect.unit (s := Sh R) (off c) (Sh n).size inb)).Stores Finset.univ}
    {hm : (Finset.univ : Finset (Rect.unit (s := Sh R) (off c) (Sh n).size inb).shape.Idx) = Finset.univ ∨ ∀ a, (Rect.unit (s := Sh R) (off c) (Sh n).size inb).stride a = 1}
    (hw : w = fun x => G ((Rect.unit (s := Sh R) (off c) (Sh n).size inb).emb x))
    (ho : ∀ c, off c = ![lo c, 0] := by decide) (hmn : m = n := by decide) :
    At (F := F) M c (lo c) m fullShare G'
      ⊢ iprop((At (F := F) M c (lo c) m fullShare G -∗ WP c (k ⟨⟩) Q)
        -∗ WP c (.op (.store M (Rect.unit (s := Sh R) (off c) (Sh n).size inb) w Finset.univ hx hm) k) Q) := by
  subst hmn
  exact At_any.trans (wp_store_rows G (ho c) rfl (congrFun hw))

end access

/-- A load of a piece of the argument, or of rows inside it. -/
theorem op_arg (a : ℕ) (off : Dev nD → Fin 2 → ℕ) (lo' : Dev nD → ℕ) (n' : ℕ) {Q : α → sProp 𝕄}
    {inb : ∀ a, off c a + (Sh n').size a ≤ (Sh 4096).size a} {hl : xvM.view.LoadsAt (Rect.unit (s := Sh 4096) (off c) (Sh n').size inb).toLoadRect}
    {k : ((Rect.unit (s := Sh 4096) (off c) (Sh n').size inb).shape.Idx → Elt F .f32) → Prog (TpuEff nD τ sig (Elt F) Λ₀ .tc) α}
    (ho : ∀ c, off c = ![lo' c, 0] := by decide) (h₁ : ∀ c, cinRow a c ≤ lo' c := by decide) (h₂ : ∀ c, lo' c + n' ≤ cinRow a c + cinN a := by decide) :
    cinPay X a c
      ⊢ iprop((cinPay X a c -∗ WP c (k fun x => X c ((Rect.unit (s := Sh 4096) (off c) (Sh n').size inb).emb x)) Q)
        -∗ WP c (.op (.load xvM (Rect.unit (s := Sh 4096) (off c) (Sh n').size inb).toLoadRect hl) k) Q) := by
  unfold cinPay
  iintro ⟨H, H'⟩ Hk
  iapply (wp_load_rows (ho c) rfl (h₁ c) (h₂ c)) $$ H
  iintro H
  iapply Hk
  isplitl [H]; · iexact H
  iexact H'

/-- A load of rows of a landing buffer, given by the rows of the accumulator they stand for. -/
theorem op_landed (s l : ℕ) (off off' : Dev nD → Fin 2 → ℕ) (lo lo' : Dev nD → ℕ) (n n' : ℕ) (inb : ∀ c a, off c a + (Sh n').size a ≤ (Sh 4096).size a)
    {V : FVec F (Sh 4096) .bf16} {Q : α → sProp 𝕄}
    {inb' : ∀ a, off' c a + (Sh n').size a ≤ (Sh (rsR s l)).size a} {hl : (rsM s l).view.LoadsAt (Rect.unit (s := Sh (rsR s l)) (off' c) (Sh n').size inb').toLoadRect}
    {k : ((Rect.unit (s := Sh (rsR s l)) (off' c) (Sh n').size inb').shape.Idx → Elt F .bf16) → Prog (TpuEff nD τ sig (Elt F) Λ₀ .tc) α}
    (ho : ∀ c, off c = ![lo' c, 0] := by decide) (ho' : ∀ c, off' c = ![lo' c - keep s l c, 0] := by decide)
    (h₁ : ∀ c, lo c - keep s l c ≤ lo' c - keep s l c := by decide) (h₂ : ∀ c, lo' c - keep s l c + n' ≤ lo c - keep s l c + n := by decide)
    (h₃ : ∀ c, lo' c - keep s l c + keep s l c = lo' c := by decide) :
    Landed (F := F) s l c (lo c) n V
      ⊢ iprop((Landed (F := F) s l c (lo c) n V -∗ WP c (k fun x => V ((Rect.unit (s := Sh 4096) (off c) (Sh n').size (inb c)).emb x)) Q)
        -∗ WP c (.op (.load (rsM s l) (Rect.unit (s := Sh (rsR s l)) (off' c) (Sh n').size inb').toLoadRect hl) k) Q) := by
  have h := wp_load_rows (F := F) (M := rsM s l) (c := c) (lo := lo c - keep s l c) (n := n) (q := fullShare)
    (G := shiftRows (rsR s l) (keep s l c) V) (Q := Q) (inb' := inb') (hl := hl) (k := k) (ho' c) rfl (h₁ c) (h₂ c)
  have hv : (fun x => shiftRows (rsR s l) (keep s l c) V ((Rect.unit (s := Sh (rsR s l)) (off' c) (Sh n').size inb').emb x))
      = fun x => V ((Rect.unit (s := Sh 4096) (off c) (Sh n').size (inb c)).emb x) :=
    funext (shiftRows_emb (ho c) (ho' c) (h₃ c))
  rwa [hv] at h

/-- Two neighbouring chunks of the accumulator, in whichever order they lie. -/
theorem At_two {lo a b : Dev nD → ℕ} {n m : ℕ} {V : FVec F (Sh 4096) .bf16} (hm : m = n + n := by decide)
    (h : ∀ c, (a c = lo c ∧ b c = lo c + n) ∨ (b c = lo c ∧ a c = lo c + n) := by decide) :
    At (F := F) accM c (lo c) m fullShare V ⊢ iprop(At (F := F) accM c (a c) n fullShare V ∗ At (F := F) accM c (b c) n fullShare V) := by
  subst hm
  rcases h c with ⟨h1, h2⟩ | ⟨h1, h2⟩
  · rw [h1, h2]; exact At_split
  · rw [h1, h2]; exact At_split.trans sep_comm.1

/-- The shares of the device's own chunk: three remote copies and the copy out read it. -/
theorem At_four {lo n : ℕ} {V : FVec F (Sh 4096) .bf16} :
    At (F := F) accM c lo n fullShare V
      ⊢ iprop(At (F := F) accM c lo n (qsend 6) V ∗ At (F := F) accM c lo n (qsend 7) V ∗ At (F := F) accM c lo n (qsend 8) V ∗ At (F := F) accM c lo n (qout 0) V) := by
  refine (At_share (PosShare.mem_left_op_right _)).trans (BIClass.sep_mono (BI.Entails.refl _) ?_)
  refine (At_share (PosShare.mem_left_op_right _)).trans (BIClass.sep_mono (BI.Entails.refl _) ?_)
  exact At_share (PosShare.mem_left_op_right _)

/-- The shares of the second chunk: two remote copies and the copy out read it. -/
theorem At_three {lo n : ℕ} {V : FVec F (Sh 4096) .bf16} :
    At (F := F) accM c lo n fullShare V
      ⊢ iprop(At (F := F) accM c lo n (qsend 9) V ∗ At (F := F) accM c lo n (qsend 10) V ∗ At (F := F) accM c lo n (qout 1) V) := by
  refine (At_share (PosShare.mem_left_op_right _)).trans (BIClass.sep_mono (BI.Entails.refl _) ?_)
  exact At_share (PosShare.mem_left_op_right _)

/-- The shares of a chunk that one remote copy and the copy out read. -/
theorem At_halves (m j : ℕ) {lo n : ℕ} {V : FVec F (Sh 4096) .bf16} (hm : qsend m = (fullShare : PosShare TreeShare).left := by rfl)
    (hj : qout j = (fullShare : PosShare TreeShare).right := by rfl) :
    At (F := F) accM c lo n fullShare V ⊢ iprop(At (F := F) accM c lo n (qsend m) V ∗ At (F := F) accM c lo n (qout j) V) := by
  rw [hm, hj]
  exact At_share (PosShare.mem_left_op_right _)

/-- The rows of an array that a rectangle of `n` rows reads. -/
abbrev rd {n : ℕ} {β : Type} (off : Fin 2 → ℕ) (inb : ∀ a, off a + (Sh n).size a ≤ (Sh 4096).size a) (V : (Sh 4096).Idx → β) : (Sh n).Idx → β :=
  fun x => V ((Rect.unit (s := Sh 4096) off (Sh n).size inb).emb x)

/-- The end of a part. -/
theorem op_ret {β : Type} {r : β} {Q : β → sProp 𝕄} : Q r ⊢ WP c (.ret r) Q := by
  unfold WP
  rw [wp_ret]
  iintro H
  imodintro
  iexact H

/-- A part of the body on this kernel's buffers and semaphores. -/
abbrev on {β : Type 1} (f : (arg0 : Memref sig .tc .hbm S4096x1024 .f32) → arg0.IsWhole → (arg1 : Memref sig .tc .hbm S4096x1024 .bf16) → arg1.IsWhole → (arg2 : Memref sig .tc .vmem S4096x1024 .bf16) → arg2.IsWhole → (arg3 : Memref sig .tc .vmem S4096x1024 .f32) → arg3.IsWhole → (arg4 : Memref sig .tc .vmem S704x1024 .bf16) → arg4.IsWhole → (arg5 : Memref sig .tc .vmem S352x1024 .bf16) → arg5.IsWhole → (arg6 : Memref sig .tc .vmem S176x1024 .bf16) → arg6.IsWhole → (arg7 : Memref sig .tc .vmem S704x1024 .bf16) → arg7.IsWhole → (arg8 : Memref sig .tc .vmem S352x1024 .bf16) → arg8.IsWhole → (arg9 : Memref sig .tc .vmem S176x1024 .bf16) → arg9.IsWhole → (arg10 : Memref sig .tc .vmem S640x1024 .bf16) → arg10.IsWhole → (arg11 : Memref sig .tc .vmem S320x1024 .bf16) → arg11.IsWhole → (arg12 : Memref sig .tc .vmem S160x1024 .bf16) → arg12.IsWhole →
    DmaSems sig S39 → DmaSems sig S39 → DmaSems sig S9 → DmaSems sig S24 → β) : β :=
  f (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14

end Cert.KernelIdeal.Sum
-- ==== Proof.Pieces.lean ====
/-
# Cutting a buffer in pieces

A buffer is cut in ranges of rows that lie next to each other once they are sorted, and put together
again from them. Which range comes first depends on the device; that the sorted ranges fit is a
computation.
-/
module

public import proofs.«01_k».proof.Proof.State

@[expose] public section

noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

/-- The ranges of `l` follow each other from row `lo` to row `hi`. -/
def runs : ℕ → List (ℕ × ℕ) → ℕ → Bool
  | lo, [], hi => lo == hi
  | lo, p :: l, hi => p.1 == lo && runs (lo + p.2) l hi

/-- A range put in its place among sorted ones. -/
def place (p : ℕ × ℕ) : List (ℕ × ℕ) → List (ℕ × ℕ)
  | [] => [p]
  | r :: l => if p.1 ≤ r.1 then p :: r :: l else r :: place p l
/-- The ranges in the order of their first rows. -/
def inOrder : List (ℕ × ℕ) → List (ℕ × ℕ)
  | [] => []
  | p :: l => place p (inOrder l)

theorem place_perm (p : ℕ × ℕ) : ∀ l, (place p l).Perm (p :: l)
  | [] => List.Perm.refl _
  | r :: l => by
    unfold place
    split
    · exact List.Perm.refl _
    · exact ((place_perm p l).cons r).trans (List.Perm.swap p r l)
theorem inOrder_perm : ∀ l, (inOrder l).Perm l
  | [] => List.Perm.refl _
  | p :: l => (place_perm p (inOrder l)).trans ((inOrder_perm l).cons p)

/-- The ranges of `l`, put in order, are the rows from 0 to `n`. -/
def fits (l : List (ℕ × ℕ)) (n : ℕ) : Bool := runs 0 (inOrder l) n

section
variable {M : Type} [URA M]

/-- The order of the factors does not matter. -/
theorem sepL_perm {I : Type} {Φ : I → sProp M} {l l' : List I} (h : l.Perm l') : bigSepL l Φ ⊢ bigSepL l' Φ := by
  induction h with
  | nil => exact BI.Entails.refl _
  | cons x _ ih => rw [bigSepL_cons', bigSepL_cons']; exact BIClass.sep_mono (BI.Entails.refl _) ih
  | swap x y l =>
    rw [bigSepL_cons', bigSepL_cons', bigSepL_cons', bigSepL_cons']
    iintro ⟨H1, H2, H3⟩
    isplitl [H2]; · iexact H2
    isplitl [H1] <;> iassumption
  | trans _ _ h1 h2 => exact h1.trans h2

theorem sepL_map {I J : Type} {Φ : J → sProp M} (f : I → J) (l : List I) : bigSepL (l.map f) Φ = bigSepL l fun i => Φ (f i) := by
  induction l with
  | nil => rfl
  | cons i l ih => rw [List.map_cons, bigSepL_cons', bigSepL_cons', ih]

theorem sepL_sep {I : Type} {Φ Ψ : I → sProp M} (l : List I) :
    bigSepL l (fun i => iprop(Φ i ∗ Ψ i)) ⊢ iprop(bigSepL l Φ ∗ bigSepL l Ψ) := by
  induction l with
  | nil => exact BIClass.emp_sep.mpr
  | cons i l ih =>
    rw [bigSepL_cons', bigSepL_cons', bigSepL_cons']
    iintro ⟨⟨H1, H2⟩, H⟩
    ihave H := ih $$ H
    icases H with ⟨H3, H4⟩
    isplitl [H1 H3]
    · isplitl [H1] <;> iassumption
    · isplitl [H2] <;> iassumption

theorem sepL_unsep {I : Type} {Φ Ψ : I → sProp M} (l : List I) :
    iprop(bigSepL l Φ ∗ bigSepL l Ψ) ⊢ bigSepL l (fun i => iprop(Φ i ∗ Ψ i)) := by
  induction l with
  | nil => exact BIClass.emp_sep.mp
  | cons i l ih =>
    rw [bigSepL_cons', bigSepL_cons', bigSepL_cons']
    iintro ⟨⟨H1, H3⟩, ⟨H2, H4⟩⟩
    isplitl [H1 H2]
    · isplitl [H1] <;> iassumption
    · iapply ih; isplitl [H3] <;> iassumption

variable (P : ℕ → ℕ → sProp M)

theorem cut_runs (hs : ∀ lo a b, P lo (a + b) ⊢ iprop(P lo a ∗ P (lo + a) b)) :
    ∀ (l : List (ℕ × ℕ)) (lo m : ℕ), runs lo l (lo + m) = true → P lo m ⊢ bigSepL l fun p => P p.1 p.2 := by
  intro l
  induction l with
  | nil => intro lo m _; iintro -; iempintro
  | cons p l ih =>
    intro lo m h
    rw [bigSepL_cons']
    unfold runs at h
    simp only [Bool.and_eq_true, beq_iff_eq] at h
    obtain ⟨h1, h2⟩ := h
    have hle : ∀ (l : List (ℕ × ℕ)) (a b : ℕ), runs a l b = true → a ≤ b := by
      intro l
      induction l with
      | nil => intro a b h; unfold runs at h; simp only [beq_iff_eq] at h; omega
      | cons p l ih => intro a b h; unfold runs at h; simp only [Bool.and_eq_true, beq_iff_eq] at h; have := ih _ _ h.2; omega
    have h3 := hle _ _ _ h2
    obtain ⟨d, rfl⟩ : ∃ d, m = p.2 + d := ⟨m - p.2, by omega⟩
    rw [h1]
    exact (hs lo p.2 d).trans (BIClass.sep_mono (BI.Entails.refl _) (ih (lo + p.2) d (by rw [Nat.add_assoc]; exact h2)))

theorem join_runs (hj : ∀ lo a b, iprop(P lo a ∗ P (lo + a) b) ⊢ P lo (a + b)) :
    ∀ (l : List (ℕ × ℕ)) (p : ℕ × ℕ) (lo m : ℕ), runs lo (p :: l) (lo + m) = true → bigSepL (p :: l) (fun p => P p.1 p.2) ⊢ P lo m := by
  intro l
  induction l with
  | nil =>
    intro p lo m h
    unfold runs runs at h
    simp only [Bool.and_eq_true, beq_iff_eq] at h
    obtain ⟨h1, h2⟩ := h
    have h3 : p.2 = m := by omega
    rw [bigSepL_cons', h1, h3]
    iintro ⟨H, -⟩
    iexact H
  | cons q l ih =>
    intro p lo m h
    rw [bigSepL_cons']
    unfold runs at h
    simp only [Bool.and_eq_true, beq_iff_eq] at h
    obtain ⟨h1, h2⟩ := h
    have hle : ∀ (l : List (ℕ × ℕ)) (a b : ℕ), runs a l b = true → a ≤ b := by
      intro l
      induction l with
      | nil => intro a b h; unfold runs at h; simp only [beq_iff_eq] at h; omega
      | cons p l ih => intro a b h; unfold runs at h; simp only [Bool.and_eq_true, beq_iff_eq] at h; have := ih _ _ h.2; omega
    have h3 := hle _ _ _ h2
    obtain ⟨d, rfl⟩ : ∃ d, m = p.2 + d := ⟨m - p.2, by omega⟩
    rw [h1]
    exact (BIClass.sep_mono (BI.Entails.refl _) (ih q (lo + p.2) d (by rw [Nat.add_assoc]; exact h2))).trans (hj lo p.2 d)

/-- What can be cut at every row can be cut in the ranges of `l`. -/
theorem cut (hs : ∀ lo a b, P lo (a + b) ⊢ iprop(P lo a ∗ P (lo + a) b)) {l : List (ℕ × ℕ)} {n : ℕ} (h : fits l n = true) :
    P 0 n ⊢ bigSepL l fun p => P p.1 p.2 :=
  (cut_runs P hs _ 0 n (by rw [Nat.zero_add]; exact h)).trans (sepL_perm (inOrder_perm l))

/-- What can be joined at every row can be joined from the ranges of `l`. -/
theorem join (hj : ∀ lo a b, iprop(P lo a ∗ P (lo + a) b) ⊢ P lo (a + b)) {l : List (ℕ × ℕ)} {n : ℕ} (h : fits l n = true) (hn : 0 < n) :
    bigSepL l (fun p => P p.1 p.2) ⊢ P 0 n := by
  refine (sepL_perm (inOrder_perm l).symm).trans ?_
  unfold fits at h
  cases hl : inOrder l with
  | nil => rw [hl] at h; unfold runs at h; simp only [beq_iff_eq] at h; omega
  | cons p t => rw [hl] at h; exact join_runs P hj t p 0 n (by rw [Nat.zero_add]; exact h)

end

section
variable {sp : Space} {e : EltTy} {R : ℕ} {M : Memref sig .tc sp (Sh R) e} {c : Dev nD} {l : List (ℕ × ℕ)} {n : ℕ}

theorem Any_cut (h : fits l n = true) : Any (F := F) M c 0 n ⊢ bigSepL l fun p => Any (F := F) M c p.1 p.2 :=
  cut (fun lo n => Any (F := F) M c lo n) (fun _ _ _ => Any_split) h
theorem Any_glue (h : fits l n = true) (hn : 0 < n) : bigSepL l (fun p => Any (F := F) M c p.1 p.2) ⊢ Any (F := F) M c 0 n :=
  join (fun lo n => Any (F := F) M c lo n) (fun _ _ _ => Any_join) h hn
theorem At_cut {q : PosShare TreeShare} {G : (Sh R).Idx → Elt F e} (h : fits l n = true) :
    At (F := F) M c 0 n q G ⊢ bigSepL l fun p => At (F := F) M c p.1 p.2 q G :=
  cut (fun lo n => At (F := F) M c lo n q G) (fun _ _ _ => At_split) h
theorem At_glue {q : PosShare TreeShare} {G : (Sh R).Idx → Elt F e} (h : fits l n = true) (hn : 0 < n) :
    bigSepL l (fun p => At (F := F) M c p.1 p.2 q G) ⊢ At (F := F) M c 0 n q G :=
  join (fun lo n => At (F := F) M c lo n q G) (fun _ _ _ => At_join) h hn
end

/-! ## The pieces -/

/-- The pieces of a landing buffer of level 0, of level 1, of level 2. -/
def pcs0 (s : ℕ) (c : Dev nD) : List (ℕ × ℕ) :=
  [(prow s c 2 - keep s 0 c, 2 * ch s), (crow s c 1 - keep s 0 c, ch s), (crow s c 0 - keep s 0 c, ch s)]
def pcs1 (s : ℕ) (c : Dev nD) : List (ℕ × ℕ) := [(crow s c 1 - keep s 1 c, ch s), (crow s c 0 - keep s 1 c, ch s)]
def pcs2 (s : ℕ) (c : Dev nD) : List (ℕ × ℕ) := [(crow s c 0 - keep s 2 c, ch s)]
/-- The pieces of the accumulator at the start. -/
def pcsA (c : Dev nD) : List (ℕ × ℕ) :=
  [0, 1, 2].flatMap fun s => [(prow s c 6, 2 * ch s), (prow s c 4, 2 * ch s), (prow s c 2, 2 * ch s), (crow s c 1, ch s), (crow s c 0, ch s)]
/-- The pieces of the copies in, and of the copies out. -/
def pcsI (c : Dev nD) : List (ℕ × ℕ) := (List.range 9).map fun a => (cinRow a c, cinN a)
def pcsO (c : Dev nD) : List (ℕ × ℕ) := (List.range 24).map fun i => (crow (outS i) c (outJ i), ch (outS i))

theorem pcs0_fits {s : ℕ} (hs : s < 3) (c : Dev nD) : fits (pcs0 s c) (rsR s 0) = true := by
  rcases (by omega : s = 0 ∨ s = 1 ∨ s = 2) with rfl | rfl | rfl <;> revert c <;> decide
theorem pcs1_fits {s : ℕ} (hs : s < 3) (c : Dev nD) : fits (pcs1 s c) (rsR s 1) = true := by
  rcases (by omega : s = 0 ∨ s = 1 ∨ s = 2) with rfl | rfl | rfl <;> revert c <;> decide
theorem pcs2_fits {s : ℕ} (hs : s < 3) (c : Dev nD) : fits (pcs2 s c) (rsR s 2) = true := by
  rcases (by omega : s = 0 ∨ s = 1 ∨ s = 2) with rfl | rfl | rfl <;> revert c <;> decide
theorem pcsA_fits : ∀ c : Dev nD, fits (pcsA c) 4096 = true := by decide
theorem pcsI_fits : ∀ c : Dev nD, fits (pcsI c) 4096 = true := by decide
theorem pcsO_fits : ∀ c : Dev nD, fits (pcsO c) 4096 = true := by decide

end Cert.KernelIdeal.Sum
-- ==== Proof.Start.lean ====
/-
# The barrier

Before its first copy a device signals its three neighbours, each with the landing buffers that this
neighbour writes, and waits for their three signals: what these hand over are the destinations of its
own copies.
-/
module

public import proofs.«01_k».proof.Proof.Ops
public import proofs.«01_k».proof.Proof.Pieces

@[expose] public section

noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (X : Dev nD → FVec F (Sh 4096) .f32) (K : Dev nD × SemLoc sig → ℕ)

/-- The copies that land in the landing buffers, and all other transfers. -/
def landing : List (Fin 111) := [0,1,2,3,4,5,13,14,15,16,17,18,26,27,28,29,30,31]
def others : List (Fin 111) := starts.filter fun q => !landing.contains q

/-- What a device owes at the start: its three signals and what it sends. -/
def owed₀ (c : Dev nD) : CellTallies nD τ sig Unit :=
  owedL c starts + tallyAt (bcell (nbr 2 c)) () 1 + tallyAt (bcell (nbr 1 c)) () 1 + tallyAt (bcell (nbr 0 c)) () 1

/-- What a device holds when its body starts, besides the accumulator. -/
def Before (c : Dev nD) : sProp 𝕄 :=
  iprop(Rec X K ∗ (∃ W, owes (c : Thread nD τ) (owed₀ c) W)
    ∗ (dutyTok ER (bcell (nbr 0 c)) 0 0 ∗ dutyTok ER (bcell (nbr 1 c)) 0 1 ∗ dutyTok ER (bcell (nbr 2 c)) 0 2)
    ∗ (barPay (F := F) 0 c ∗ barPay (F := F) 1 c ∗ barPay (F := F) 2 c)
    ∗ (atPos ER (bcell c) 0 ∅ 0 ∗ cred (tallyAt (bcell c) () 3))
    ∗ bigSepL starts (tokR (F := F) c) ∗ bigSepL others (destR X c) ∗ bigSepL waits (waitR (F := F) c))

variable {X K} {c : Dev nD}

theorem RS_0 {s : ℕ} (hs : s < 3) (d : Dev nD) : RS (F := F) s 0 d ⊢ iprop(dstOf (F := F) s 0 d ∗ dstOf (F := F) s 1 d ∗ dstOf (F := F) s 2 d) := by
  refine (Any_cut (pcs0_fits hs d)).trans ?_
  unfold pcs0 dstOf
  rw [bigSepL_cons', bigSepL_cons', bigSepL_cons']
  iintro ⟨H0, H1, H2, -⟩
  isplitl [H0]; · iexact H0
  isplitl [H1]; · iexact H1
  iexact H2
theorem RS_1 {s : ℕ} (hs : s < 3) (d : Dev nD) : RS (F := F) s 1 d ⊢ iprop(dstOf (F := F) s 3 d ∗ dstOf (F := F) s 4 d) := by
  refine (Any_cut (pcs1_fits hs d)).trans ?_
  unfold pcs1 dstOf
  rw [bigSepL_cons', bigSepL_cons']
  iintro ⟨H0, H1, -⟩
  isplitl [H0]; · iexact H0
  iexact H1
theorem RS_2 {s : ℕ} (hs : s < 3) (d : Dev nD) : RS (F := F) s 2 d ⊢ dstOf (F := F) s 5 d := by
  refine (Any_cut (pcs2_fits hs d)).trans ?_
  unfold pcs2 dstOf
  rw [bigSepL_cons']
  iintro ⟨H0, -⟩
  iexact H0

/-- The landing buffers of stream `s` of the partners are the destinations of its first six copies. -/
theorem landing_of {s : ℕ} (hs : s < 3) (c : Dev nD) :
    iprop(RS (F := F) s 0 (part s 0 c) ∗ RS (F := F) s 1 (part s 1 c) ∗ RS (F := F) s 2 (part s 2 c))
      ⊢ bigSepL (List.range 6) fun k => dstOf (F := F) s k (part s (lvl k) c) := by
  iintro ⟨H0, H1, H2⟩
  ihave H0 := (RS_0 hs _) $$ H0
  ihave H1 := (RS_1 hs _) $$ H1
  ihave H2 := (RS_2 hs _) $$ H2
  icases H0 with ⟨A0, A1, A2⟩
  icases H1 with ⟨A3, A4⟩
  rw [show List.range 6 = [0, 1, 2, 3, 4, 5] from rfl, bigSepL_cons', bigSepL_cons', bigSepL_cons', bigSepL_cons', bigSepL_cons', bigSepL_cons']
  isplitl [A0]; · iexact A0
  isplitl [A1]; · iexact A1
  isplitl [A2]; · iexact A2
  isplitl [A3]; · iexact A3
  isplitl [A4]; · iexact A4
  isplitl [H2]; · iexact H2
  iempintro

theorem landing_eq : bigSepL landing (destR X c) = bigSepL ((List.range 6).map (fun k => ((0 : ℕ), k)) ++ (List.range 6).map (fun k => ((1 : ℕ), k)) ++ (List.range 6).map (fun k => ((2 : ℕ), k)))
    fun p => dstOf (F := F) p.1 p.2 (part p.1 (lvl p.2) c) := rfl

theorem landing_intro : iprop(barPay (F := F) 0 (nbr 0 c) ∗ barPay (F := F) 1 (nbr 1 c) ∗ barPay (F := F) 2 (nbr 2 c)) ⊢ bigSepL landing (destR X c) := by
  rw [landing_eq, bigSepL_append, bigSepL_append, sepL_map, sepL_map, sepL_map]
  show iprop((RS (F := F) 0 2 _ ∗ RS (F := F) 1 1 _ ∗ RS (F := F) 2 0 _) ∗ (RS (F := F) 0 1 _ ∗ RS (F := F) 1 0 _ ∗ RS (F := F) 2 2 _)
    ∗ (RS (F := F) 0 0 _ ∗ RS (F := F) 1 2 _ ∗ RS (F := F) 2 1 _)) ⊢ _
  iintro ⟨⟨A2, B1, C0⟩, ⟨A1, B0, C2⟩, ⟨A0, B2, C1⟩⟩
  isplitl [A0 A1 A2 B0 B1 B2]
  · isplitl [A0 A1 A2]
    · iapply (landing_of (s := 0) (by decide) c)
      isplitl [A0]; · iexact A0
      isplitl [A1]; · iexact A1
      iexact A2
    · iapply (landing_of (s := 1) (by decide) c)
      isplitl [B0]; · iexact B0
      isplitl [B1]; · iexact B1
      iexact B2
  · iapply (landing_of (s := 2) (by decide) c)
    isplitl [C0]; · iexact C0
    isplitl [C1]; · iexact C1
    iexact C2

theorem landing_others : (landing ++ others).Perm starts := by decide

theorem sig_0 : ∀ c : Dev nD, (⟨k0_dev1 c, k0_dev1_lt c⟩ : Dev nD) = nbr 0 c := by decide
theorem sig_1 : ∀ c : Dev nD, (⟨k0_dev2 c, k0_dev2_lt c⟩ : Dev nD) = nbr 1 c := by decide
theorem sig_2 : ∀ c : Dev nD, (⟨k0_dev3 c, k0_dev3_lt c⟩ : Dev nD) = nbr 2 c := by decide

/-- One signal at the barrier of the neighbour across link `a`. -/
theorem step_signal (a : Fin 3) (O : CellTallies nD τ sig Unit) {α : Type} {Q : α → sProp 𝕄} {n : Dev nD} (hn : n = nbr a.val c)
    {k : PUnit → Prog (TpuEff nD τ sig (Elt F) Λ₀ .tc) α} :
    iprop(Rec X K ∗ (∃ W, owes (c : Thread nD τ) (O + tallyAt (bcell (nbr a.val c)) () 1) W) ∗ dutyTok ER (bcell (nbr a.val c)) 0 a ∗ barPay (F := F) a.val c)
      ⊢ iprop(((∃ W, owes (c : Thread nD τ) O W) -∗ WP c (k ⟨⟩) Q)
        -∗ WP c (.op (.semSignal (n : Thread nD τ) barrier0 1) k) Q) := by
  subst hn
  iintro ⟨#HR, ⟨%W, HO⟩, HT, HB⟩ Hk
  iapply (Rounds.wp_signal 𝒱₀ ER (Rd X) (c : Thread nD τ) none (dst := (nbr a.val c : Thread nD τ)) (κ := K (nbr a.val c, .reg barrier0))
      (by rw [duties_bcell]; exact Finset.mem_univ a) (amount_bcell X (nbr a.val c) a) () O rfl) $$ [HO HT HB]
  · isplitr; · iapply (Rec_inv (nbr a.val c) (.reg barrier0)); iexact HR
    isplitl [HO]; · iexact HO
    isplitl [HT]; · iexact HT
    isplitl [HB]; · rw [payload_bcell, nbr_nbr]; iexact HB
    iapply (Rec_reached (nbr a.val c) (.reg barrier0)); iexact HR
  iintro HO
  iapply Hk
  iexists W; iexact HO

/-- One step of the body after another. -/
theorem op_bind {α β : Type} {p : Prog (TpuEff nD τ sig (Elt F) Λ₀ .tc) α} {k : α → Prog (TpuEff nD τ sig (Elt F) Λ₀ .tc) β} {Q : β → sProp 𝕄} :
    WP c p (fun r => WP c (k r) Q) ⊢ WP c (p >>= k) Q := by
  unfold WP
  rw [wp_bind]

theorem mayWait_bar : (levAts L lv : sProp 𝕄) ⊢ MayWait (c : Thread nD τ) (.reg barrier0) () (owedL c starts) :=
  mayWait_owedL c (.reg barrier0) starts (fun p hp h => by
    have h1 : ∀ p ∈ starts, p.val < 39 → 1 < slev (rcv p).val := by decide
    exact h1 p hp h)

/-- The wait at the barrier. -/
theorem step_barrier {α : Type} {Q : α → sProp 𝕄} {n : ℕ} (hn : n = 3) {k : PUnit → Prog (TpuEff nD τ sig (Elt F) Λ₀ .tc) α} :
    iprop(Rec X K ∗ (∃ W, owes (c : Thread nD τ) (owedL c starts) W) ∗ atPos ER (bcell c) 0 ∅ 0 ∗ cred (tallyAt (bcell c) () 3))
      ⊢ iprop((((∃ W, owes (c : Thread nD τ) (owedL c starts) W) ∗ semVal (bcell c) 0
          ∗ (barPay (F := F) 0 (nbr 0 c) ∗ barPay (F := F) 1 (nbr 1 c) ∗ barPay (F := F) 2 (nbr 2 c))) -∗ WP c (k ⟨⟩) Q)
        -∗ WP c (.op (.semWait barrier0 n) k) Q) := by
  subst hn
  iintro ⟨#HR, ⟨%W, HO⟩, HA, HC⟩ Hk
  iapply (Rounds.wp_wait_rest_token 𝒱₀ ER (Rd X) (c : Thread nD τ) none (κ := K (c, .reg barrier0))
      (wpE_semWait_eq 𝒱₀ (c : Thread nD τ) none Set.univ) (Set.mem_univ _) () (O := owedL c starts) (W := W) (R := 0) (m := 0) (T := ∅)
      (by rw [expect_bcell])) $$ [HC HO HA]
  · isplitr; · iapply (Rec_inv c (.reg barrier0)); iexact HR
    isplitl [HC]; · iexact HC
    isplitl [HO]; · iexact HO
    isplitr; · iapply mayWait_bar; iapply Rec_lev; iexact HR
    iexact HA
  iintro ⟨HO, HA, -, HP⟩
  imod (Rounds.cell_close ER (Rd X) (Set.mem_univ (K (c, .reg barrier0))) (fun h => h) (R := 0 + 1) (duties_later X (bcell c))) $$ [HA] with HZ
  · isplitr; · iapply (Rec_inv c (.reg barrier0)); iexact HR
    iexact HA
  ihave HP := (Entails.of_eq (rest_bcell X c)) $$ HP
  iapply Hk
  isplitl [HO]; · iexists _; iexact HO
  isplitl [HZ]; · iexact HZ
  iexact HP

set_option maxHeartbeats 800000 in
/-- Part 1 of the body: the barrier. -/
theorem part1 {Q : (Σ' (d0 : Dev nD) (v3 : BitVec 32) (v4 : BitVec 32) (v5 : BitVec 32) (v8 : BitVec 32) (v10 : BitVec 32) (v11 : BitVec 32) (v22 : BitVec 32) (v25 : BitVec 32) (v26 : BitVec 32), BitVec 32) → sProp 𝕄} :
    Before X K c ⊢ iprop((∀ r, (⌜r.1 = c⌝ ∗ Now X K c 0 0 ∗ semVal (bcell c) 0) -∗ Q r) -∗ WP c (on (k0_part1 (F := F))) Q) := by
  rw [k0_part1_eq_skeleton]; unfold on k0_part1_skel Before owed₀
  simp only [semSignalWord, semWaitWord, Prog.lift, Prog.bind_op, Prog.bind_ret, Prog.pure_eq_ret, wp_deviceId]
  iintro ⟨#HR, HO, ⟨HT0, HT1, HT2⟩, ⟨HB0, HB1, HB2⟩, ⟨HA, HC⟩, HTs, HDs, HWs⟩ Hk
  iapply (step_signal (X := X) (K := K) 0 (owedL c starts + tallyAt (bcell (nbr 2 c)) () 1 + tallyAt (bcell (nbr 1 c)) () 1) (sig_0 c)) $$ [HO HT0 HB0]
  · isplitr; · iexact HR
    isplitl [HO]; · iexact HO
    isplitl [HT0]; · iexact HT0
    iexact HB0
  iintro HO
  iapply (step_signal (X := X) (K := K) 1 (owedL c starts + tallyAt (bcell (nbr 2 c)) () 1) (sig_1 c)) $$ [HO HT1 HB1]
  · isplitr; · iexact HR
    isplitl [HO]; · iexact HO
    isplitl [HT1]; · iexact HT1
    iexact HB1
  iintro HO
  iapply (step_signal (X := X) (K := K) 2 (owedL c starts) (sig_2 c)) $$ [HO HT2 HB2]
  · isplitr; · iexact HR
    isplitl [HO]; · iexact HO
    isplitl [HT2]; · iexact HT2
    iexact HB2
  iintro ⟨%W, HO⟩
  iapply (step_barrier (X := X) (K := K) rfl) $$ [HO HA HC]
  · isplitr; · iexact HR
    isplitl [HO]; · iexists W; iexact HO
    isplitl [HA] <;> iassumption
  iintro ⟨HO, HZ, HP⟩
  ihave HL := (landing_intro (X := X)) $$ HP
  iapply op_ret
  iapply Hk
  isplitr; · ipureintro; rfl
  isplitr [HZ]
  · unfold Now St
    isplitr; · iexact HR
    isplitl [HTs]; · iexact HTs
    isplitl [HL HDs]
    · iapply (sepL_perm landing_others)
      rw [bigSepL_append]
      isplitl [HL] <;> iassumption
    isplitl [HO]; · iexact HO
    isplitl [HWs]; · iexact HWs
    isplitr
    · iapply (Entails.of_eq (bigSep_empty).symm); iempintro
    · iapply (Entails.of_eq (bigSep_empty).symm); iempintro
  · iexact HZ

/-- Parts 2 and 3 of the body compute row numbers. -/
theorem part2 {v8 v10 v11 v22 v25 v26 c4_i32_19 : BitVec 32} {Q : (Σ' (v29 : BitVec 32) (v36 : BitVec 32) (v38 : BitVec 32) (v41 : BitVec 32) (v45 : BitVec 32) (v52 : BitVec 32) (v55 : BitVec 32) (v59 : BitVec 32), BitVec 32) → sProp 𝕄} :
    iprop(∀ r, Q r) ⊢ WP c (on (k0_part2 (F := F)) v8 v10 v11 v22 v25 v26 c4_i32_19) Q := by
  rw [k0_part2_eq_skeleton]; unfold on k0_part2_skel
  iintro H
  iapply op_ret
  iapply H
theorem part3 {v8 v10 v11 v29 v55 v60 : BitVec 32} {Q : (Σ' (v61 : BitVec 32) (v64 : BitVec 32) (v68 : BitVec 32) (v75 : BitVec 32) (v82 : BitVec 32) (v84 : BitVec 32), BitVec 32) → sProp 𝕄} :
    iprop(∀ r, Q r) ⊢ WP c (on (k0_part3 (F := F)) c v8 v10 v11 v29 v55 v60) Q := by
  rw [k0_part3_eq_skeleton]; unfold on k0_part3_skel
  iintro H
  iapply op_ret
  iapply H

end Cert.KernelIdeal.Sum
-- ==== Proof.BodyA.lean ====
module

public import proofs.«01_k».proof.Proof.Ops
public import Idealize.ShloMosaic.Lib.Pipeline.Value
public import proofs.«01_k».proof.Proof.Gen.KernelIdeal

/-! The parts of the body that copy the argument in and start the first exchange. -/

@[expose] public section
noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable {X : Dev nD → FVec F (Sh 4096) .f32} {K : Dev nD × SemLoc sig → ℕ} {c : Dev nD}

/-- Part 4 of the body: five copies of the argument start. -/
theorem part4 {v8 v10 v11 v29 v52 v75 : BitVec 32} {Q : (BitVec 32) → sProp 𝕄} :
    iprop(Now X K c 0 0)
      ⊢ iprop((∀ r, (Now X K c 5 0) -∗ Q r)
        -∗ WP c (on (k0_part4 (F := F)) c v8 v10 v11 v29 v52 v75) Q) := by
  rw [k0_part4_eq_skeleton]; unfold on k0_part4_skel
  simp only [Prog.lift, Prog.bind_op, Prog.bind_ret, Prog.pure_eq_ret]
  iintro HS Hk
  iapply (op_in 0 0 78 k0_off1 352) $$ HS
  iintro HS
  iapply (op_in 1 0 79 k0_off2 352) $$ HS
  iintro HS
  iapply (op_in 2 0 80 k0_off3 320) $$ HS
  iintro HS
  iapply (op_in 3 0 81 k0_off4 352) $$ HS
  iintro HS
  iapply (op_in 4 0 82 k0_off5 352) $$ HS
  iintro HS
  iapply op_ret; iapply Hk
  iexact HS

/-- Part 5 of the body: four more copies of the argument start and the first piece has arrived. -/
theorem part5 {v10 v11 v29 v75 c2_i32_92 : BitVec 32} {Q : (FVec F S352x1024 .bf16) → sProp 𝕄} :
    iprop(Now X K c 5 0
        ∗ Any (F := F) accM c (prow 0 c 6) (2 * ch 0))
      ⊢ iprop((∀ r, (⌜r = rd (k0_off10 c) (k0_off10_inb c) (V0 X c)⌝
          ∗ Now X K c 9 1
          ∗ cinPay X 0 c
          ∗ Any (F := F) accM c (prow 0 c 6) (2 * ch 0)) -∗ Q r)
        -∗ WP c (on (k0_part5 (F := F)) c v10 v11 v29 v75 c2_i32_92) Q) := by
  rw [k0_part5_eq_skeleton]; unfold on k0_part5_skel
  simp only [Prog.lift, Prog.bind_op, Prog.bind_ret, Prog.pure_eq_ret]
  iintro ⟨HS, A6_0⟩ Hk
  iapply (op_in 5 0 83 k0_off6 320) $$ HS
  iintro HS
  iapply (op_in 6 0 84 k0_off7 704) $$ HS
  iintro HS
  iapply (op_in 7 0 85 k0_off8 704) $$ HS
  iintro HS
  iapply (op_in 8 0 86 k0_off9 640) $$ HS
  iintro HS
  iapply (op_got 9 0 0 78) $$ HS
  iintro ⟨HS, X0⟩
  iapply (op_arg 0 k0_off10 (fun c => prow 0 c 6) 352) $$ X0
  iintro X0
  iapply (op_peek accM k0_off10 (fun c => prow 0 c 6) 352 (2 * ch 0)) $$ A6_0
  iintro %_ A6_0
  iapply op_ret; iapply Hk
  isplitr; · ipureintro; exact shapeCast_self _ _
  isplitl [HS]; · iexact HS
  isplitl [X0]; · iexact X0
  iexact A6_0

/-- Part 6 of the body: the first rounded piece of stream 0 is sent, and that of stream 1. -/
theorem part6 {v4 v5 v8 v11 v52 : BitVec 32} {v159 : FVec F S352x1024 .bf16} (h : v159 = rd (k0_off10 c) (k0_off10_inb c) (V0 X c)) {Q : (BitVec 32) → sProp 𝕄} :
    iprop(Now X K c 9 1
        ∗ Any (F := F) accM c (prow 0 c 6) (2 * ch 0)
        ∗ Any (F := F) accM c (prow 1 c 6) (2 * ch 1))
      ⊢ iprop((∀ r, (Now X K c 11 2
          ∗ cinPay X 1 c) -∗ Q r)
        -∗ WP c (on (k0_part6 (F := F)) c v4 v5 v8 v11 v52 v159) Q) := by
  subst h
  rw [k0_part6_eq_skeleton]; unfold on k0_part6_skel
  simp only [Prog.lift, Prog.bind_op, Prog.bind_ret, Prog.pure_eq_ret]
  iintro ⟨HS, A6_0, A6_1⟩ Hk
  iapply (op_store accM k0_off10 (fun c => prow 0 c 6) 352 (2 * ch 0) (V0 X c) rfl) $$ A6_0
  iintro A6_0
  iapply (op_send 9 1 0 0 0 39 k0_off1 k0_off11 (fun c => ⟨k0_dev4 c, k0_dev4_lt c⟩) 352 (fun c => prow 0 c 6) (2 * ch 0) (V0 X c)) $$ HS A6_0
  iintro HS
  iapply (op_got 10 1 1 79) $$ HS
  iintro ⟨HS, X1⟩
  iapply (op_arg 1 k0_off12 (fun c => prow 1 c 6) 352) $$ X1
  iintro X1
  iapply (op_peek accM k0_off12 (fun c => prow 1 c 6) 352 (2 * ch 1)) $$ A6_1
  iintro %_ A6_1
  iapply (op_store accM k0_off12 (fun c => prow 1 c 6) 352 (2 * ch 1) (V0 X c) (shapeCast_self _ _)) $$ A6_1
  iintro A6_1
  iapply (op_send 10 2 1 0 13 52 k0_off2 k0_off13 (fun c => ⟨k0_dev5 c, k0_dev5_lt c⟩) 352 (fun c => prow 1 c 6) (2 * ch 1) (V0 X c)) $$ HS A6_1
  iintro HS
  iapply op_ret; iapply Hk
  isplitl [HS]; · iexact HS
  iexact X1

/-- Part 7 of the body: the first rounded piece of stream 2 is sent, and the second piece of stream 0 is rounded. -/
theorem part7 {v3 v10 v29 v75 v192 : BitVec 32} {Q : (Σ' (v215 : BitVec 32), BitVec 32) → sProp 𝕄} :
    iprop(Now X K c 11 2
        ∗ Any (F := F) accM c (prow 2 c 6) (2 * ch 2)
        ∗ Any (F := F) accM c (prow 0 c 4) (2 * ch 0))
      ⊢ iprop((∀ r, (Now X K c 12 4
          ∗ cinPay X 2 c
          ∗ cinPay X 3 c
          ∗ At (F := F) accM c (prow 0 c 4) (2 * ch 0) fullShare (V0 X c)) -∗ Q r)
        -∗ WP c (on (k0_part7 (F := F)) c v3 v10 v29 v75 v192) Q) := by
  rw [k0_part7_eq_skeleton]; unfold on k0_part7_skel
  simp only [Prog.lift, Prog.bind_op, Prog.bind_ret, Prog.pure_eq_ret]
  iintro ⟨HS, A6_2, A4_0⟩ Hk
  iapply (op_got 11 2 2 80) $$ HS
  iintro ⟨HS, X2⟩
  iapply (op_arg 2 k0_off14 (fun c => prow 2 c 6) 320) $$ X2
  iintro X2
  iapply (op_peek accM k0_off14 (fun c => prow 2 c 6) 320 (2 * ch 2)) $$ A6_2
  iintro %_ A6_2
  iapply (op_store accM k0_off14 (fun c => prow 2 c 6) 320 (2 * ch 2) (V0 X c) (shapeCast_self _ _)) $$ A6_2
  iintro A6_2
  iapply (op_send 11 3 2 0 26 65 k0_off3 k0_off15 (fun c => ⟨k0_dev6 c, k0_dev6_lt c⟩) 320 (fun c => prow 2 c 6) (2 * ch 2) (V0 X c)) $$ HS A6_2
  iintro HS
  iapply (op_got 12 3 3 81) $$ HS
  iintro ⟨HS, X3⟩
  iapply (op_arg 3 k0_off16 (fun c => prow 0 c 4) 352) $$ X3
  iintro X3
  iapply (op_peek accM k0_off16 (fun c => prow 0 c 4) 352 (2 * ch 0)) $$ A4_0
  iintro %_ A4_0
  iapply (op_store accM k0_off16 (fun c => prow 0 c 4) 352 (2 * ch 0) (V0 X c) (shapeCast_self _ _)) $$ A4_0
  iintro A4_0
  iapply op_ret; iapply Hk
  isplitl [HS]; · iexact HS
  isplitl [X2]; · iexact X2
  isplitl [X3]; · iexact X3
  iexact A4_0

/-- Part 8 of the body: the second piece of stream 0 is sent in two copies. -/
theorem part8 {v5 v8 v29 v52 v215 c1_i32_149 : BitVec 32} {Q : (Σ' (v252 : BitVec 32), FVec F S352x1024 .bf16) → sProp 𝕄} :
    iprop(Now X K c 12 4
        ∗ At (F := F) accM c (prow 0 c 4) (2 * ch 0) fullShare (V0 X c)
        ∗ Any (F := F) accM c (prow 1 c 4) (2 * ch 1))
      ⊢ iprop((∀ r, (⌜r.2 = rd (k0_off21 c) (k0_off21_inb c) (V0 X c)⌝
          ∗ Now X K c 14 5
          ∗ cinPay X 4 c
          ∗ Any (F := F) accM c (prow 1 c 4) (2 * ch 1)) -∗ Q r)
        -∗ WP c (on (k0_part8 (F := F)) c v5 v8 v29 v52 v215 c1_i32_149) Q) := by
  rw [k0_part8_eq_skeleton]; unfold on k0_part8_skel
  simp only [Prog.lift, Prog.bind_op, Prog.bind_ret, Prog.pure_eq_ret]
  iintro ⟨HS, A4_0, A4_1⟩ Hk
  ihave H := (At_two (lo := fun c => prow 0 c 4) (a := fun c => crow 0 c 5) (b := fun c => crow 0 c 4) (n := ch 0) (m := 2 * ch 0)) $$ A4_0
  icases H with ⟨C5_0, C4_0⟩
  iapply (op_send 12 4 0 1 1 40 k0_off18 k0_off17 (fun c => ⟨k0_dev7 c, k0_dev7_lt c⟩) 176 (fun c => crow 0 c 5) (ch 0) (V0 X c)) $$ HS C5_0
  iintro HS
  iapply (op_send 13 4 0 2 2 41 k0_off20 k0_off19 (fun c => ⟨k0_dev8 c, k0_dev8_lt c⟩) 176 (fun c => crow 0 c 4) (ch 0) (V0 X c)) $$ HS C4_0
  iintro HS
  iapply (op_got 14 4 4 82) $$ HS
  iintro ⟨HS, X4⟩
  iapply (op_arg 4 k0_off21 (fun c => prow 1 c 4) 352) $$ X4
  iintro X4
  iapply (op_peek accM k0_off21 (fun c => prow 1 c 4) 352 (2 * ch 1)) $$ A4_1
  iintro %_ A4_1
  iapply op_ret; iapply Hk
  isplitr; · ipureintro; exact rfl
  isplitl [HS]; · iexact HS
  isplitl [X4]; · iexact X4
  iexact A4_1

/-- Part 9 of the body: the second piece of stream 1 is rounded and sent in two copies. -/
theorem part9 {v4 v11 v52 v75 v252 : BitVec 32} {v260 : FVec F S352x1024 .bf16} (h : v260 = rd (k0_off21 c) (k0_off21_inb c) (V0 X c)) {Q : (Σ' (v289 : BitVec 32), FVec F S320x1024 .bf16) → sProp 𝕄} :
    iprop(Now X K c 14 5
        ∗ Any (F := F) accM c (prow 1 c 4) (2 * ch 1))
      ⊢ iprop((∀ r, (⌜r.2 = rd (k0_off26 c) (k0_off26_inb c) (V0 X c)⌝
          ∗ Now X K c 16 6
          ∗ cinPay X 5 c) -∗ Q r)
        -∗ WP c (on (k0_part9 (F := F)) c v4 v11 v52 v75 v252 v260) Q) := by
  subst h
  rw [k0_part9_eq_skeleton]; unfold on k0_part9_skel
  simp only [Prog.lift, Prog.bind_op, Prog.bind_ret, Prog.pure_eq_ret]
  iintro ⟨HS, A4_1⟩ Hk
  iapply (op_store accM k0_off21 (fun c => prow 1 c 4) 352 (2 * ch 1) (V0 X c) (shapeCast_self _ _)) $$ A4_1
  iintro A4_1
  ihave H := (At_two (lo := fun c => prow 1 c 4) (a := fun c => crow 1 c 5) (b := fun c => crow 1 c 4) (n := ch 1) (m := 2 * ch 1)) $$ A4_1
  icases H with ⟨C5_1, C4_1⟩
  iapply (op_send 14 5 1 1 14 53 k0_off23 k0_off22 (fun c => ⟨k0_dev9 c, k0_dev9_lt c⟩) 176 (fun c => crow 1 c 5) (ch 1) (V0 X c)) $$ HS C5_1
  iintro HS
  iapply (op_send 15 5 1 2 15 54 k0_off25 k0_off24 (fun c => ⟨k0_dev10 c, k0_dev10_lt c⟩) 176 (fun c => crow 1 c 4) (ch 1) (V0 X c)) $$ HS C4_1
  iintro HS
  iapply (op_got 16 5 5 83) $$ HS
  iintro ⟨HS, X5⟩
  iapply (op_arg 5 k0_off26 (fun c => prow 2 c 4) 320) $$ X5
  iintro X5
  iapply op_ret; iapply Hk
  isplitr; · ipureintro; exact rfl
  isplitl [HS]; · iexact HS
  iexact X5

/-- Part 10 of the body: the second piece of stream 2 is rounded and sent in two copies. -/
theorem part10 {v3 v5 v10 v75 v289 : BitVec 32} {v297 : FVec F S320x1024 .bf16} (h : v297 = rd (k0_off26 c) (k0_off26_inb c) (V0 X c)) {Q : (Σ' (v329 : BitVec 32), BitVec 32) → sProp 𝕄} :
    iprop(Now X K c 16 6
        ∗ Any (F := F) accM c (prow 2 c 4) (2 * ch 2))
      ⊢ iprop((∀ r, (Now X K c 18 7) -∗ Q r)
        -∗ WP c (on (k0_part10 (F := F)) c v3 v5 v10 v75 v289 v297) Q) := by
  subst h
  rw [k0_part10_eq_skeleton]; unfold on k0_part10_skel
  simp only [Prog.lift, Prog.bind_op, Prog.bind_ret, Prog.pure_eq_ret]
  iintro ⟨HS, A4_2⟩ Hk
  iapply (op_peek accM k0_off26 (fun c => prow 2 c 4) 320 (2 * ch 2)) $$ A4_2
  iintro %_ A4_2
  iapply (op_store accM k0_off26 (fun c => prow 2 c 4) 320 (2 * ch 2) (V0 X c) (shapeCast_self _ _)) $$ A4_2
  iintro A4_2
  ihave H := (At_two (lo := fun c => prow 2 c 4) (a := fun c => crow 2 c 5) (b := fun c => crow 2 c 4) (n := ch 2) (m := 2 * ch 2)) $$ A4_2
  icases H with ⟨C5_2, C4_2⟩
  iapply (op_send 16 6 2 1 27 66 k0_off28 k0_off27 (fun c => ⟨k0_dev11 c, k0_dev11_lt c⟩) 160 (fun c => crow 2 c 5) (ch 2) (V0 X c)) $$ HS C5_2
  iintro HS
  iapply (op_send 17 6 2 2 28 67 k0_off30 k0_off29 (fun c => ⟨k0_dev12 c, k0_dev12_lt c⟩) 160 (fun c => crow 2 c 4) (ch 2) (V0 X c)) $$ HS C4_2
  iintro HS
  iapply (op_done 18 6 0) $$ HS
  iintro HS
  iapply op_ret; iapply Hk
  iexact HS

end Cert.KernelIdeal.Sum
-- ==== Proof.BodyB.lean ====
module

public import proofs.«01_k».proof.Proof.Ops
public import Idealize.ShloMosaic.Lib.Pipeline.Value
public import proofs.«01_k».proof.Proof.Gen.KernelIdeal

/-! The parts of the body that add what the first exchange brought and start the second. -/

@[expose] public section
noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable {X : Dev nD → FVec F (Sh 4096) .f32} {K : Dev nD × SemLoc sig → ℕ} {c : Dev nD}

/-- Part 11 of the body. -/
theorem part11 {v4 v8 v10 v36 v329 c0_i32_212 : BitVec 32} {Q : (BitVec 32) → sProp 𝕄} :
    iprop(Now X K c 18 7
        ∗ Any (F := F) accM c (prow 0 c 2) (2 * ch 0))
      ⊢ iprop((∀ r, (Now X K c 19 9
          ∗ Landed (F := F) 0 0 c (prow 0 c 2) (2 * ch 0) (V0 X (part 0 0 c))
          ∗ Any (F := F) accM (part 0 0 c) (crow 0 (part 0 0 c) 6) (ch 0)
          ∗ Any (F := F) accM (part 0 0 c) (crow 0 (part 0 0 c) 7) (ch 0)
          ∗ cinPay X 6 c
          ∗ At (F := F) accM c (crow 0 c 2) (ch 0) fullShare (V1 X 0 c)) -∗ Q r)
        -∗ WP c (on (k0_part11 (F := F)) c v4 v8 v10 v36 v329 c0_i32_212) Q) := by
  rw [k0_part11_eq_skeleton]; unfold on k0_part11_skel
  simp only [Prog.lift, Prog.bind_op, Prog.bind_ret, Prog.pure_eq_ret]
  iintro ⟨HS, A2_0⟩ Hk
  iapply (op_recv 18 7 0 0 0 39) $$ HS
  iintro ⟨HS, HP⟩
  ihave HP := recv_0 $$ HP
  icases HP with ⟨L2_0, N6_0, N7_0⟩
  iapply (op_got 18 8 6 84) $$ HS
  iintro ⟨HS, X6⟩
  iapply (op_arg 6 k0_off31 (fun c => prow 0 c 2) 352) $$ X6
  iintro X6
  iapply (op_landed 0 0 k0_off31 k0_off32 (fun c => prow 0 c 2) (fun c => prow 0 c 2) (2 * ch 0) 352 k0_off31_inb) $$ L2_0
  iintro L2_0
  iapply (op_peek accM k0_off31 (fun c => prow 0 c 2) 352 (2 * ch 0)) $$ A2_0
  iintro %_ A2_0
  iapply (op_store accM k0_off31 (fun c => prow 0 c 2) 352 (2 * ch 0) (V1 X 0 c) (shapeCast_self _ _)) $$ A2_0
  iintro A2_0
  ihave H := (At_two (lo := fun c => prow 0 c 2) (a := fun c => crow 0 c 3) (b := fun c => crow 0 c 2) (n := ch 0) (m := 2 * ch 0)) $$ A2_0
  icases H with ⟨C3_0, C2_0⟩
  iapply (op_send 18 9 0 3 3 42 k0_off34 k0_off33 (fun c => ⟨k0_dev13 c, k0_dev13_lt c⟩) 176 (fun c => crow 0 c 3) (ch 0) (V1 X 0 c)) $$ HS C3_0
  iintro HS
  iapply op_ret; iapply Hk
  isplitl [HS]; · iexact HS
  isplitl [L2_0]; · iexact L2_0
  isplitl [N6_0]; · iexact N6_0
  isplitl [N7_0]; · iexact N7_0
  isplitl [X6]; · iexact X6
  iexact C2_0

/-- Part 12 of the body. -/
theorem part12 {v4 v8 v36 v59 c176_i32_233 : BitVec 32} {Q : (Vec F S352x1024 .f32) → sProp 𝕄} :
    iprop(Now X K c 19 9
        ∗ At (F := F) accM c (crow 0 c 2) (ch 0) fullShare (V1 X 0 c))
      ⊢ iprop((∀ r, (⌜r = rd (k0_off37 c) (k0_off37_inb c) (X c)⌝
          ∗ Now X K c 20 12
          ∗ Landed (F := F) 1 0 c (prow 1 c 2) (2 * ch 1) (V0 X (part 1 0 c))
          ∗ Any (F := F) accM (part 1 0 c) (crow 1 (part 1 0 c) 6) (ch 1)
          ∗ Any (F := F) accM (part 1 0 c) (crow 1 (part 1 0 c) 7) (ch 1)
          ∗ cinPay X 7 c) -∗ Q r)
        -∗ WP c (on (k0_part12 (F := F)) c v4 v8 v36 v59 c176_i32_233) Q) := by
  rw [k0_part12_eq_skeleton]; unfold on k0_part12_skel
  simp only [Prog.lift, Prog.bind_op, Prog.bind_ret, Prog.pure_eq_ret]
  iintro ⟨HS, C2_0⟩ Hk
  iapply (op_send 19 9 0 4 4 43 k0_off36 k0_off35 (fun c => ⟨k0_dev14 c, k0_dev14_lt c⟩) 176 (fun c => crow 0 c 2) (ch 0) (V1 X 0 c)) $$ HS C2_0
  iintro HS
  iapply (op_done 20 9 13) $$ HS
  iintro HS
  iapply (op_recv 20 10 1 0 0 52) $$ HS
  iintro ⟨HS, HP⟩
  ihave HP := recv_0 $$ HP
  icases HP with ⟨L2_1, N6_1, N7_1⟩
  iapply (op_got 20 11 7 85) $$ HS
  iintro ⟨HS, X7⟩
  iapply (op_arg 7 k0_off37 (fun c => prow 1 c 2) 352) $$ X7
  iintro X7
  iapply op_ret; iapply Hk
  isplitr; · ipureintro; exact rfl
  isplitl [HS]; · iexact HS
  isplitl [L2_1]; · iexact L2_1
  isplitl [N6_1]; · iexact N6_1
  isplitl [N7_1]; · iexact N7_1
  iexact X7

/-- Part 13 of the body. -/
theorem part13 {v3 v11 v59 : BitVec 32} {v394 : Vec F S352x1024 .f32} (h : v394 = rd (k0_off37 c) (k0_off37_inb c) (X c)) {Q : (PUnit) → sProp 𝕄} :
    iprop(Now X K c 20 12
        ∗ Landed (F := F) 1 0 c (prow 1 c 2) (2 * ch 1) (V0 X (part 1 0 c))
        ∗ Any (F := F) accM c (prow 1 c 2) (2 * ch 1))
      ⊢ iprop((∀ r, (Now X K c 22 12
          ∗ Landed (F := F) 1 0 c (prow 1 c 2) (2 * ch 1) (V0 X (part 1 0 c))) -∗ Q r)
        -∗ WP c (on (k0_part13 (F := F)) c v3 v11 v59 v394) Q) := by
  subst h
  rw [k0_part13_eq_skeleton]; unfold on k0_part13_skel
  simp only [Prog.lift, Prog.bind_op, Prog.bind_ret, Prog.pure_eq_ret]
  iintro ⟨HS, L2_1, A2_1⟩ Hk
  iapply (op_landed 1 0 k0_off37 k0_off38 (fun c => prow 1 c 2) (fun c => prow 1 c 2) (2 * ch 1) 352 k0_off37_inb) $$ L2_1
  iintro L2_1
  iapply (op_peek accM k0_off37 (fun c => prow 1 c 2) 352 (2 * ch 1)) $$ A2_1
  iintro %_ A2_1
  iapply (op_store accM k0_off37 (fun c => prow 1 c 2) 352 (2 * ch 1) (V1 X 1 c) (shapeCast_self _ _)) $$ A2_1
  iintro A2_1
  ihave H := (At_two (lo := fun c => prow 1 c 2) (a := fun c => crow 1 c 3) (b := fun c => crow 1 c 2) (n := ch 1) (m := 2 * ch 1)) $$ A2_1
  icases H with ⟨C3_1, C2_1⟩
  iapply (op_send 20 12 1 3 16 55 k0_off40 k0_off39 (fun c => ⟨k0_dev15 c, k0_dev15_lt c⟩) 176 (fun c => crow 1 c 3) (ch 1) (V1 X 1 c)) $$ HS C3_1
  iintro HS
  iapply (op_send 21 12 1 4 17 56 k0_off42 k0_off41 (fun c => ⟨k0_dev16 c, k0_dev16_lt c⟩) 176 (fun c => crow 1 c 2) (ch 1) (V1 X 1 c)) $$ HS C2_1
  iintro HS
  iapply op_ret; iapply Hk
  isplitl [HS]; · iexact HS
  iexact L2_1

/-- Part 14 of the body. -/
theorem part14 {v3 v5 v10 v11 v82 : BitVec 32} {Q : (PUnit) → sProp 𝕄} :
    iprop(Now X K c 22 12
        ∗ Any (F := F) accM c (prow 2 c 2) (2 * ch 2))
      ⊢ iprop((∀ r, (Now X K c 22 15
          ∗ Landed (F := F) 2 0 c (prow 2 c 2) (2 * ch 2) (V0 X (part 2 0 c))
          ∗ Any (F := F) accM (part 2 0 c) (crow 2 (part 2 0 c) 6) (ch 2)
          ∗ Any (F := F) accM (part 2 0 c) (crow 2 (part 2 0 c) 7) (ch 2)
          ∗ cinPay X 8 c
          ∗ At (F := F) accM c (prow 2 c 2) (2 * ch 2) fullShare (V1 X 2 c)) -∗ Q r)
        -∗ WP c (on (k0_part14 (F := F)) c v3 v5 v10 v11 v82) Q) := by
  rw [k0_part14_eq_skeleton]; unfold on k0_part14_skel
  simp only [Prog.lift, Prog.bind_op, Prog.bind_ret, Prog.pure_eq_ret]
  iintro ⟨HS, A2_2⟩ Hk
  iapply (op_done 22 12 26) $$ HS
  iintro HS
  iapply (op_recv 22 13 2 0 0 65) $$ HS
  iintro ⟨HS, HP⟩
  ihave HP := recv_0 $$ HP
  icases HP with ⟨L2_2, N6_2, N7_2⟩
  iapply (op_got 22 14 8 86) $$ HS
  iintro ⟨HS, X8⟩
  iapply (op_arg 8 k0_off43 (fun c => prow 2 c 2) 320) $$ X8
  iintro X8
  iapply (op_landed 2 0 k0_off43 k0_off44 (fun c => prow 2 c 2) (fun c => prow 2 c 2) (2 * ch 2) 320 k0_off43_inb) $$ L2_2
  iintro L2_2
  iapply (op_peek accM k0_off43 (fun c => prow 2 c 2) 320 (2 * ch 2)) $$ A2_2
  iintro %_ A2_2
  iapply (op_store accM k0_off43 (fun c => prow 2 c 2) 320 (2 * ch 2) (V1 X 2 c) (shapeCast_self _ _)) $$ A2_2
  iintro A2_2
  iapply op_ret; iapply Hk
  isplitl [HS]; · iexact HS
  isplitl [L2_2]; · iexact L2_2
  isplitl [N6_2]; · iexact N6_2
  isplitl [N7_2]; · iexact N7_2
  isplitl [X8]; · iexact X8
  iexact A2_2

/-- Part 15 of the body. -/
theorem part15 {v5 v8 v10 v41 v82 : BitVec 32} {Q : (BitVec 32) → sProp 𝕄} :
    iprop(Now X K c 22 15
        ∗ At (F := F) accM c (prow 2 c 2) (2 * ch 2) fullShare (V1 X 2 c))
      ⊢ iprop((∀ r, (Now X K c 24 17
          ∗ Landed (F := F) 0 0 c (crow 0 c 1) (ch 0) (V0 X (part 0 0 c))
          ∗ Any (F := F) accM (part 0 0 c) (crow 0 (part 0 0 c) 5) (ch 0)) -∗ Q r)
        -∗ WP c (on (k0_part15 (F := F)) c v5 v8 v10 v41 v82) Q) := by
  rw [k0_part15_eq_skeleton]; unfold on k0_part15_skel
  simp only [Prog.lift, Prog.bind_op, Prog.bind_ret, Prog.pure_eq_ret]
  iintro ⟨HS, A2_2⟩ Hk
  ihave H := (At_two (lo := fun c => prow 2 c 2) (a := fun c => crow 2 c 3) (b := fun c => crow 2 c 2) (n := ch 2) (m := 2 * ch 2)) $$ A2_2
  icases H with ⟨C3_2, C2_2⟩
  iapply (op_send 22 15 2 3 29 68 k0_off46 k0_off45 (fun c => ⟨k0_dev17 c, k0_dev17_lt c⟩) 160 (fun c => crow 2 c 3) (ch 2) (V1 X 2 c)) $$ HS C3_2
  iintro HS
  iapply (op_send 23 15 2 4 30 69 k0_off48 k0_off47 (fun c => ⟨k0_dev18 c, k0_dev18_lt c⟩) 160 (fun c => crow 2 c 2) (ch 2) (V1 X 2 c)) $$ HS C2_2
  iintro HS
  iapply (op_done 24 15 1) $$ HS
  iintro HS
  iapply (op_recv 24 16 0 1 0 40) $$ HS
  iintro ⟨HS, HP⟩
  ihave HP := recv_1 $$ HP
  icases HP with ⟨L1_0, N5_0⟩
  iapply op_ret; iapply Hk
  isplitl [HS]; · iexact HS
  isplitl [L1_0]; · iexact L1_0
  iexact N5_0

/-- Part 16 of the body. -/
theorem part16 {v4 v8 v11 v41 v64 v492 : BitVec 32} {Q : (FVec F S176x1024 .bf16) → sProp 𝕄} :
    iprop(Now X K c 24 17
        ∗ cinPay X 6 c
        ∗ Landed (F := F) 0 0 c (crow 0 c 1) (ch 0) (V0 X (part 0 0 c))
        ∗ Any (F := F) accM c (crow 0 c 1) (ch 0)
        ∗ cinPay X 7 c
        ∗ Any (F := F) accM c (crow 1 c 1) (ch 1))
      ⊢ iprop((∀ r, (⌜r = rd (k0_off51 c) (k0_off51_inb c) (V1 X 1 c)⌝
          ∗ Now X K c 24 19
          ∗ cinPay X 6 c
          ∗ Landed (F := F) 0 0 c (crow 0 c 1) (ch 0) (V0 X (part 0 0 c))
          ∗ At (F := F) accM c (crow 0 c 1) (ch 0) fullShare (V1 X 0 c)
          ∗ Landed (F := F) 1 0 c (crow 1 c 1) (ch 1) (V0 X (part 1 0 c))
          ∗ Any (F := F) accM (part 1 0 c) (crow 1 (part 1 0 c) 5) (ch 1)
          ∗ cinPay X 7 c
          ∗ Any (F := F) accM c (crow 1 c 1) (ch 1)) -∗ Q r)
        -∗ WP c (on (k0_part16 (F := F)) c v4 v8 v11 v41 v64 v492) Q) := by
  rw [k0_part16_eq_skeleton]; unfold on k0_part16_skel
  simp only [Prog.lift, Prog.bind_op, Prog.bind_ret, Prog.pure_eq_ret]
  iintro ⟨HS, X6, L1_0, A1_0, X7, A1_1⟩ Hk
  iapply (op_arg 6 k0_off49 (fun c => crow 0 c 1) 176) $$ X6
  iintro X6
  iapply (op_landed 0 0 k0_off49 k0_off50 (fun c => crow 0 c 1) (fun c => crow 0 c 1) (ch 0) 176 k0_off49_inb) $$ L1_0
  iintro L1_0
  iapply (op_peek accM k0_off49 (fun c => crow 0 c 1) 176 (ch 0)) $$ A1_0
  iintro %_ A1_0
  iapply (op_store accM k0_off49 (fun c => crow 0 c 1) 176 (ch 0) (V1 X 0 c) (shapeCast_self _ _)) $$ A1_0
  iintro A1_0
  iapply (op_done 24 17 14) $$ HS
  iintro HS
  iapply (op_recv 24 18 1 1 0 53) $$ HS
  iintro ⟨HS, HP⟩
  ihave HP := recv_1 $$ HP
  icases HP with ⟨L1_1, N5_1⟩
  iapply (op_arg 7 k0_off51 (fun c => crow 1 c 1) 176) $$ X7
  iintro X7
  iapply (op_landed 1 0 k0_off51 k0_off52 (fun c => crow 1 c 1) (fun c => crow 1 c 1) (ch 1) 176 k0_off51_inb) $$ L1_1
  iintro L1_1
  iapply (op_peek accM k0_off51 (fun c => crow 1 c 1) 176 (ch 1)) $$ A1_1
  iintro %_ A1_1
  iapply op_ret; iapply Hk
  isplitr; · ipureintro; exact shapeCast_self _ _
  isplitl [HS]; · iexact HS
  isplitl [X6]; · iexact X6
  isplitl [L1_0]; · iexact L1_0
  isplitl [A1_0]; · iexact A1_0
  isplitl [L1_1]; · iexact L1_1
  isplitl [N5_1]; · iexact N5_1
  isplitl [X7]; · iexact X7
  iexact A1_1

/-- Part 17 of the body. -/
theorem part17 {v3 v10 v11 v87 : BitVec 32} {v529 : FVec F S176x1024 .bf16} (h : v529 = rd (k0_off51 c) (k0_off51_inb c) (V1 X 1 c)) {Q : (PUnit) → sProp 𝕄} :
    iprop(Now X K c 24 19
        ∗ Any (F := F) accM c (crow 1 c 1) (ch 1)
        ∗ cinPay X 8 c
        ∗ Any (F := F) accM c (crow 2 c 1) (ch 2))
      ⊢ iprop((∀ r, (Now X K c 24 22
          ∗ At (F := F) accM c (crow 1 c 1) (ch 1) fullShare (V1 X 1 c)
          ∗ Landed (F := F) 2 0 c (crow 2 c 1) (ch 2) (V0 X (part 2 0 c))
          ∗ Any (F := F) accM (part 2 0 c) (crow 2 (part 2 0 c) 5) (ch 2)
          ∗ cinPay X 8 c
          ∗ At (F := F) accM c (crow 2 c 1) (ch 2) fullShare (V1 X 2 c)) -∗ Q r)
        -∗ WP c (on (k0_part17 (F := F)) c v3 v10 v11 v87 v529) Q) := by
  subst h
  rw [k0_part17_eq_skeleton]; unfold on k0_part17_skel
  simp only [Prog.lift, Prog.bind_op, Prog.bind_ret, Prog.pure_eq_ret]
  iintro ⟨HS, A1_1, X8, A1_2⟩ Hk
  iapply (op_store accM k0_off51 (fun c => crow 1 c 1) 176 (ch 1) (V1 X 1 c) rfl) $$ A1_1
  iintro A1_1
  iapply (op_done 24 19 27) $$ HS
  iintro HS
  iapply (op_recv 24 20 2 1 0 66) $$ HS
  iintro ⟨HS, HP⟩
  ihave HP := recv_1 $$ HP
  icases HP with ⟨L1_2, N5_2⟩
  iapply (op_arg 8 k0_off53 (fun c => crow 2 c 1) 160) $$ X8
  iintro X8
  iapply (op_landed 2 0 k0_off53 k0_off54 (fun c => crow 2 c 1) (fun c => crow 2 c 1) (ch 2) 160 k0_off53_inb) $$ L1_2
  iintro L1_2
  iapply (op_peek accM k0_off53 (fun c => crow 2 c 1) 160 (ch 2)) $$ A1_2
  iintro %_ A1_2
  iapply (op_store accM k0_off53 (fun c => crow 2 c 1) 160 (ch 2) (V1 X 2 c) (shapeCast_self _ _)) $$ A1_2
  iintro A1_2
  iapply (op_done 24 21 3) $$ HS
  iintro HS
  iapply op_ret; iapply Hk
  isplitl [HS]; · iexact HS
  isplitl [A1_1]; · iexact A1_1
  isplitl [L1_2]; · iexact L1_2
  isplitl [N5_2]; · iexact N5_2
  isplitl [X8]; · iexact X8
  iexact A1_2

end Cert.KernelIdeal.Sum
-- ==== Proof.BodyC.lean ====
module

public import proofs.«01_k».proof.Proof.Ops
public import Idealize.ShloMosaic.Lib.Pipeline.Value
public import proofs.«01_k».proof.Proof.Gen.KernelIdeal

/-! The parts of the body that add what the second exchange brought and start the third. -/

@[expose] public section
noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable {X : Dev nD → FVec F (Sh 4096) .f32} {K : Dev nD × SemLoc sig → ℕ} {c : Dev nD}

/-- Part 18 of the body. -/
theorem part18 {v3 v4 v8 v41 : BitVec 32} {Q : (PUnit) → sProp 𝕄} :
    iprop(Now X K c 24 22
        ∗ At (F := F) accM c (crow 0 c 1) (ch 0) fullShare (V1 X 0 c))
      ⊢ iprop((∀ r, (Now X K c 25 24
          ∗ Landed (F := F) 0 1 c (crow 0 c 1) (ch 0) (V1 X 0 (part 0 1 c))
          ∗ Any (F := F) accM (part 0 1 c) (crow 0 (part 0 1 c) 3) (ch 0)) -∗ Q r)
        -∗ WP c (on (k0_part18 (F := F)) c v3 v4 v8 v41) Q) := by
  rw [k0_part18_eq_skeleton]; unfold on k0_part18_skel
  simp only [Prog.lift, Prog.bind_op, Prog.bind_ret, Prog.pure_eq_ret]
  iintro ⟨HS, A1_0⟩ Hk
  iapply (op_recv 24 22 0 3 1 42) $$ HS
  iintro ⟨HS, HP⟩
  ihave HP := recv_3 $$ HP
  icases HP with ⟨M1_0, N3_0⟩
  iapply (op_load accM k0_off49 (fun c => crow 0 c 1) (fun c => crow 0 c 1) (ch 0) 176) $$ A1_0
  iintro A1_0
  iapply (op_landed 0 1 k0_off49 k0_off55 (fun c => crow 0 c 1) (fun c => crow 0 c 1) (ch 0) 176 k0_off49_inb) $$ M1_0
  iintro M1_0
  iapply (op_load accM k0_off49 (fun c => crow 0 c 1) (fun c => crow 0 c 1) (ch 0) 176) $$ A1_0
  iintro A1_0
  iapply (op_restore accM k0_off49 (fun c => crow 0 c 1) 176 (ch 0) (V2 X 0 c) (shapeCast_self _ _)) $$ A1_0
  iintro A1_0
  iapply (op_send_whole 24 23 0 5 44 k0_off56 (fun c => ⟨k0_dev19 c, k0_dev19_lt c⟩) (Memref.isWhole_whole _)) $$ HS A1_0
  iintro HS
  iapply (op_done 25 23 16) $$ HS
  iintro HS
  iapply op_ret; iapply Hk
  isplitl [HS]; · iexact HS
  isplitl [M1_0]; · iexact M1_0
  iexact N3_0

/-- Part 19 of the body. -/
theorem part19 {v5 v11 v64 : BitVec 32} {Q : (PUnit) → sProp 𝕄} :
    iprop(Now X K c 25 24
        ∗ At (F := F) accM c (crow 1 c 1) (ch 1) fullShare (V1 X 1 c))
      ⊢ iprop((∀ r, (Now X K c 26 26
          ∗ Landed (F := F) 1 1 c (crow 1 c 1) (ch 1) (V1 X 1 (part 1 1 c))
          ∗ Any (F := F) accM (part 1 1 c) (crow 1 (part 1 1 c) 3) (ch 1)) -∗ Q r)
        -∗ WP c (on (k0_part19 (F := F)) c v5 v11 v64) Q) := by
  rw [k0_part19_eq_skeleton]; unfold on k0_part19_skel
  simp only [Prog.lift, Prog.bind_op, Prog.bind_ret, Prog.pure_eq_ret]
  iintro ⟨HS, A1_1⟩ Hk
  iapply (op_recv 25 24 1 3 1 55) $$ HS
  iintro ⟨HS, HP⟩
  ihave HP := recv_3 $$ HP
  icases HP with ⟨M1_1, N3_1⟩
  iapply (op_load accM k0_off51 (fun c => crow 1 c 1) (fun c => crow 1 c 1) (ch 1) 176) $$ A1_1
  iintro A1_1
  iapply (op_landed 1 1 k0_off51 k0_off57 (fun c => crow 1 c 1) (fun c => crow 1 c 1) (ch 1) 176 k0_off51_inb) $$ M1_1
  iintro M1_1
  iapply (op_load accM k0_off51 (fun c => crow 1 c 1) (fun c => crow 1 c 1) (ch 1) 176) $$ A1_1
  iintro A1_1
  iapply (op_restore accM k0_off51 (fun c => crow 1 c 1) 176 (ch 1) (V2 X 1 c) (shapeCast_self _ _)) $$ A1_1
  iintro A1_1
  iapply (op_send_whole 25 25 1 18 57 k0_off58 (fun c => ⟨k0_dev20 c, k0_dev20_lt c⟩) (Memref.isWhole_whole _)) $$ HS A1_1
  iintro HS
  iapply (op_done 26 25 29) $$ HS
  iintro HS
  iapply op_ret; iapply Hk
  isplitl [HS]; · iexact HS
  isplitl [M1_1]; · iexact M1_1
  iexact N3_1

/-- Part 20 of the body. -/
theorem part20 {v4 v5 v10 v87 : BitVec 32} {Q : (BitVec 32) → sProp 𝕄} :
    iprop(Now X K c 26 26
        ∗ At (F := F) accM c (crow 2 c 1) (ch 2) fullShare (V1 X 2 c))
      ⊢ iprop((∀ r, (Now X K c 27 29
          ∗ Landed (F := F) 2 1 c (crow 2 c 1) (ch 2) (V1 X 2 (part 2 1 c))
          ∗ Any (F := F) accM (part 2 1 c) (crow 2 (part 2 1 c) 3) (ch 2)
          ∗ Landed (F := F) 0 0 c (crow 0 c 0) (ch 0) (V0 X (part 0 0 c))
          ∗ Any (F := F) accM (part 0 0 c) (crow 0 (part 0 0 c) 4) (ch 0)) -∗ Q r)
        -∗ WP c (on (k0_part20 (F := F)) c v4 v5 v10 v87) Q) := by
  rw [k0_part20_eq_skeleton]; unfold on k0_part20_skel
  simp only [Prog.lift, Prog.bind_op, Prog.bind_ret, Prog.pure_eq_ret]
  iintro ⟨HS, A1_2⟩ Hk
  iapply (op_recv 26 26 2 3 1 68) $$ HS
  iintro ⟨HS, HP⟩
  ihave HP := recv_3 $$ HP
  icases HP with ⟨M1_2, N3_2⟩
  iapply (op_load accM k0_off53 (fun c => crow 2 c 1) (fun c => crow 2 c 1) (ch 2) 160) $$ A1_2
  iintro A1_2
  iapply (op_landed 2 1 k0_off53 k0_off59 (fun c => crow 2 c 1) (fun c => crow 2 c 1) (ch 2) 160 k0_off53_inb) $$ M1_2
  iintro M1_2
  iapply (op_load accM k0_off53 (fun c => crow 2 c 1) (fun c => crow 2 c 1) (ch 2) 160) $$ A1_2
  iintro A1_2
  iapply (op_restore accM k0_off53 (fun c => crow 2 c 1) 160 (ch 2) (V2 X 2 c) (shapeCast_self _ _)) $$ A1_2
  iintro A1_2
  iapply (op_send_whole 26 27 2 31 70 k0_off60 (fun c => ⟨k0_dev21 c, k0_dev21_lt c⟩) (Memref.isWhole_whole _)) $$ HS A1_2
  iintro HS
  iapply (op_done 27 27 2) $$ HS
  iintro HS
  iapply (op_recv 27 28 0 2 0 41) $$ HS
  iintro ⟨HS, HP⟩
  ihave HP := recv_2 $$ HP
  icases HP with ⟨L0_0, N4_0⟩
  iapply op_ret; iapply Hk
  isplitl [HS]; · iexact HS
  isplitl [M1_2]; · iexact M1_2
  isplitl [N3_2]; · iexact N3_2
  isplitl [L0_0]; · iexact L0_0
  iexact N4_0

/-- Part 21 of the body. -/
theorem part21 {v4 v8 v10 v11 v38 v61 c2_i32_437 : BitVec 32} {Q : (FVec F S176x1024 .bf16) → sProp 𝕄} :
    iprop(Now X K c 27 29
        ∗ cinPay X 6 c
        ∗ Landed (F := F) 0 0 c (crow 0 c 0) (ch 0) (V0 X (part 0 0 c))
        ∗ Any (F := F) accM c (crow 0 c 0) (ch 0)
        ∗ cinPay X 7 c)
      ⊢ iprop((∀ r, (⌜r = rd (k0_off63 c) (k0_off63_inb c) (V1 X 1 c)⌝
          ∗ Now X K c 27 31
          ∗ cinPay X 6 c
          ∗ Landed (F := F) 0 0 c (crow 0 c 0) (ch 0) (V0 X (part 0 0 c))
          ∗ At (F := F) accM c (crow 0 c 0) (ch 0) fullShare (V1 X 0 c)
          ∗ Landed (F := F) 1 0 c (crow 1 c 0) (ch 1) (V0 X (part 1 0 c))
          ∗ Any (F := F) accM (part 1 0 c) (crow 1 (part 1 0 c) 4) (ch 1)
          ∗ cinPay X 7 c) -∗ Q r)
        -∗ WP c (on (k0_part21 (F := F)) c v4 v8 v10 v11 v38 v61 c2_i32_437) Q) := by
  rw [k0_part21_eq_skeleton]; unfold on k0_part21_skel
  simp only [Prog.lift, Prog.bind_op, Prog.bind_ret, Prog.pure_eq_ret]
  iintro ⟨HS, X6, L0_0, A0_0, X7⟩ Hk
  iapply (op_arg 6 k0_off61 (fun c => crow 0 c 0) 176) $$ X6
  iintro X6
  iapply (op_landed 0 0 k0_off61 k0_off62 (fun c => crow 0 c 0) (fun c => crow 0 c 0) (ch 0) 176 k0_off61_inb) $$ L0_0
  iintro L0_0
  iapply (op_peek accM k0_off61 (fun c => crow 0 c 0) 176 (ch 0)) $$ A0_0
  iintro %_ A0_0
  iapply (op_store accM k0_off61 (fun c => crow 0 c 0) 176 (ch 0) (V1 X 0 c) (shapeCast_self _ _)) $$ A0_0
  iintro A0_0
  iapply (op_done 27 29 15) $$ HS
  iintro HS
  iapply (op_recv 27 30 1 2 0 54) $$ HS
  iintro ⟨HS, HP⟩
  ihave HP := recv_2 $$ HP
  icases HP with ⟨L0_1, N4_1⟩
  iapply (op_arg 7 k0_off63 (fun c => crow 1 c 0) 176) $$ X7
  iintro X7
  iapply (op_landed 1 0 k0_off63 k0_off64 (fun c => crow 1 c 0) (fun c => crow 1 c 0) (ch 1) 176 k0_off63_inb) $$ L0_1
  iintro L0_1
  iapply op_ret; iapply Hk
  isplitr; · ipureintro; exact rfl
  isplitl [HS]; · iexact HS
  isplitl [X6]; · iexact X6
  isplitl [L0_0]; · iexact L0_0
  isplitl [A0_0]; · iexact A0_0
  isplitl [L0_1]; · iexact L0_1
  isplitl [N4_1]; · iexact N4_1
  iexact X7

/-- Part 22 of the body. -/
theorem part22 {v3 v10 v11 v61 v84 : BitVec 32} {v694 : FVec F S176x1024 .bf16} (h : v694 = rd (k0_off63 c) (k0_off63_inb c) (V1 X 1 c)) {Q : (PUnit) → sProp 𝕄} :
    iprop(Now X K c 27 31
        ∗ Any (F := F) accM c (crow 1 c 0) (ch 1)
        ∗ cinPay X 8 c
        ∗ Any (F := F) accM c (crow 2 c 0) (ch 2))
      ⊢ iprop((∀ r, (Now X K c 27 33
          ∗ At (F := F) accM c (crow 1 c 0) (ch 1) fullShare (V1 X 1 c)
          ∗ Landed (F := F) 2 0 c (crow 2 c 0) (ch 2) (V0 X (part 2 0 c))
          ∗ Any (F := F) accM (part 2 0 c) (crow 2 (part 2 0 c) 4) (ch 2)
          ∗ cinPay X 8 c
          ∗ At (F := F) accM c (crow 2 c 0) (ch 2) fullShare (V1 X 2 c)) -∗ Q r)
        -∗ WP c (on (k0_part22 (F := F)) c v3 v10 v11 v61 v84 v694) Q) := by
  subst h
  rw [k0_part22_eq_skeleton]; unfold on k0_part22_skel
  simp only [Prog.lift, Prog.bind_op, Prog.bind_ret, Prog.pure_eq_ret]
  iintro ⟨HS, A0_1, X8, A0_2⟩ Hk
  iapply (op_peek accM k0_off63 (fun c => crow 1 c 0) 176 (ch 1)) $$ A0_1
  iintro %_ A0_1
  iapply (op_store accM k0_off63 (fun c => crow 1 c 0) 176 (ch 1) (V1 X 1 c) (shapeCast_self _ _)) $$ A0_1
  iintro A0_1
  iapply (op_done 27 31 28) $$ HS
  iintro HS
  iapply (op_recv 27 32 2 2 0 67) $$ HS
  iintro ⟨HS, HP⟩
  ihave HP := recv_2 $$ HP
  icases HP with ⟨L0_2, N4_2⟩
  iapply (op_arg 8 k0_off65 (fun c => crow 2 c 0) 160) $$ X8
  iintro X8
  iapply (op_landed 2 0 k0_off65 k0_off66 (fun c => crow 2 c 0) (fun c => crow 2 c 0) (ch 2) 160 k0_off65_inb) $$ L0_2
  iintro L0_2
  iapply (op_peek accM k0_off65 (fun c => crow 2 c 0) 160 (ch 2)) $$ A0_2
  iintro %_ A0_2
  iapply (op_store accM k0_off65 (fun c => crow 2 c 0) 160 (ch 2) (V1 X 2 c) (shapeCast_self _ _)) $$ A0_2
  iintro A0_2
  iapply op_ret; iapply Hk
  isplitl [HS]; · iexact HS
  isplitl [A0_1]; · iexact A0_1
  isplitl [L0_2]; · iexact L0_2
  isplitl [N4_2]; · iexact N4_2
  isplitl [X8]; · iexact X8
  iexact A0_2

/-- Part 23 of the body. -/
theorem part23 {v3 v4 v8 v11 v38 v61 : BitVec 32} {Q : (Σ' (v757 : BitVec 32), Vec F S176x1024 .bf16) → sProp 𝕄} :
    iprop(Now X K c 27 33
        ∗ At (F := F) accM c (crow 0 c 0) (ch 0) fullShare (V1 X 0 c)
        ∗ At (F := F) accM c (crow 1 c 0) (ch 1) fullShare (V1 X 1 c))
      ⊢ iprop((∀ r, (⌜r.2 = rd (k0_off63 c) (k0_off63_inb c) (V1 X 1 c)⌝
          ∗ Now X K c 27 37
          ∗ Landed (F := F) 0 1 c (crow 0 c 0) (ch 0) (V1 X 0 (part 0 1 c))
          ∗ Any (F := F) accM (part 0 1 c) (crow 0 (part 0 1 c) 2) (ch 0)
          ∗ At (F := F) accM c (crow 0 c 0) (ch 0) fullShare (V2 X 0 c)
          ∗ Landed (F := F) 1 1 c (crow 1 c 0) (ch 1) (V1 X 1 (part 1 1 c))
          ∗ Any (F := F) accM (part 1 1 c) (crow 1 (part 1 1 c) 2) (ch 1)
          ∗ At (F := F) accM c (crow 1 c 0) (ch 1) fullShare (V1 X 1 c)) -∗ Q r)
        -∗ WP c (on (k0_part23 (F := F)) c v3 v4 v8 v11 v38 v61) Q) := by
  rw [k0_part23_eq_skeleton]; unfold on k0_part23_skel
  simp only [Prog.lift, Prog.bind_op, Prog.bind_ret, Prog.pure_eq_ret]
  iintro ⟨HS, A0_0, A0_1⟩ Hk
  iapply (op_done 27 33 4) $$ HS
  iintro HS
  iapply (op_recv 27 34 0 4 1 43) $$ HS
  iintro ⟨HS, HP⟩
  ihave HP := recv_4 $$ HP
  icases HP with ⟨M0_0, N2_0⟩
  iapply (op_load accM k0_off61 (fun c => crow 0 c 0) (fun c => crow 0 c 0) (ch 0) 176) $$ A0_0
  iintro A0_0
  iapply (op_landed 0 1 k0_off61 k0_off67 (fun c => crow 0 c 0) (fun c => crow 0 c 0) (ch 0) 176 k0_off61_inb) $$ M0_0
  iintro M0_0
  iapply (op_load accM k0_off61 (fun c => crow 0 c 0) (fun c => crow 0 c 0) (ch 0) 176) $$ A0_0
  iintro A0_0
  iapply (op_restore accM k0_off61 (fun c => crow 0 c 0) 176 (ch 0) (V2 X 0 c) (shapeCast_self _ _)) $$ A0_0
  iintro A0_0
  iapply (op_done 27 35 17) $$ HS
  iintro HS
  iapply (op_recv 27 36 1 4 1 56) $$ HS
  iintro ⟨HS, HP⟩
  ihave HP := recv_4 $$ HP
  icases HP with ⟨M0_1, N2_1⟩
  iapply (op_load accM k0_off63 (fun c => crow 1 c 0) (fun c => crow 1 c 0) (ch 1) 176) $$ A0_1
  iintro A0_1
  iapply op_ret; iapply Hk
  isplitr; · ipureintro; exact rfl
  isplitl [HS]; · iexact HS
  isplitl [M0_0]; · iexact M0_0
  isplitl [N2_0]; · iexact N2_0
  isplitl [A0_0]; · iexact A0_0
  isplitl [M0_1]; · iexact M0_1
  isplitl [N2_1]; · iexact N2_1
  iexact A0_1

/-- Part 24 of the body. -/
theorem part24 {v5 v10 v61 v84 v757 : BitVec 32} {v759 : Vec F S176x1024 .bf16} (h : v759 = rd (k0_off63 c) (k0_off63_inb c) (V1 X 1 c)) {Q : (PUnit) → sProp 𝕄} :
    iprop(Now X K c 27 37
        ∗ Landed (F := F) 1 1 c (crow 1 c 0) (ch 1) (V1 X 1 (part 1 1 c))
        ∗ At (F := F) accM c (crow 1 c 0) (ch 1) fullShare (V1 X 1 c)
        ∗ At (F := F) accM c (crow 2 c 0) (ch 2) fullShare (V1 X 2 c))
      ⊢ iprop((∀ r, (Now X K c 27 39
          ∗ Landed (F := F) 1 1 c (crow 1 c 0) (ch 1) (V1 X 1 (part 1 1 c))
          ∗ At (F := F) accM c (crow 1 c 0) (ch 1) fullShare (V2 X 1 c)
          ∗ Landed (F := F) 2 1 c (crow 2 c 0) (ch 2) (V1 X 2 (part 2 1 c))
          ∗ Any (F := F) accM (part 2 1 c) (crow 2 (part 2 1 c) 2) (ch 2)
          ∗ At (F := F) accM c (crow 2 c 0) (ch 2) fullShare (V2 X 2 c)) -∗ Q r)
        -∗ WP c (on (k0_part24 (F := F)) c v5 v10 v61 v84 v757 v759) Q) := by
  subst h
  rw [k0_part24_eq_skeleton]; unfold on k0_part24_skel
  simp only [Prog.lift, Prog.bind_op, Prog.bind_ret, Prog.pure_eq_ret]
  iintro ⟨HS, M0_1, A0_1, A0_2⟩ Hk
  iapply (op_landed 1 1 k0_off63 k0_off68 (fun c => crow 1 c 0) (fun c => crow 1 c 0) (ch 1) 176 k0_off63_inb) $$ M0_1
  iintro M0_1
  iapply (op_load accM k0_off63 (fun c => crow 1 c 0) (fun c => crow 1 c 0) (ch 1) 176) $$ A0_1
  iintro A0_1
  iapply (op_restore accM k0_off63 (fun c => crow 1 c 0) 176 (ch 1) (V2 X 1 c) (shapeCast_self _ _)) $$ A0_1
  iintro A0_1
  iapply (op_done 27 37 30) $$ HS
  iintro HS
  iapply (op_recv 27 38 2 4 1 69) $$ HS
  iintro ⟨HS, HP⟩
  ihave HP := recv_4 $$ HP
  icases HP with ⟨M0_2, N2_2⟩
  iapply (op_load accM k0_off65 (fun c => crow 2 c 0) (fun c => crow 2 c 0) (ch 2) 160) $$ A0_2
  iintro A0_2
  iapply (op_landed 2 1 k0_off65 k0_off69 (fun c => crow 2 c 0) (fun c => crow 2 c 0) (ch 2) 160 k0_off65_inb) $$ M0_2
  iintro M0_2
  iapply (op_load accM k0_off65 (fun c => crow 2 c 0) (fun c => crow 2 c 0) (ch 2) 160) $$ A0_2
  iintro A0_2
  iapply (op_restore accM k0_off65 (fun c => crow 2 c 0) 160 (ch 2) (V2 X 2 c) (shapeCast_self _ _)) $$ A0_2
  iintro A0_2
  iapply op_ret; iapply Hk
  isplitl [HS]; · iexact HS
  isplitl [M0_1]; · iexact M0_1
  isplitl [A0_1]; · iexact A0_1
  isplitl [M0_2]; · iexact M0_2
  isplitl [N2_2]; · iexact N2_2
  iexact A0_2

end Cert.KernelIdeal.Sum
-- ==== Proof.BodyD.lean ====
module

public import proofs.«01_k».proof.Proof.Ops
public import Idealize.ShloMosaic.Lib.Pipeline.Value
public import proofs.«01_k».proof.Proof.Gen.KernelIdeal

/-! The parts of the body that finish the own chunks and start to hand them on. -/

@[expose] public section
noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable {X : Dev nD → FVec F (Sh 4096) .f32} {K : Dev nD × SemLoc sig → ℕ} {c : Dev nD}

/-- Part 25 of the body. -/
theorem part25 {v3 v22 v38 : BitVec 32} {Q : (BitVec 32) → sProp 𝕄} :
    iprop(Now X K c 27 39
        ∗ At (F := F) accM c (crow 0 c 0) (ch 0) fullShare (V2 X 0 c))
      ⊢ iprop((∀ r, (Now X K c 28 41
          ∗ Landed (F := F) 0 2 c (crow 0 c 0) (ch 0) (V2 X 0 (part 0 2 c))
          ∗ At (F := F) accM c (crow 0 c 0) (ch 0) (qsend 7) (OUT X)
          ∗ At (F := F) accM c (crow 0 c 0) (ch 0) (qsend 8) (OUT X)
          ∗ At (F := F) accM c (crow 0 c 0) (ch 0) (qout 0) (OUT X)) -∗ Q r)
        -∗ WP c (on (k0_part25 (F := F)) c v3 v22 v38) Q) := by
  rw [k0_part25_eq_skeleton]; unfold on k0_part25_skel
  simp only [Prog.lift, Prog.bind_op, Prog.bind_ret, Prog.pure_eq_ret]
  iintro ⟨HS, A0_0⟩ Hk
  iapply (op_done 27 39 5) $$ HS
  iintro HS
  iapply (op_recv 27 40 0 5 2 44) $$ HS
  iintro ⟨HS, HP⟩
  ihave HP := recv_5 $$ HP
  icases HP with ⟨W0_0, N1_0⟩
  iapply (op_load accM k0_off61 (fun c => crow 0 c 0) (fun c => crow 0 c 0) (ch 0) 176) $$ A0_0
  iintro A0_0
  iapply (op_landed 0 2 k0_off61 (fun _ => ![0, 0]) (fun c => crow 0 c 0) (fun c => crow 0 c 0) (ch 0) 176 k0_off61_inb) $$ W0_0
  iintro W0_0
  iapply (op_load accM k0_off61 (fun c => crow 0 c 0) (fun c => crow 0 c 0) (ch 0) 176) $$ A0_0
  iintro A0_0
  iapply (op_restore accM k0_off61 (fun c => crow 0 c 0) 176 (ch 0) (VF X 0 c) (shapeCast_self _ _)) $$ A0_0
  iintro A0_0
  ihave B0_0 := (At_congr (VF_eq_OUT X (s := 0) (by decide) c)) $$ A0_0
  ihave H := At_four $$ B0_0
  icases H with ⟨S6_0, S7_0, S8_0, O0_0⟩
  iapply (op_share 27 41 0 6 2 0 1 6 45 k0_off70 (fun c => ⟨k0_dev22 c, k0_dev22_lt c⟩) 176) $$ HS S6_0 N1_0
  iintro HS
  iapply op_ret; iapply Hk
  isplitl [HS]; · iexact HS
  isplitl [W0_0]; · iexact W0_0
  isplitl [S7_0]; · iexact S7_0
  isplitl [S8_0]; · iexact S8_0
  iexact O0_0

/-- Part 26 of the body. -/
theorem part26 {v4 v5 v22 v61 c1_i32_545 : BitVec 32} {Q : (PUnit) → sProp 𝕄} :
    iprop(Now X K c 28 41
        ∗ At (F := F) accM c (crow 0 c 0) (ch 0) (qsend 7) (OUT X)
        ∗ Any (F := F) accM (part 0 1 c) (crow 0 (part 0 1 c) 2) (ch 0)
        ∗ At (F := F) accM c (crow 0 c 0) (ch 0) (qsend 8) (OUT X)
        ∗ Any (F := F) accM (part 0 0 c) (crow 0 (part 0 0 c) 4) (ch 0)
        ∗ At (F := F) accM c (crow 0 c 0) (ch 0) (qout 0) (OUT X))
      ⊢ iprop((∀ r, (Now X K c 31 43
          ∗ Landed (F := F) 1 2 c (crow 1 c 0) (ch 1) (V2 X 1 (part 1 2 c))
          ∗ Any (F := F) accM (part 1 2 c) (crow 1 (part 1 2 c) 1) (ch 1)) -∗ Q r)
        -∗ WP c (on (k0_part26 (F := F)) c v4 v5 v22 v61 c1_i32_545) Q) := by
  rw [k0_part26_eq_skeleton]; unfold on k0_part26_skel
  simp only [Prog.lift, Prog.bind_op, Prog.bind_ret, Prog.pure_eq_ret]
  iintro ⟨HS, S7_0, N2_0, S8_0, N4_0, O0_0⟩ Hk
  iapply (op_share 28 41 0 7 1 0 2 7 46 k0_off70 (fun c => ⟨k0_dev23 c, k0_dev23_lt c⟩) 176) $$ HS S7_0 N2_0
  iintro HS
  iapply (op_share 29 41 0 8 0 0 4 8 47 k0_off70 (fun c => ⟨k0_dev24 c, k0_dev24_lt c⟩) 176) $$ HS S8_0 N4_0
  iintro HS
  iapply (op_out 30 41 0 0 87 k0_off70 176 (qout 0)) $$ HS O0_0
  iintro HS
  iapply (op_done 31 41 18) $$ HS
  iintro HS
  iapply (op_recv 31 42 1 5 2 57) $$ HS
  iintro ⟨HS, HP⟩
  ihave HP := recv_5 $$ HP
  icases HP with ⟨W0_1, N1_1⟩
  iapply op_ret; iapply Hk
  isplitl [HS]; · iexact HS
  isplitl [W0_1]; · iexact W0_1
  iexact N1_1

/-- Part 27 of the body. -/
theorem part27 {v3 v5 v45 v61 : BitVec 32} {Q : (BitVec 32) → sProp 𝕄} :
    iprop(Now X K c 31 43
        ∗ At (F := F) accM c (crow 1 c 0) (ch 1) fullShare (V2 X 1 c)
        ∗ Landed (F := F) 1 2 c (crow 1 c 0) (ch 1) (V2 X 1 (part 1 2 c))
        ∗ Any (F := F) accM (part 1 2 c) (crow 1 (part 1 2 c) 1) (ch 1)
        ∗ Any (F := F) accM (part 1 1 c) (crow 1 (part 1 1 c) 2) (ch 1))
      ⊢ iprop((∀ r, (Now X K c 33 43
          ∗ Landed (F := F) 1 2 c (crow 1 c 0) (ch 1) (V2 X 1 (part 1 2 c))
          ∗ At (F := F) accM c (crow 1 c 0) (ch 1) (qsend 8) (OUT X)
          ∗ At (F := F) accM c (crow 1 c 0) (ch 1) (qout 0) (OUT X)) -∗ Q r)
        -∗ WP c (on (k0_part27 (F := F)) c v3 v5 v45 v61) Q) := by
  rw [k0_part27_eq_skeleton]; unfold on k0_part27_skel
  simp only [Prog.lift, Prog.bind_op, Prog.bind_ret, Prog.pure_eq_ret]
  iintro ⟨HS, A0_1, W0_1, N1_1, N2_1⟩ Hk
  iapply (op_load accM k0_off63 (fun c => crow 1 c 0) (fun c => crow 1 c 0) (ch 1) 176) $$ A0_1
  iintro A0_1
  iapply (op_landed 1 2 k0_off63 (fun _ => ![0, 0]) (fun c => crow 1 c 0) (fun c => crow 1 c 0) (ch 1) 176 k0_off63_inb) $$ W0_1
  iintro W0_1
  iapply (op_load accM k0_off63 (fun c => crow 1 c 0) (fun c => crow 1 c 0) (ch 1) 176) $$ A0_1
  iintro A0_1
  iapply (op_restore accM k0_off63 (fun c => crow 1 c 0) 176 (ch 1) (VF X 1 c) (shapeCast_self _ _)) $$ A0_1
  iintro A0_1
  ihave B0_1 := (At_congr (VF_eq_OUT X (s := 1) (by decide) c)) $$ A0_1
  ihave H := At_four $$ B0_1
  icases H with ⟨S6_1, S7_1, S8_1, O0_1⟩
  iapply (op_share 31 43 1 6 2 0 1 19 58 k0_off71 (fun c => ⟨k0_dev25 c, k0_dev25_lt c⟩) 176) $$ HS S6_1 N1_1
  iintro HS
  iapply (op_share 32 43 1 7 1 0 2 20 59 k0_off71 (fun c => ⟨k0_dev26 c, k0_dev26_lt c⟩) 176) $$ HS S7_1 N2_1
  iintro HS
  iapply op_ret; iapply Hk
  isplitl [HS]; · iexact HS
  isplitl [W0_1]; · iexact W0_1
  isplitl [S8_1]; · iexact S8_1
  iexact O0_1

/-- Part 28 of the body. -/
theorem part28 {v4 v45 v84 c1_i32_587 : BitVec 32} {Q : (Σ' (v929 : FVec F S160x1024 .f32), FVec F S160x1024 .f32) → sProp 𝕄} :
    iprop(Now X K c 33 43
        ∗ At (F := F) accM c (crow 1 c 0) (ch 1) (qsend 8) (OUT X)
        ∗ Any (F := F) accM (part 1 0 c) (crow 1 (part 1 0 c) 4) (ch 1)
        ∗ At (F := F) accM c (crow 1 c 0) (ch 1) (qout 0) (OUT X)
        ∗ At (F := F) accM c (crow 2 c 0) (ch 2) fullShare (V2 X 2 c))
      ⊢ iprop((∀ r, (⌜r.1 = k0_pay28 (rd (k0_off65 c) (k0_off65_inb c) (V2 X 2 c)) (rd (k0_off65 c) (k0_off65_inb c) (V2 X 2 (part 2 2 c)))⌝
          ∗ ⌜r.2 = k0_pay29 (rd (k0_off65 c) (k0_off65_inb c) (V2 X 2 c)) (rd (k0_off65 c) (k0_off65_inb c) (V2 X 2 (part 2 2 c)))⌝
          ∗ Now X K c 35 45
          ∗ Landed (F := F) 2 2 c (crow 2 c 0) (ch 2) (V2 X 2 (part 2 2 c))
          ∗ Any (F := F) accM (part 2 2 c) (crow 2 (part 2 2 c) 1) (ch 2)
          ∗ At (F := F) accM c (crow 2 c 0) (ch 2) fullShare (V2 X 2 c)) -∗ Q r)
        -∗ WP c (on (k0_part28 (F := F)) c v4 v45 v84 c1_i32_587) Q) := by
  rw [k0_part28_eq_skeleton]; unfold on k0_part28_skel
  simp only [Prog.lift, Prog.bind_op, Prog.bind_ret, Prog.pure_eq_ret]
  iintro ⟨HS, S8_1, N4_1, O0_1, A0_2⟩ Hk
  iapply (op_share 33 43 1 8 0 0 4 21 60 k0_off71 (fun c => ⟨k0_dev27 c, k0_dev27_lt c⟩) 176) $$ HS S8_1 N4_1
  iintro HS
  iapply (op_out 34 43 1 0 88 k0_off71 176 (qout 0)) $$ HS O0_1
  iintro HS
  iapply (op_done 35 43 31) $$ HS
  iintro HS
  iapply (op_recv 35 44 2 5 2 70) $$ HS
  iintro ⟨HS, HP⟩
  ihave HP := recv_5 $$ HP
  icases HP with ⟨W0_2, N1_2⟩
  iapply (op_load accM k0_off65 (fun c => crow 2 c 0) (fun c => crow 2 c 0) (ch 2) 160) $$ A0_2
  iintro A0_2
  iapply (op_landed 2 2 k0_off65 (fun _ => ![0, 0]) (fun c => crow 2 c 0) (fun c => crow 2 c 0) (ch 2) 160 k0_off65_inb) $$ W0_2
  iintro W0_2
  iapply op_ret; iapply Hk
  isplitr; · ipureintro; exact rfl
  isplitr; · ipureintro; exact rfl
  isplitl [HS]; · iexact HS
  isplitl [W0_2]; · iexact W0_2
  isplitl [N1_2]; · iexact N1_2
  iexact A0_2

/-- Part 29 of the body. -/
theorem part29 {v3 v4 v5 v68 v84 : BitVec 32} {v929 : FVec F S160x1024 .f32} {v931 : FVec F S160x1024 .f32} (h₁ : v929 = k0_pay28 (rd (k0_off65 c) (k0_off65_inb c) (V2 X 2 c)) (rd (k0_off65 c) (k0_off65_inb c) (V2 X 2 (part 2 2 c)))) (h₂ : v931 = k0_pay29 (rd (k0_off65 c) (k0_off65_inb c) (V2 X 2 c)) (rd (k0_off65 c) (k0_off65_inb c) (V2 X 2 (part 2 2 c)))) {Q : (Σ' (v964 : BitVec 32), BitVec 32) → sProp 𝕄} :
    iprop(Now X K c 35 45
        ∗ At (F := F) accM c (crow 2 c 0) (ch 2) fullShare (V2 X 2 c)
        ∗ Any (F := F) accM (part 2 2 c) (crow 2 (part 2 2 c) 1) (ch 2)
        ∗ Any (F := F) accM (part 2 1 c) (crow 2 (part 2 1 c) 2) (ch 2)
        ∗ Any (F := F) accM (part 2 0 c) (crow 2 (part 2 0 c) 4) (ch 2))
      ⊢ iprop((∀ r, (Now X K c 38 45
          ∗ At (F := F) accM c (crow 2 c 0) (ch 2) (qout 0) (OUT X)) -∗ Q r)
        -∗ WP c (on (k0_part29 (F := F)) c v3 v4 v5 v68 v84 v929 v931) Q) := by
  subst h₁; subst h₂
  rw [k0_part29_eq_skeleton]; unfold on k0_part29_skel
  simp only [Prog.lift, Prog.bind_op, Prog.bind_ret, Prog.pure_eq_ret]
  iintro ⟨HS, A0_2, N1_2, N2_2, N4_2⟩ Hk
  iapply (op_load accM k0_off65 (fun c => crow 2 c 0) (fun c => crow 2 c 0) (ch 2) 160) $$ A0_2
  iintro A0_2
  iapply (op_restore accM k0_off65 (fun c => crow 2 c 0) 160 (ch 2) (VF X 2 c) (shapeCast_self _ _)) $$ A0_2
  iintro A0_2
  ihave B0_2 := (At_congr (VF_eq_OUT X (s := 2) (by decide) c)) $$ A0_2
  ihave H := At_four $$ B0_2
  icases H with ⟨S6_2, S7_2, S8_2, O0_2⟩
  iapply (op_share 35 45 2 6 2 0 1 32 71 k0_off72 (fun c => ⟨k0_dev28 c, k0_dev28_lt c⟩) 160) $$ HS S6_2 N1_2
  iintro HS
  iapply (op_share 36 45 2 7 1 0 2 33 72 k0_off72 (fun c => ⟨k0_dev29 c, k0_dev29_lt c⟩) 160) $$ HS S7_2 N2_2
  iintro HS
  iapply (op_share 37 45 2 8 0 0 4 34 73 k0_off72 (fun c => ⟨k0_dev30 c, k0_dev30_lt c⟩) 160) $$ HS S8_2 N4_2
  iintro HS
  iapply op_ret; iapply Hk
  isplitl [HS]; · iexact HS
  iexact O0_2

/-- Part 30 of the body. -/
theorem part30 {v3 v4 v5 v22 v964 c2816_i32_628 : BitVec 32} {Q : (PUnit) → sProp 𝕄} :
    iprop(Now X K c 38 45
        ∗ At (F := F) accM c (crow 2 c 0) (ch 2) (qout 0) (OUT X)
        ∗ Any (F := F) accM (part 0 1 c) (crow 0 (part 0 1 c) 3) (ch 0))
      ⊢ iprop((∀ r, (Now X K c 40 47
          ∗ At (F := F) accM c (crow 0 c 1) (ch 0) (qsend 10) (OUT X)
          ∗ At (F := F) accM c (crow 0 c 1) (ch 0) (qout 1) (OUT X)) -∗ Q r)
        -∗ WP c (on (k0_part30 (F := F)) c v3 v4 v5 v22 v964 c2816_i32_628) Q) := by
  rw [k0_part30_eq_skeleton]; unfold on k0_part30_skel
  simp only [Prog.lift, Prog.bind_op, Prog.bind_ret, Prog.pure_eq_ret]
  iintro ⟨HS, O0_2, N3_0⟩ Hk
  iapply (op_out 38 45 2 0 89 k0_off72 160 (qout 0)) $$ HS O0_2
  iintro HS
  iapply (op_done 39 45 6) $$ HS
  iintro HS
  iapply (op_recv 39 46 0 6 2 45) $$ HS
  iintro ⟨HS, HP⟩
  ihave B1_0 := (recv_chunk 0 1) $$ HP
  ihave H := At_three $$ B1_0
  icases H with ⟨S9_0, S10_0, O1_0⟩
  iapply (op_share 39 47 0 9 1 1 3 9 48 (fun c => k0_off73 c 1#32) (fun c => ⟨k0_dev31 c, k0_dev31_lt c⟩) 176) $$ HS S9_0 N3_0
  iintro HS
  iapply op_ret; iapply Hk
  isplitl [HS]; · iexact HS
  isplitl [S10_0]; · iexact S10_0
  iexact O1_0

/-- Part 31 of the body. -/
theorem part31 {v3 v5 v22 v45 : BitVec 32} {Q : (PUnit) → sProp 𝕄} :
    iprop(Now X K c 40 47
        ∗ At (F := F) accM c (crow 0 c 1) (ch 0) (qsend 10) (OUT X)
        ∗ Any (F := F) accM (part 0 0 c) (crow 0 (part 0 0 c) 5) (ch 0)
        ∗ At (F := F) accM c (crow 0 c 1) (ch 0) (qout 1) (OUT X))
      ⊢ iprop((∀ r, (Now X K c 42 49
          ∗ At (F := F) accM c (crow 1 c 1) (ch 1) fullShare (OUT X)) -∗ Q r)
        -∗ WP c (on (k0_part31 (F := F)) c v3 v5 v22 v45) Q) := by
  rw [k0_part31_eq_skeleton]; unfold on k0_part31_skel
  simp only [Prog.lift, Prog.bind_op, Prog.bind_ret, Prog.pure_eq_ret]
  iintro ⟨HS, S10_0, N5_0, O1_0⟩ Hk
  iapply (op_share 40 47 0 10 0 1 5 10 49 (fun c => k0_off73 c 1#32) (fun c => ⟨k0_dev32 c, k0_dev32_lt c⟩) 176) $$ HS S10_0 N5_0
  iintro HS
  iapply (op_out 41 47 0 1 90 (fun c => k0_off73 c 1#32) 176 (qout 1)) $$ HS O1_0
  iintro HS
  iapply (op_done 42 47 19) $$ HS
  iintro HS
  iapply (op_recv 42 48 1 6 2 58) $$ HS
  iintro ⟨HS, HP⟩
  ihave B1_1 := (recv_chunk 0 1) $$ HP
  iapply op_ret; iapply Hk
  isplitl [HS]; · iexact HS
  iexact B1_1

end Cert.KernelIdeal.Sum
-- ==== Proof.BodyE.lean ====
module

public import proofs.«01_k».proof.Proof.Ops
public import Idealize.ShloMosaic.Lib.Pipeline.Value
public import proofs.«01_k».proof.Proof.Gen.KernelIdeal

/-! The parts of the body that hand on the chunks of the partners. -/

@[expose] public section
noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable {X : Dev nD → FVec F (Sh 4096) .f32} {K : Dev nD × SemLoc sig → ℕ} {c : Dev nD}

/-- Part 32 of the body. -/
theorem part32 {v4 v45 v68 : BitVec 32} {Q : (BitVec 32) → sProp 𝕄} :
    iprop(Now X K c 42 49
        ∗ At (F := F) accM c (crow 1 c 1) (ch 1) fullShare (OUT X)
        ∗ Any (F := F) accM (part 1 1 c) (crow 1 (part 1 1 c) 3) (ch 1)
        ∗ Any (F := F) accM (part 1 0 c) (crow 1 (part 1 0 c) 5) (ch 1))
      ⊢ iprop((∀ r, (Now X K c 45 51
          ∗ At (F := F) accM c (crow 2 c 1) (ch 2) fullShare (OUT X)) -∗ Q r)
        -∗ WP c (on (k0_part32 (F := F)) c v4 v45 v68) Q) := by
  rw [k0_part32_eq_skeleton]; unfold on k0_part32_skel
  simp only [Prog.lift, Prog.bind_op, Prog.bind_ret, Prog.pure_eq_ret]
  iintro ⟨HS, B1_1, N3_1, N5_1⟩ Hk
  ihave H := At_three $$ B1_1
  icases H with ⟨S9_1, S10_1, O1_1⟩
  iapply (op_share 42 49 1 9 1 1 3 22 61 (fun c => k0_off74 c 1#32) (fun c => ⟨k0_dev33 c, k0_dev33_lt c⟩) 176) $$ HS S9_1 N3_1
  iintro HS
  iapply (op_share 43 49 1 10 0 1 5 23 62 (fun c => k0_off74 c 1#32) (fun c => ⟨k0_dev34 c, k0_dev34_lt c⟩) 176) $$ HS S10_1 N5_1
  iintro HS
  iapply (op_out 44 49 1 1 91 (fun c => k0_off74 c 1#32) 176 (qout 1)) $$ HS O1_1
  iintro HS
  iapply (op_done 45 49 32) $$ HS
  iintro HS
  iapply (op_recv 45 50 2 6 2 71) $$ HS
  iintro ⟨HS, HP⟩
  ihave B1_2 := (recv_chunk 0 1) $$ HP
  iapply op_ret; iapply Hk
  isplitl [HS]; · iexact HS
  iexact B1_2

/-- Part 33 of the body. -/
theorem part33 {v3 v5 v68 v1052 : BitVec 32} {Q : (PUnit) → sProp 𝕄} :
    iprop(Now X K c 45 51
        ∗ At (F := F) accM c (crow 2 c 1) (ch 2) fullShare (OUT X)
        ∗ Any (F := F) accM (part 2 1 c) (crow 2 (part 2 1 c) 3) (ch 2)
        ∗ Any (F := F) accM (part 2 0 c) (crow 2 (part 2 0 c) 5) (ch 2))
      ⊢ iprop((∀ r, (Now X K c 48 52) -∗ Q r)
        -∗ WP c (on (k0_part33 (F := F)) c v3 v5 v68 v1052) Q) := by
  rw [k0_part33_eq_skeleton]; unfold on k0_part33_skel
  simp only [Prog.lift, Prog.bind_op, Prog.bind_ret, Prog.pure_eq_ret]
  iintro ⟨HS, B1_2, N3_2, N5_2⟩ Hk
  ihave H := At_three $$ B1_2
  icases H with ⟨S9_2, S10_2, O1_2⟩
  iapply (op_share 45 51 2 9 1 1 3 35 74 (fun c => k0_off75 c 1#32) (fun c => ⟨k0_dev35 c, k0_dev35_lt c⟩) 160) $$ HS S9_2 N3_2
  iintro HS
  iapply (op_share 46 51 2 10 0 1 5 36 75 (fun c => k0_off75 c 1#32) (fun c => ⟨k0_dev36 c, k0_dev36_lt c⟩) 160) $$ HS S10_2 N5_2
  iintro HS
  iapply (op_out 47 51 2 1 92 (fun c => k0_off75 c 1#32) 160 (qout 1)) $$ HS O1_2
  iintro HS
  iapply (op_done 48 51 7) $$ HS
  iintro HS
  iapply op_ret; iapply Hk
  iexact HS

/-- Part 34 of the body. -/
theorem part34 {v3 v4 v5 v22 : BitVec 32} {Q : (BitVec 32) → sProp 𝕄} :
    iprop(Now X K c 48 52
        ∗ Any (F := F) accM (part 0 0 c) (crow 0 (part 0 0 c) 6) (ch 0))
      ⊢ iprop((∀ r, (Now X K c 50 54) -∗ Q r)
        -∗ WP c (on (k0_part34 (F := F)) c v3 v4 v5 v22) Q) := by
  rw [k0_part34_eq_skeleton]; unfold on k0_part34_skel
  simp only [Prog.lift, Prog.bind_op, Prog.bind_ret, Prog.pure_eq_ret]
  iintro ⟨HS, N6_0⟩ Hk
  iapply (op_recv 48 52 0 7 1 46) $$ HS
  iintro ⟨HS, HP⟩
  ihave B2_0 := (recv_chunk 1 2) $$ HP
  ihave H := (At_halves 11 2) $$ B2_0
  icases H with ⟨S11_0, O2_0⟩
  iapply (op_share 48 53 0 11 0 2 6 11 50 (fun c => k0_off73 c 2#32) (fun c => ⟨k0_dev37 c, k0_dev37_lt c⟩) 176) $$ HS S11_0 N6_0
  iintro HS
  iapply (op_out 49 53 0 2 93 (fun c => k0_off73 c 2#32) 176 (qout 2)) $$ HS O2_0
  iintro HS
  iapply (op_done 50 53 20) $$ HS
  iintro HS
  iapply op_ret; iapply Hk
  iexact HS

/-- Part 35 of the body. -/
theorem part35 {v4 v5 v45 v1110 : BitVec 32} {Q : (PUnit) → sProp 𝕄} :
    iprop(Now X K c 50 54
        ∗ Any (F := F) accM (part 1 0 c) (crow 1 (part 1 0 c) 6) (ch 1))
      ⊢ iprop((∀ r, (Now X K c 52 56) -∗ Q r)
        -∗ WP c (on (k0_part35 (F := F)) c v4 v5 v45 v1110) Q) := by
  rw [k0_part35_eq_skeleton]; unfold on k0_part35_skel
  simp only [Prog.lift, Prog.bind_op, Prog.bind_ret, Prog.pure_eq_ret]
  iintro ⟨HS, N6_1⟩ Hk
  iapply (op_recv 50 54 1 7 1 59) $$ HS
  iintro ⟨HS, HP⟩
  ihave B2_1 := (recv_chunk 1 2) $$ HP
  ihave H := (At_halves 11 2) $$ B2_1
  icases H with ⟨S11_1, O2_1⟩
  iapply (op_share 50 55 1 11 0 2 6 24 63 (fun c => k0_off74 c 2#32) (fun c => ⟨k0_dev38 c, k0_dev38_lt c⟩) 176) $$ HS S11_1 N6_1
  iintro HS
  iapply (op_out 51 55 1 2 94 (fun c => k0_off74 c 2#32) 176 (qout 2)) $$ HS O2_1
  iintro HS
  iapply (op_done 52 55 33) $$ HS
  iintro HS
  iapply op_ret; iapply Hk
  iexact HS

/-- Part 36 of the body. -/
theorem part36 {v3 v4 v68 : BitVec 32} {Q : (PUnit) → sProp 𝕄} :
    iprop(Now X K c 52 56
        ∗ Any (F := F) accM (part 2 0 c) (crow 2 (part 2 0 c) 6) (ch 2))
      ⊢ iprop((∀ r, (Now X K c 54 58) -∗ Q r)
        -∗ WP c (on (k0_part36 (F := F)) c v3 v4 v68) Q) := by
  rw [k0_part36_eq_skeleton]; unfold on k0_part36_skel
  simp only [Prog.lift, Prog.bind_op, Prog.bind_ret, Prog.pure_eq_ret]
  iintro ⟨HS, N6_2⟩ Hk
  iapply (op_recv 52 56 2 7 1 72) $$ HS
  iintro ⟨HS, HP⟩
  ihave B2_2 := (recv_chunk 1 2) $$ HP
  ihave H := (At_halves 11 2) $$ B2_2
  icases H with ⟨S11_2, O2_2⟩
  iapply (op_share 52 57 2 11 0 2 6 37 76 (fun c => k0_off75 c 2#32) (fun c => ⟨k0_dev39 c, k0_dev39_lt c⟩) 160) $$ HS S11_2 N6_2
  iintro HS
  iapply (op_out 53 57 2 2 95 (fun c => k0_off75 c 2#32) 160 (qout 2)) $$ HS O2_2
  iintro HS
  iapply (op_done 54 57 9) $$ HS
  iintro HS
  iapply op_ret; iapply Hk
  iexact HS

/-- Part 37 of the body. -/
theorem part37 {v3 v5 v22 : BitVec 32} {Q : (PUnit) → sProp 𝕄} :
    iprop(Now X K c 54 58
        ∗ Any (F := F) accM (part 0 0 c) (crow 0 (part 0 0 c) 7) (ch 0))
      ⊢ iprop((∀ r, (Now X K c 56 60) -∗ Q r)
        -∗ WP c (on (k0_part37 (F := F)) c v3 v5 v22) Q) := by
  rw [k0_part37_eq_skeleton]; unfold on k0_part37_skel
  simp only [Prog.lift, Prog.bind_op, Prog.bind_ret, Prog.pure_eq_ret]
  iintro ⟨HS, N7_0⟩ Hk
  iapply (op_recv 54 58 0 9 1 48) $$ HS
  iintro ⟨HS, HP⟩
  ihave B3_0 := (recv_chunk 3 3) $$ HP
  ihave H := (At_halves 12 3) $$ B3_0
  icases H with ⟨S12_0, O3_0⟩
  iapply (op_share 54 59 0 12 0 3 7 12 51 (fun c => k0_off73 c 3#32) (fun c => ⟨k0_dev40 c, k0_dev40_lt c⟩) 176) $$ HS S12_0 N7_0
  iintro HS
  iapply (op_out 55 59 0 3 96 (fun c => k0_off73 c 3#32) 176 (qout 3)) $$ HS O3_0
  iintro HS
  iapply (op_done 56 59 22) $$ HS
  iintro HS
  iapply op_ret; iapply Hk
  iexact HS

/-- Part 38 of the body. -/
theorem part38 {v4 v5 v45 : BitVec 32} {Q : (PUnit) → sProp 𝕄} :
    iprop(Now X K c 56 60
        ∗ Any (F := F) accM (part 1 0 c) (crow 1 (part 1 0 c) 7) (ch 1))
      ⊢ iprop((∀ r, (Now X K c 58 62) -∗ Q r)
        -∗ WP c (on (k0_part38 (F := F)) c v4 v5 v45) Q) := by
  rw [k0_part38_eq_skeleton]; unfold on k0_part38_skel
  simp only [Prog.lift, Prog.bind_op, Prog.bind_ret, Prog.pure_eq_ret]
  iintro ⟨HS, N7_1⟩ Hk
  iapply (op_recv 56 60 1 9 1 61) $$ HS
  iintro ⟨HS, HP⟩
  ihave B3_1 := (recv_chunk 3 3) $$ HP
  ihave H := (At_halves 12 3) $$ B3_1
  icases H with ⟨S12_1, O3_1⟩
  iapply (op_share 56 61 1 12 0 3 7 25 64 (fun c => k0_off74 c 3#32) (fun c => ⟨k0_dev41 c, k0_dev41_lt c⟩) 176) $$ HS S12_1 N7_1
  iintro HS
  iapply (op_out 57 61 1 3 97 (fun c => k0_off74 c 3#32) 176 (qout 3)) $$ HS O3_1
  iintro HS
  iapply (op_done 58 61 35) $$ HS
  iintro HS
  iapply op_ret; iapply Hk
  iexact HS

/-- Part 39 of the body. -/
theorem part39 {v3 v5 v68 : BitVec 32} {Q : (BitVec 32) → sProp 𝕄} :
    iprop(Now X K c 58 62
        ∗ Any (F := F) accM (part 2 0 c) (crow 2 (part 2 0 c) 7) (ch 2))
      ⊢ iprop((∀ r, (Now X K c 60 65
          ∗ At (F := F) accM c (crow 0 c 4) (ch 0) fullShare (OUT X)) -∗ Q r)
        -∗ WP c (on (k0_part39 (F := F)) c v3 v5 v68) Q) := by
  rw [k0_part39_eq_skeleton]; unfold on k0_part39_skel
  simp only [Prog.lift, Prog.bind_op, Prog.bind_ret, Prog.pure_eq_ret]
  iintro ⟨HS, N7_2⟩ Hk
  iapply (op_recv 58 62 2 9 1 74) $$ HS
  iintro ⟨HS, HP⟩
  ihave B3_2 := (recv_chunk 3 3) $$ HP
  ihave H := (At_halves 12 3) $$ B3_2
  icases H with ⟨S12_2, O3_2⟩
  iapply (op_share 58 63 2 12 0 3 7 38 77 (fun c => k0_off75 c 3#32) (fun c => ⟨k0_dev42 c, k0_dev42_lt c⟩) 160) $$ HS S12_2 N7_2
  iintro HS
  iapply (op_out 59 63 2 3 98 (fun c => k0_off75 c 3#32) 160 (qout 3)) $$ HS O3_2
  iintro HS
  iapply (op_done 60 63 8) $$ HS
  iintro HS
  iapply (op_recv 60 64 0 8 0 47) $$ HS
  iintro ⟨HS, HP⟩
  ihave B4_0 := (recv_chunk 2 4) $$ HP
  iapply op_ret; iapply Hk
  isplitl [HS]; · iexact HS
  iexact B4_0

end Cert.KernelIdeal.Sum
-- ==== Proof.BodyG.lean ====
module

public import proofs.«01_k».proof.Proof.Ops
public import Idealize.ShloMosaic.Lib.Pipeline.Value
public import proofs.«01_k».proof.Proof.Gen.KernelIdeal

/-! The parts of the body that copy the last chunks out. -/

@[expose] public section
noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable {X : Dev nD → FVec F (Sh 4096) .f32} {K : Dev nD × SemLoc sig → ℕ} {c : Dev nD}

/-- Part 40 of the body. -/
theorem part40 {v5 v22 c4_i32_883 : BitVec 32} {Q : (PUnit) → sProp 𝕄} :
    iprop(Now X K c 60 65
        ∗ At (F := F) accM c (crow 0 c 4) (ch 0) fullShare (OUT X))
      ⊢ iprop((∀ r, (Now X K c 62 68) -∗ Q r)
        -∗ WP c (on (k0_part40 (F := F)) c v5 v22 c4_i32_883) Q) := by
  rw [k0_part40_eq_skeleton]; unfold on k0_part40_skel
  simp only [Prog.lift, Prog.bind_op, Prog.bind_ret, Prog.pure_eq_ret]
  iintro ⟨HS, B4_0⟩ Hk
  iapply (op_out 60 65 0 4 99 (fun c => k0_off73 c 4#32) 176 fullShare) $$ HS B4_0
  iintro HS
  iapply (op_done 61 65 10) $$ HS
  iintro HS
  iapply (op_recv 61 66 0 10 0 49) $$ HS
  iintro ⟨HS, HP⟩
  ihave B5_0 := (recv_chunk 4 5) $$ HP
  iapply (op_out 61 67 0 5 100 (fun c => k0_off73 c 5#32) 176 fullShare) $$ HS B5_0
  iintro HS
  iapply (op_done 62 67 11) $$ HS
  iintro HS
  iapply op_ret; iapply Hk
  iexact HS

/-- Part 41 of the body. -/
theorem part41 {v5 v22 : BitVec 32} {Q : (PUnit) → sProp 𝕄} :
    iprop(Now X K c 62 68)
      ⊢ iprop((∀ r, (Now X K c 63 71
          ∗ At (F := F) accM c (crow 0 c 7) (ch 0) fullShare (OUT X)) -∗ Q r)
        -∗ WP c (on (k0_part41 (F := F)) c v5 v22) Q) := by
  rw [k0_part41_eq_skeleton]; unfold on k0_part41_skel
  simp only [Prog.lift, Prog.bind_op, Prog.bind_ret, Prog.pure_eq_ret]
  iintro HS Hk
  iapply (op_recv 62 68 0 11 0 50) $$ HS
  iintro ⟨HS, HP⟩
  ihave B6_0 := (recv_chunk 5 6) $$ HP
  iapply (op_out 62 69 0 6 101 (fun c => k0_off73 c 6#32) 176 fullShare) $$ HS B6_0
  iintro HS
  iapply (op_done 63 69 12) $$ HS
  iintro HS
  iapply (op_recv 63 70 0 12 0 51) $$ HS
  iintro ⟨HS, HP⟩
  ihave B7_0 := (recv_chunk 6 7) $$ HP
  iapply op_ret; iapply Hk
  isplitl [HS]; · iexact HS
  iexact B7_0

/-- Part 42 of the body. -/
theorem part42 {v4 v45 : BitVec 32} {Q : (PUnit) → sProp 𝕄} :
    iprop(Now X K c 63 71
        ∗ At (F := F) accM c (crow 0 c 7) (ch 0) fullShare (OUT X))
      ⊢ iprop((∀ r, (Now X K c 65 74) -∗ Q r)
        -∗ WP c (on (k0_part42 (F := F)) c v4 v45) Q) := by
  rw [k0_part42_eq_skeleton]; unfold on k0_part42_skel
  simp only [Prog.lift, Prog.bind_op, Prog.bind_ret, Prog.pure_eq_ret]
  iintro ⟨HS, B7_0⟩ Hk
  iapply (op_out 63 71 0 7 102 (fun c => k0_off73 c 7#32) 176 fullShare) $$ HS B7_0
  iintro HS
  iapply (op_done 64 71 21) $$ HS
  iintro HS
  iapply (op_recv 64 72 1 8 0 60) $$ HS
  iintro ⟨HS, HP⟩
  ihave B4_1 := (recv_chunk 2 4) $$ HP
  iapply (op_out 64 73 1 4 103 (fun c => k0_off74 c 4#32) 176 fullShare) $$ HS B4_1
  iintro HS
  iapply (op_done 65 73 23) $$ HS
  iintro HS
  iapply op_ret; iapply Hk
  iexact HS

/-- Part 43 of the body. -/
theorem part43 {v4 v45 : BitVec 32} {Q : (PUnit) → sProp 𝕄} :
    iprop(Now X K c 65 74)
      ⊢ iprop((∀ r, (Now X K c 67 77) -∗ Q r)
        -∗ WP c (on (k0_part43 (F := F)) c v4 v45) Q) := by
  rw [k0_part43_eq_skeleton]; unfold on k0_part43_skel
  simp only [Prog.lift, Prog.bind_op, Prog.bind_ret, Prog.pure_eq_ret]
  iintro HS Hk
  iapply (op_recv 65 74 1 10 0 62) $$ HS
  iintro ⟨HS, HP⟩
  ihave B5_1 := (recv_chunk 4 5) $$ HP
  iapply (op_out 65 75 1 5 104 (fun c => k0_off74 c 5#32) 176 fullShare) $$ HS B5_1
  iintro HS
  iapply (op_done 66 75 24) $$ HS
  iintro HS
  iapply (op_recv 66 76 1 11 0 63) $$ HS
  iintro ⟨HS, HP⟩
  ihave B6_1 := (recv_chunk 5 6) $$ HP
  iapply (op_out 66 77 1 6 105 (fun c => k0_off74 c 6#32) 176 fullShare) $$ HS B6_1
  iintro HS
  iapply op_ret; iapply Hk
  iexact HS

/-- Part 44 of the body. -/
theorem part44 {v3 v4 v45 v68 : BitVec 32} {Q : (Σ' (v1393 : BitVec 32), BitVec 32) → sProp 𝕄} :
    iprop(Now X K c 67 77)
      ⊢ iprop((∀ r, (Now X K c 68 81
          ∗ At (F := F) accM c (crow 2 c 4) (ch 2) fullShare (OUT X)) -∗ Q r)
        -∗ WP c (on (k0_part44 (F := F)) c v3 v4 v45 v68) Q) := by
  rw [k0_part44_eq_skeleton]; unfold on k0_part44_skel
  simp only [Prog.lift, Prog.bind_op, Prog.bind_ret, Prog.pure_eq_ret]
  iintro HS Hk
  iapply (op_done 67 77 25) $$ HS
  iintro HS
  iapply (op_recv 67 78 1 12 0 64) $$ HS
  iintro ⟨HS, HP⟩
  ihave B7_1 := (recv_chunk 6 7) $$ HP
  iapply (op_out 67 79 1 7 106 (fun c => k0_off74 c 7#32) 176 fullShare) $$ HS B7_1
  iintro HS
  iapply (op_done 68 79 34) $$ HS
  iintro HS
  iapply (op_recv 68 80 2 8 0 73) $$ HS
  iintro ⟨HS, HP⟩
  ihave B4_2 := (recv_chunk 2 4) $$ HP
  iapply op_ret; iapply Hk
  isplitl [HS]; · iexact HS
  iexact B4_2

/-- Part 45 of the body. -/
theorem part45 {v3 v68 v1393 c2816_i32_1021 : BitVec 32} {Q : (BitVec 32) → sProp 𝕄} :
    iprop(Now X K c 68 81
        ∗ At (F := F) accM c (crow 2 c 4) (ch 2) fullShare (OUT X))
      ⊢ iprop((∀ r, (Now X K c 70 84) -∗ Q r)
        -∗ WP c (on (k0_part45 (F := F)) c v3 v68 v1393 c2816_i32_1021) Q) := by
  rw [k0_part45_eq_skeleton]; unfold on k0_part45_skel
  simp only [Prog.lift, Prog.bind_op, Prog.bind_ret, Prog.pure_eq_ret]
  iintro ⟨HS, B4_2⟩ Hk
  iapply (op_out 68 81 2 4 107 (fun c => k0_off75 c 4#32) 160 fullShare) $$ HS B4_2
  iintro HS
  iapply (op_done 69 81 36) $$ HS
  iintro HS
  iapply (op_recv 69 82 2 10 0 75) $$ HS
  iintro ⟨HS, HP⟩
  ihave B5_2 := (recv_chunk 4 5) $$ HP
  iapply (op_out 69 83 2 5 108 (fun c => k0_off75 c 5#32) 160 fullShare) $$ HS B5_2
  iintro HS
  iapply (op_done 70 83 37) $$ HS
  iintro HS
  iapply op_ret; iapply Hk
  iexact HS

/-- Part 46 of the body. -/
theorem part46 {v3 v68 v1420 : BitVec 32} {Q : (PUnit) → sProp 𝕄} :
    iprop(Now X K c 70 84)
      ⊢ iprop((∀ r, (Now X K c 72 87) -∗ Q r)
        -∗ WP c (on (k0_part46 (F := F)) c v3 v68 v1420) Q) := by
  rw [k0_part46_eq_skeleton]; unfold on k0_part46_skel
  simp only [Prog.lift, Prog.bind_op, Prog.bind_ret, Prog.pure_eq_ret]
  iintro HS Hk
  iapply (op_recv 70 84 2 11 0 76) $$ HS
  iintro ⟨HS, HP⟩
  ihave B6_2 := (recv_chunk 5 6) $$ HP
  iapply (op_out 70 85 2 6 109 (fun c => k0_off75 c 6#32) 160 fullShare) $$ HS B6_2
  iintro HS
  iapply (op_done 71 85 38) $$ HS
  iintro HS
  iapply (op_recv 71 86 2 12 0 77) $$ HS
  iintro ⟨HS, HP⟩
  ihave B7_2 := (recv_chunk 6 7) $$ HP
  iapply (op_out 71 87 2 7 110 (fun c => k0_off75 c 7#32) 160 fullShare) $$ HS B7_2
  iintro HS
  iapply op_ret; iapply Hk
  iexact HS

end Cert.KernelIdeal.Sum
-- ==== Proof.BodyH.lean ====
module

public import proofs.«01_k».proof.Proof.Ops
public import Idealize.ShloMosaic.Lib.Pipeline.Value
public import proofs.«01_k».proof.Proof.Gen.KernelIdeal

/-! The parts of the body that wait for the copies out. -/

@[expose] public section
noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable {X : Dev nD → FVec F (Sh 4096) .f32} {K : Dev nD × SemLoc sig → ℕ} {c : Dev nD}

/-- Part 47 of the body. -/
theorem part47  {Q : (PUnit) → sProp 𝕄} :
    iprop(Now X K c 72 87)
      ⊢ iprop((∀ r, (Now X K c 72 94) -∗ Q r)
        -∗ WP c (on (k0_part47 (F := F)) c) Q) := by
  rw [k0_part47_eq_skeleton]; unfold on k0_part47_skel
  simp only [Prog.lift, Prog.bind_op, Prog.bind_ret, Prog.pure_eq_ret]
  iintro HS Hk
  iapply (op_done 72 87 87) $$ HS
  iintro HS
  iapply (op_done 72 88 88) $$ HS
  iintro HS
  iapply (op_done 72 89 89) $$ HS
  iintro HS
  iapply (op_done 72 90 90) $$ HS
  iintro HS
  iapply (op_done 72 91 91) $$ HS
  iintro HS
  iapply (op_done 72 92 92) $$ HS
  iintro HS
  iapply (op_done 72 93 93) $$ HS
  iintro HS
  iapply op_ret; iapply Hk
  iexact HS

/-- Part 48 of the body. -/
theorem part48  {Q : (PUnit) → sProp 𝕄} :
    iprop(Now X K c 72 94)
      ⊢ iprop((∀ r, (Now X K c 72 102) -∗ Q r)
        -∗ WP c (on (k0_part48 (F := F)) c) Q) := by
  rw [k0_part48_eq_skeleton]; unfold on k0_part48_skel
  simp only [Prog.lift, Prog.bind_op, Prog.bind_ret, Prog.pure_eq_ret]
  iintro HS Hk
  iapply (op_done 72 94 94) $$ HS
  iintro HS
  iapply (op_done 72 95 95) $$ HS
  iintro HS
  iapply (op_done 72 96 96) $$ HS
  iintro HS
  iapply (op_done 72 97 97) $$ HS
  iintro HS
  iapply (op_done 72 98 98) $$ HS
  iintro HS
  iapply (op_done 72 99 99) $$ HS
  iintro HS
  iapply (op_done 72 100 100) $$ HS
  iintro HS
  iapply (op_done 72 101 101) $$ HS
  iintro HS
  iapply op_ret; iapply Hk
  iexact HS

/-- Part 49 of the body. -/
theorem part49  {Q : (PUnit) → sProp 𝕄} :
    iprop(Now X K c 72 102)
      ⊢ iprop((∀ r, (Now X K c 72 109) -∗ Q r)
        -∗ WP c (on (k0_part49 (F := F)) c) Q) := by
  rw [k0_part49_eq_skeleton]; unfold on k0_part49_skel
  simp only [Prog.lift, Prog.bind_op, Prog.bind_ret, Prog.pure_eq_ret]
  iintro HS Hk
  iapply (op_done 72 102 102) $$ HS
  iintro HS
  iapply (op_done 72 103 103) $$ HS
  iintro HS
  iapply (op_done 72 104 104) $$ HS
  iintro HS
  iapply (op_done 72 105 105) $$ HS
  iintro HS
  iapply (op_done 72 106 106) $$ HS
  iintro HS
  iapply (op_done 72 107 107) $$ HS
  iintro HS
  iapply (op_done 72 108 108) $$ HS
  iintro HS
  iapply op_ret; iapply Hk
  iexact HS

end Cert.KernelIdeal.Sum
-- ==== Proof.Whole.lean ====
module

public import proofs.«01_k».proof.Proof.Start
public import proofs.«01_k».proof.Proof.BodyA
public import proofs.«01_k».proof.Proof.BodyB
public import proofs.«01_k».proof.Proof.BodyC
public import proofs.«01_k».proof.Proof.BodyD
public import proofs.«01_k».proof.Proof.BodyE
public import proofs.«01_k».proof.Proof.BodyG
public import proofs.«01_k».proof.Proof.BodyH
public import Idealize.ShloMosaic.Lib.Pipeline.Value
public import proofs.«01_k».proof.Proof.Gen.KernelIdeal

/-! The whole body: its parts one after the other. -/

@[expose] public section
noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable {X : Dev nD → FVec F (Sh 4096) .f32} {K : Dev nD × SemLoc sig → ℕ} {c : Dev nD}

/-- The accumulator in the pieces in which the body first uses it. -/
def Acc (c : Dev nD) : sProp 𝕄 :=
  bigSepL (pcsA c) fun p => Any (F := F) accM c p.1 p.2

/-- What the landing buffers of stream `s` hold at the end. -/
def Lands (X : Dev nD → FVec F (Sh 4096) .f32) (s : ℕ) (c : Dev nD) : sProp 𝕄 :=
  iprop(Landed (F := F) s 0 c (prow s c 2) (2 * ch s) (V0 X (part s 0 c))
    ∗ Landed (F := F) s 0 c (crow s c 1) (ch s) (V0 X (part s 0 c)) ∗ Landed (F := F) s 0 c (crow s c 0) (ch s) (V0 X (part s 0 c))
    ∗ Landed (F := F) s 1 c (crow s c 1) (ch s) (V1 X s (part s 1 c)) ∗ Landed (F := F) s 1 c (crow s c 0) (ch s) (V1 X s (part s 1 c))
    ∗ Landed (F := F) s 2 c (crow s c 0) (ch s) (V2 X s (part s 2 c)))

/-- What a device holds when its body is done. -/
def After (X : Dev nD → FVec F (Sh 4096) .f32) (K : Dev nD × SemLoc sig → ℕ) (j : ℕ) (c : Dev nD) : sProp 𝕄 :=
  iprop(Now X K c 72 j ∗ semVal (bcell c) 0 ∗ (Lands X 0 c ∗ Lands X 1 c ∗ Lands X 2 c)
    ∗ bigSepL (List.range 9) fun a => cinPay X a c)

set_option maxHeartbeats 4000000 in
/-- The body up to its last wait. -/
theorem part50 {Q : Dev nD → sProp 𝕄} :
    iprop(Before X K c ∗ Acc (F := F) c) ⊢ iprop((∀ r, (⌜r = c⌝ ∗ After X K 110 c) -∗ Q r) -∗ WP c (on (k0_part50 (F := F))) Q) := by
  rw [k0_part50_eq_skeleton]; unfold on k0_part50_skel Acc pcsA
  simp only [List.flatMap_cons, List.flatMap_nil, List.append_nil, List.cons_append, List.nil_append, bigSepL_cons']
  iintro ⟨HB, A6_0, A4_0, A2_0, A1_0, A0_0, A6_1, A4_1, A2_1, A1_1, A0_1, A6_2, A4_2, A2_2, A1_2, A0_2, -⟩ Hk
  iapply op_bind; iapply (part1 (X := X) (K := K)) $$ [HB]; · iexact HB
  iintro %r ⟨%h1, HS, HZ⟩
  obtain ⟨d0, v3, v4, v5, v8, v10, v11, v22, v25, v26, c4_i32_19⟩ := r; dsimp only at h1; subst h1; dsimp only
  iapply op_bind; iapply part2; iintro %r; obtain ⟨v29, v36, v38, v41, v45, v52, v55, v59, v60⟩ := r; dsimp only
  iapply op_bind; iapply part3; iintro %r; obtain ⟨v61, v64, v68, v75, v82, v84, v87⟩ := r; dsimp only
  iapply op_bind; iapply (part4 (X := X) (K := K)) $$ [HS]; · iframe
  iintro %r HS
  iapply op_bind; iapply (part5 (X := X) (K := K)) $$ [HS A6_0]; · iframe
  iintro %v159 ⟨%h5, HS, X0, A6_0⟩
  iapply op_bind; iapply (part6 (X := X) (K := K) h5) $$ [HS A6_0 A6_1]; · iframe
  iintro %r ⟨HS, X1⟩
  iapply op_bind; iapply (part7 (X := X) (K := K)) $$ [HS A6_2 A4_0]; · iframe
  iintro %r ⟨HS, X2, X3, A4_0⟩
  obtain ⟨v215, c1_i32_149⟩ := r; dsimp only
  iapply op_bind; iapply (part8 (X := X) (K := K)) $$ [HS A4_0 A4_1]; · iframe
  iintro %r ⟨%h8, HS, X4, A4_1⟩
  obtain ⟨v252, v260⟩ := r; dsimp only
  iapply op_bind; iapply (part9 (X := X) (K := K) h8) $$ [HS A4_1]; · iframe
  iintro %r ⟨%h9, HS, X5⟩
  obtain ⟨v289, v297⟩ := r; dsimp only
  iapply op_bind; iapply (part10 (X := X) (K := K) h9) $$ [HS A4_2]; · iframe
  iintro %r HS
  obtain ⟨v329, c0_i32_212⟩ := r; dsimp only
  iapply op_bind; iapply (part11 (X := X) (K := K)) $$ [HS A2_0]; · iframe
  iintro %r ⟨HS, L2_0, N6_0, N7_0, X6, C2_0⟩
  iapply op_bind; iapply (part12 (X := X) (K := K)) $$ [HS C2_0]; · iframe
  iintro %v394 ⟨%h12, HS, L2_1, N6_1, N7_1, X7⟩
  iapply op_bind; iapply (part13 (X := X) (K := K) h12) $$ [HS L2_1 A2_1]; · iframe
  iintro %r ⟨HS, L2_1⟩
  iapply op_bind; iapply (part14 (X := X) (K := K)) $$ [HS A2_2]; · iframe
  iintro %r ⟨HS, L2_2, N6_2, N7_2, X8, A2_2⟩
  iapply op_bind; iapply (part15 (X := X) (K := K)) $$ [HS A2_2]; · iframe
  iintro %r ⟨HS, L1_0, N5_0⟩
  iapply op_bind; iapply (part16 (X := X) (K := K)) $$ [HS X6 L1_0 A1_0 X7 A1_1]; · iframe
  iintro %v529 ⟨%h16, HS, X6, L1_0, A1_0, L1_1, N5_1, X7, A1_1⟩
  iapply op_bind; iapply (part17 (X := X) (K := K) h16) $$ [HS A1_1 X8 A1_2]; · iframe
  iintro %r ⟨HS, A1_1, L1_2, N5_2, X8, A1_2⟩
  iapply op_bind; iapply (part18 (X := X) (K := K)) $$ [HS A1_0]; · iframe
  iintro %r ⟨HS, M1_0, N3_0⟩
  iapply op_bind; iapply (part19 (X := X) (K := K)) $$ [HS A1_1]; · iframe
  iintro %r ⟨HS, M1_1, N3_1⟩
  iapply op_bind; iapply (part20 (X := X) (K := K)) $$ [HS A1_2]; · iframe
  iintro %r ⟨HS, M1_2, N3_2, L0_0, N4_0⟩
  iapply op_bind; iapply (part21 (X := X) (K := K)) $$ [HS X6 L0_0 A0_0 X7]; · iframe
  iintro %v694 ⟨%h21, HS, X6, L0_0, A0_0, L0_1, N4_1, X7⟩
  iapply op_bind; iapply (part22 (X := X) (K := K) h21) $$ [HS A0_1 X8 A0_2]; · iframe
  iintro %r ⟨HS, A0_1, L0_2, N4_2, X8, A0_2⟩
  iapply op_bind; iapply (part23 (X := X) (K := K)) $$ [HS A0_0 A0_1]; · iframe
  iintro %r ⟨%h23, HS, M0_0, N2_0, A0_0, M0_1, N2_1, A0_1⟩
  obtain ⟨v757, v759⟩ := r; dsimp only
  iapply op_bind; iapply (part24 (X := X) (K := K) h23) $$ [HS M0_1 A0_1 A0_2]; · iframe
  iintro %r ⟨HS, M0_1, A0_1, M0_2, N2_2, A0_2⟩
  iapply op_bind; iapply (part25 (X := X) (K := K)) $$ [HS A0_0]; · iframe
  iintro %r ⟨HS, W0_0, S7_0, S8_0, O0_0⟩
  iapply op_bind; iapply (part26 (X := X) (K := K)) $$ [HS S7_0 N2_0 S8_0 N4_0 O0_0]; · iframe
  iintro %r ⟨HS, W0_1, N1_1⟩
  iapply op_bind; iapply (part27 (X := X) (K := K)) $$ [HS A0_1 W0_1 N1_1 N2_1]; · iframe
  iintro %r ⟨HS, W0_1, S8_1, O0_1⟩
  iapply op_bind; iapply (part28 (X := X) (K := K)) $$ [HS S8_1 N4_1 O0_1 A0_2]; · iframe
  iintro %r ⟨%h28a, %h28b, HS, W0_2, N1_2, A0_2⟩
  obtain ⟨v929, v931⟩ := r; dsimp only
  iapply op_bind; iapply (part29 (X := X) (K := K) h28a h28b) $$ [HS A0_2 N1_2 N2_2 N4_2]; · iframe
  iintro %r ⟨HS, O0_2⟩
  obtain ⟨v964, c2816_i32_628⟩ := r; dsimp only
  iapply op_bind; iapply (part30 (X := X) (K := K)) $$ [HS O0_2 N3_0]; · iframe
  iintro %r ⟨HS, S10_0, O1_0⟩
  iapply op_bind; iapply (part31 (X := X) (K := K)) $$ [HS S10_0 N5_0 O1_0]; · iframe
  iintro %r ⟨HS, B1_1⟩
  iapply op_bind; iapply (part32 (X := X) (K := K)) $$ [HS B1_1 N3_1 N5_1]; · iframe
  iintro %r ⟨HS, B1_2⟩
  iapply op_bind; iapply (part33 (X := X) (K := K)) $$ [HS B1_2 N3_2 N5_2]; · iframe
  iintro %r HS
  iapply op_bind; iapply (part34 (X := X) (K := K)) $$ [HS N6_0]; · iframe
  iintro %r HS
  iapply op_bind; iapply (part35 (X := X) (K := K)) $$ [HS N6_1]; · iframe
  iintro %r HS
  iapply op_bind; iapply (part36 (X := X) (K := K)) $$ [HS N6_2]; · iframe
  iintro %r HS
  iapply op_bind; iapply (part37 (X := X) (K := K)) $$ [HS N7_0]; · iframe
  iintro %r HS
  iapply op_bind; iapply (part38 (X := X) (K := K)) $$ [HS N7_1]; · iframe
  iintro %r HS
  iapply op_bind; iapply (part39 (X := X) (K := K)) $$ [HS N7_2]; · iframe
  iintro %r ⟨HS, B4_0⟩
  iapply op_bind; iapply (part40 (X := X) (K := K)) $$ [HS B4_0]; · iframe
  iintro %r HS
  iapply op_bind; iapply (part41 (X := X) (K := K)) $$ [HS]; · iframe
  iintro %r ⟨HS, B7_0⟩
  iapply op_bind; iapply (part42 (X := X) (K := K)) $$ [HS B7_0]; · iframe
  iintro %r HS
  iapply op_bind; iapply (part43 (X := X) (K := K)) $$ [HS]; · iframe
  iintro %r HS
  iapply op_bind; iapply (part44 (X := X) (K := K)) $$ [HS]; · iframe
  iintro %r ⟨HS, B4_2⟩
  obtain ⟨v1393, c2816_i32_1021⟩ := r; dsimp only
  iapply op_bind; iapply (part45 (X := X) (K := K)) $$ [HS B4_2]; · iframe
  iintro %r HS
  iapply op_bind; iapply (part46 (X := X) (K := K)) $$ [HS]; · iframe
  iintro %r HS
  iapply op_bind; iapply (part47 (X := X) (K := K)) $$ [HS]; · iframe
  iintro %r HS
  iapply op_bind; iapply (part48 (X := X) (K := K)) $$ [HS]; · iframe
  iintro %r HS
  iapply op_bind; iapply (part49 (X := X) (K := K)) $$ [HS]; · iframe
  iintro %r HS
  simp only [Prog.lift, Prog.bind_op, Prog.bind_ret, Prog.pure_eq_ret]
  iapply (op_done 72 109 109) $$ HS; iintro HS
  iapply op_ret; iapply Hk
  isplitr; · ipureintro; rfl
  unfold After
  isplitl [HS]; · iexact HS
  isplitl [HZ]; · iexact HZ
  isplitr [X0 X1 X2 X3 X4 X5 X6 X7 X8]
  · unfold Lands; iframe
  · rw [show List.range 9 = [0, 1, 2, 3, 4, 5, 6, 7, 8] from rfl]
    simp only [bigSepL_cons']
    iframe
    iempintro

/-- The body of the kernel. -/
theorem body {Q : PUnit → sProp 𝕄} :
    iprop(Before X K c ∗ Acc (F := F) c) ⊢ iprop((After X K 111 c -∗ Q ⟨⟩) -∗ WP c (on (cc0_body (F := F))) Q) := by
  rw [cc0_body_eq_skeleton]; unfold on cc0_body_skel
  iintro HB Hk
  iapply op_bind; iapply (part50 (X := X) (K := K)) $$ HB
  iintro %r ⟨%h, HA⟩
  subst h
  simp only [Prog.lift, Prog.bind_op, Prog.bind_ret, Prog.pure_eq_ret]
  unfold After
  icases HA with ⟨HS, HR⟩
  iapply (op_done 72 110 110) $$ HS; iintro HS
  iapply op_ret; iapply Hk
  isplitl [HS] <;> iassumption

end Cert.KernelIdeal.Sum
-- ==== Proof.Ends.lean ====
/-
# Before and after the body

The buffers a device gets are cut in the pieces the body works on, and what the body leaves is put
together again: the argument as it was, the result, and the other buffers with contents of no
interest.
-/
module

public import proofs.«01_k».proof.Proof.Whole

@[expose] public section

noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable {X : Dev nD → FVec F (Sh 4096) .f32} {K : Dev nD × SemLoc sig → ℕ} {c : Dev nD}

/-- All chunks, stream by stream. -/
def pcsC (c : Dev nD) : List (ℕ × ℕ) := [0, 1, 2].flatMap fun s => (List.range 8).map fun j => (crow s c j, ch s)
theorem pcsC_fits : ∀ c : Dev nD, fits (pcsC c) 4096 = true := by decide

/-- The copies of a stream that send finished chunks, and its copies out in the order of their chunks. -/
def late (s : ℕ) : List (Fin 111) :=
  match s with | 0 => [6,7,8,9,10,11,12] | 1 => [19,20,21,22,23,24,25] | _ => [32,33,34,35,36,37,38]
def outs (s : ℕ) : List (Fin 111) :=
  match s with | 0 => [87,90,93,96,99,100,101,102] | 1 => [88,91,94,97,103,104,105,106] | _ => [89,92,95,98,107,108,109,110]
/-- The cells whose payloads the body has used up. -/
def used : List (Fin 111) := waits.filter fun q => !((late 0 ++ outs 0) ++ ((late 1 ++ outs 1) ++ (late 2 ++ outs 2))).contains q

theorem used_perm : waits.Perm (((late 0 ++ outs 0) ++ ((late 1 ++ outs 1) ++ (late 2 ++ outs 2))) ++ used) := by decide

/-- What the cell of `q` gave and is still held. -/
def kept (X : Dev nD → FVec F (Sh 4096) .f32) (c : Dev nD) (q : Fin 111) : sProp 𝕄 :=
  if 39 ≤ q.val ∧ q.val < 87 then iprop(emp) else pay X q c

theorem late_eq {s : ℕ} (hs : s < 3) : bigSepL (late s) (kept X c) = bigSepL [6,7,8,9,10,11,12] fun k => sendPay X s k c := by
  rcases (by omega : s = 0 ∨ s = 1 ∨ s = 2) with rfl | rfl | rfl <;> rfl
theorem outs_eq {s : ℕ} (hs : s < 3) : bigSepL (outs s) (kept X c) = bigSepL (List.range 8) fun j =>
    iprop(At (F := F) oM c (crow s c j) (ch s) fullShare (OUT X) ∗ At (F := F) accM c (crow s c j) (ch s) (qout j) (OUT X)) := by
  rcases (by omega : s = 0 ∨ s = 1 ∨ s = 2) with rfl | rfl | rfl <;> rfl

theorem two_halves (q : PosShare TreeShare) : q ∈ q.left ·? q.right := PosShare.mem_left_op_right q

/-- The shares of the chunks of a stream come together. -/
theorem chunks_whole (s : ℕ) :
    iprop(bigSepL [6,7,8,9,10,11,12] (fun k => sendPay X s k c)
        ∗ bigSepL (List.range 8) (fun j => At (F := F) accM c (crow s c j) (ch s) (qout j) (OUT X)))
      ⊢ bigSepL (List.range 8) (fun j => At (F := F) accM c (crow s c j) (ch s) fullShare (OUT X)) := by
  rw [show List.range 8 = [0, 1, 2, 3, 4, 5, 6, 7] from rfl]
  simp only [bigSepL_cons']
  show iprop((At (F := F) accM c (crow s c 0) (ch s) (fullShare : PosShare TreeShare).left (OUT X)
    ∗ At (F := F) accM c (crow s c 0) (ch s) (fullShare : PosShare TreeShare).right.left (OUT X)
    ∗ At (F := F) accM c (crow s c 0) (ch s) (fullShare : PosShare TreeShare).right.right.left (OUT X)
    ∗ At (F := F) accM c (crow s c 1) (ch s) (fullShare : PosShare TreeShare).left (OUT X)
    ∗ At (F := F) accM c (crow s c 1) (ch s) (fullShare : PosShare TreeShare).right.left (OUT X)
    ∗ At (F := F) accM c (crow s c 2) (ch s) (fullShare : PosShare TreeShare).left (OUT X)
    ∗ At (F := F) accM c (crow s c 3) (ch s) (fullShare : PosShare TreeShare).left (OUT X) ∗ _)
    ∗ (At (F := F) accM c (crow s c 0) (ch s) (fullShare : PosShare TreeShare).right.right.right (OUT X)
    ∗ At (F := F) accM c (crow s c 1) (ch s) (fullShare : PosShare TreeShare).right.right (OUT X)
    ∗ At (F := F) accM c (crow s c 2) (ch s) (fullShare : PosShare TreeShare).right (OUT X)
    ∗ At (F := F) accM c (crow s c 3) (ch s) (fullShare : PosShare TreeShare).right (OUT X)
    ∗ At (F := F) accM c (crow s c 4) (ch s) fullShare (OUT X) ∗ At (F := F) accM c (crow s c 5) (ch s) fullShare (OUT X)
    ∗ At (F := F) accM c (crow s c 6) (ch s) fullShare (OUT X) ∗ At (F := F) accM c (crow s c 7) (ch s) fullShare (OUT X) ∗ _)) ⊢ _
  iintro ⟨⟨A, B, C, D, E, G, H, -⟩, ⟨I, J, L, M, N4, N5, N6, N7, -⟩⟩
  ihave C := (At_unshare (two_halves _)) $$ [C I]; · isplitl [C] <;> iassumption
  ihave B := (At_unshare (two_halves _)) $$ [B C]; · isplitl [B] <;> iassumption
  ihave A := (At_unshare (two_halves _)) $$ [A B]; · isplitl [A] <;> iassumption
  ihave E := (At_unshare (two_halves _)) $$ [E J]; · isplitl [E] <;> iassumption
  ihave D := (At_unshare (two_halves _)) $$ [D E]; · isplitl [D] <;> iassumption
  ihave G := (At_unshare (two_halves _)) $$ [G L]; · isplitl [G] <;> iassumption
  ihave H := (At_unshare (two_halves _)) $$ [H M]; · isplitl [H] <;> iassumption
  iframe
  iempintro

/-- The payloads still held are the whole result and the whole accumulator. -/
theorem kept_whole : bigSepL waits (kept X c)
    ⊢ iprop(At (F := F) oM c 0 4096 fullShare (OUT X) ∗ At (F := F) accM c 0 4096 fullShare (OUT X)) := by
  have h : ∀ s, s < 3 → bigSepL (late s ++ outs s) (kept X c)
      ⊢ iprop(bigSepL ((List.range 8).map fun j => (crow s c j, ch s)) (fun p => At (F := F) oM c p.1 p.2 fullShare (OUT X))
        ∗ bigSepL ((List.range 8).map fun j => (crow s c j, ch s)) (fun p => At (F := F) accM c p.1 p.2 fullShare (OUT X))) := by
    intro s hs
    rw [bigSepL_append, late_eq hs, outs_eq hs, sepL_map, sepL_map]
    iintro ⟨HL, HO⟩
    ihave HO := (sepL_sep (List.range 8)) $$ HO
    icases HO with ⟨HO, HA⟩
    isplitl [HO]; · iexact HO
    iapply (chunks_whole s)
    isplitl [HL] <;> iassumption
  refine (sepL_perm used_perm).trans ?_
  rw [bigSepL_append, bigSepL_append, bigSepL_append (late 1 ++ outs 1)]
  iintro ⟨⟨H0, H1, H2⟩, -⟩
  ihave H0 := (h 0 (by decide)) $$ H0
  ihave H1 := (h 1 (by decide)) $$ H1
  ihave H2 := (h 2 (by decide)) $$ H2
  icases H0 with ⟨O0, A0⟩
  icases H1 with ⟨O1, A1⟩
  icases H2 with ⟨O2, A2⟩
  isplitl [O0 O1 O2]
  · iapply (At_glue (pcsC_fits c) (by decide))
    unfold pcsC
    simp only [List.flatMap_cons, List.flatMap_nil, List.append_nil]
    rw [bigSepL_append, bigSepL_append]
    isplitl [O0]; · iexact O0
    isplitl [O1] <;> iassumption
  · iapply (At_glue (pcsC_fits c) (by decide))
    unfold pcsC
    simp only [List.flatMap_cons, List.flatMap_nil, List.append_nil]
    rw [bigSepL_append, bigSepL_append]
    isplitl [A0]; · iexact A0
    isplitl [A1] <;> iassumption

/-- The landing buffers of a stream, whole. -/
theorem lands_whole {s : ℕ} (hs : s < 3) (c : Dev nD) :
    Lands X s c ⊢ iprop(RS (F := F) s 0 c ∗ RS (F := F) s 1 c ∗ RS (F := F) s 2 c) := by
  unfold Lands
  iintro ⟨L2, L1, L0, M1, M0, W⟩
  isplitl [L2 L1 L0]
  · iapply (Any_glue (pcs0_fits hs c) (by revert s; decide))
    unfold pcs0
    rw [bigSepL_cons', bigSepL_cons', bigSepL_cons']
    isplitl [L2]; · iapply At_any; iexact L2
    isplitl [L1]; · iapply At_any; iexact L1
    isplitl [L0]; · iapply At_any; iexact L0
    iempintro
  isplitl [M1 M0]
  · iapply (Any_glue (pcs1_fits hs c) (by revert s; decide))
    unfold pcs1
    rw [bigSepL_cons', bigSepL_cons']
    isplitl [M1]; · iapply At_any; iexact M1
    isplitl [M0]; · iapply At_any; iexact M0
    iempintro
  · iapply (Any_glue (pcs2_fits hs c) (by revert s; decide))
    unfold pcs2
    rw [bigSepL_cons']
    isplitl [W]; · iapply At_any; iexact W
    iempintro

/-- The landing buffers of a device. -/
def Landings (c : Dev nD) : sProp 𝕄 :=
  iprop((RS (F := F) 0 0 c ∗ RS (F := F) 0 1 c ∗ RS (F := F) 0 2 c) ∗ (RS (F := F) 1 0 c ∗ RS (F := F) 1 1 c ∗ RS (F := F) 1 2 c)
    ∗ (RS (F := F) 2 0 c ∗ RS (F := F) 2 1 c ∗ RS (F := F) 2 2 c))

/-- What the body leaves: nothing owed, every counter at zero, every buffer whole. -/
theorem after_whole : After X K 111 c ⊢ iprop((∃ W, owes (c : Thread nD τ) 0 W)
    ∗ (bigSepL waits (fun q => semVal (cell c q) 0) ∗ semVal (bcell c) 0)
    ∗ At (F := F) xM c 0 4096 fullShare (X c) ∗ At (F := F) oM c 0 4096 fullShare (OUT X)
    ∗ Any (F := F) accM c 0 4096 ∗ Any (F := F) xvM c 0 4096 ∗ Landings (F := F) c) := by
  unfold After Now St
  iintro ⟨⟨-, -, -, HO, -, HZ, -⟩, HB, ⟨L0, L1, L2⟩, HX⟩
  ihave HZ := (Entails.of_eq (bigSep_eq_bigSepL_of_eq (S := (waits.take 111).toFinset) waits rfl waits_nodup (doneR X c))) $$ HZ
  ihave HZ := (show bigSepL waits (doneR X c) ⊢ iprop(bigSepL waits (fun q => semVal (cell c q) 0) ∗ bigSepL waits (kept X c)) from sepL_sep waits) $$ HZ
  icases HZ with ⟨HZ, HK⟩
  ihave HK := kept_whole $$ HK
  icases HK with ⟨HOut, HAcc⟩
  unfold cinPay
  ihave HX := (sepL_sep (List.range 9)) $$ HX
  icases HX with ⟨HV, HX⟩
  isplitl [HO]; · iexact HO
  isplitl [HZ HB]; · isplitl [HZ] <;> iassumption
  isplitl [HX]
  · iapply (At_glue (pcsI_fits c) (by decide))
    unfold pcsI; rw [sepL_map]; iexact HX
  isplitl [HOut]; · iexact HOut
  isplitl [HAcc]; · iapply At_any; iexact HAcc
  isplitl [HV]
  · iapply At_any
    iapply (At_glue (pcsI_fits c) (by decide))
    unfold pcsI; rw [sepL_map]; iexact HV
  unfold Landings
  isplitl [L0]; · iapply (lands_whole (X := X) (s := 0) (by decide) c); iexact L0
  isplitl [L1]; · iapply (lands_whole (X := X) (s := 1) (by decide) c); iexact L1
  iapply (lands_whole (X := X) (s := 2) (by decide) c); iexact L2

/-! ## The start -/

theorem barPays_intro : Landings (F := F) c ⊢ iprop(barPay (F := F) 0 c ∗ barPay (F := F) 1 c ∗ barPay (F := F) 2 c) := by
  show _ ⊢ iprop((RS (F := F) 0 2 c ∗ RS (F := F) 1 1 c ∗ RS (F := F) 2 0 c) ∗ (RS (F := F) 0 1 c ∗ RS (F := F) 1 0 c ∗ RS (F := F) 2 2 c)
    ∗ (RS (F := F) 0 0 c ∗ RS (F := F) 1 2 c ∗ RS (F := F) 2 1 c))
  unfold Landings
  iintro ⟨⟨A0, A1, A2⟩, ⟨B0, B1, B2⟩, ⟨C0, C1, C2⟩⟩
  iframe

theorem others_perm : others.Perm ((late 0 ++ (late 1 ++ late 2)) ++ ([78,79,80,81,82,83,84,85,86] ++ (List.finRange 24).map (fun i => ⟨i.val + 87, by omega⟩))) := by decide

theorem emp_sepL (l : List (Fin 111)) : (emp : sProp 𝕄) ⊢ bigSepL l fun _ => iprop(emp) := by
  induction l with
  | nil => exact BI.Entails.refl _
  | cons a l ih =>
    rw [bigSepL_cons']
    iintro -
    isplitr; · iempintro
    iapply ih; iempintro

/-- The argument, the result buffer and the staging buffer make the places of all local copies. -/
theorem others_intro (X : Dev nD → FVec F (Sh 4096) .f32) (c : Dev nD) :
    iprop(At (F := F) xM c 0 4096 fullShare (X c) ∗ Any (F := F) oM c 0 4096 ∗ Any (F := F) xvM c 0 4096) ⊢ bigSepL others (destR X c) := by
  refine BIBase.Entails.trans ?_ (sepL_perm others_perm.symm)
  rw [bigSepL_append, bigSepL_append [78,79,80,81,82,83,84,85,86]]
  iintro ⟨HX, HO, HV⟩
  isplitr
  · rw [show bigSepL (late 0 ++ (late 1 ++ late 2)) (destR X c) = bigSepL (late 0 ++ (late 1 ++ late 2)) (fun _ => iprop(emp)) from rfl]
    iapply (emp_sepL (late 0 ++ (late 1 ++ late 2))); iempintro
  isplitl [HX HV]
  · ihave HX := (At_cut (pcsI_fits c)) $$ HX
    ihave HV := (Any_cut (pcsI_fits c)) $$ HV
    ihave H := (sepL_unsep (pcsI c)) $$ [HV HX]; · isplitl [HV] <;> iassumption
    iapply (Entails.of_eq (show (bigSepL (pcsI c) fun p => iprop(Any (F := F) xvM c p.1 p.2 ∗ At (F := F) xM c p.1 p.2 fullShare (X c)))
      = bigSepL [78,79,80,81,82,83,84,85,86] (destR X c) from rfl))
    iexact H
  · ihave HO := (Any_cut (pcsO_fits c)) $$ HO
    iexact HO

end Cert.KernelIdeal.Sum
-- ==== Proof.Tokens.lean ====
/-
# Dealing out tokens and invariants

At the launch every cell gets its invariant, and the tokens of all cells go to the devices that pay with
them: the token of a send or of a local copy stays, the token of a receive goes to the partner that sends,
the three of a barrier to the three neighbours.
-/
module

public import proofs.«01_k».proof.Proof.Ends
public import proofs.«01_k».proof.Proof.Gen.KernelIdeal.Launch

@[expose] public section

noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (X : Dev nD → FVec F (Sh 4096) .f32)

/-! ## The cells of a device -/

theorem all_sems : (Finset.univ : Finset (SemLoc sig)) = (SemLoc.reg barrier0 :: waits.map SemLoc.dma).toFinset := by decide
theorem sems_nodup : (SemLoc.reg barrier0 :: waits.map (SemLoc.dma (sig := sig))).Nodup := by decide

omit [FloatOps F] in
/-- Something for every semaphore of a device: for its barrier and for each of its DMA cells. -/
theorem over_sems (Φ : SemLoc sig → sProp 𝕄) :
    bigSep Finset.univ Φ = iprop(Φ (.reg barrier0) ∗ bigSepL waits fun q => Φ (.dma q)) := by
  rw [bigSep_univ_eq_bigSepL _ all_sems sems_nodup, bigSepL_cons', sepL_map]

/-- The cells that sends complete on. -/
def sends : List (Fin 111) := starts.filter fun q => decide (q.val < 39)
/-- The cells of the copies within a device. -/
def locals : List (Fin 111) := starts.filter fun q => decide (78 ≤ q.val)

theorem waits_perm : waits.Perm (sends ++ (sends.map rcv ++ locals)) := by decide
theorem starts_perm : (sends ++ locals).Perm starts := by decide
theorem sends_lt : ∀ q ∈ sends, q.val < 39 := by decide
theorem locals_ge : ∀ q ∈ locals, ¬ q.val < 39 := by decide

omit [FloatOps F] in
/-- A list of things for every device is, for each entry of the list, the things of all devices. -/
theorem swap (l : List (Fin 111)) (Φ : Dev nD → Fin 111 → sProp 𝕄) :
    bigSep Finset.univ (fun c => bigSepL l (Φ c)) = bigSepL l fun q => bigSep Finset.univ fun c => Φ c q := by
  induction l with
  | nil => exact bigSep_emp_const _
  | cons q l ih =>
    rw [bigSepL_cons', ← ih, ← bigSep_sep']
    exact bigSep_congr fun c _ => bigSepL_cons' _ _ _

/-- The pairing of devices under copy `q`. -/
def prtEquiv (q : Fin 111) : Dev nD ≃ Dev nD := ⟨prt q, prt q, prt_prt q, prt_prt q⟩
/-- The pairing of neighbours. -/
def nbrEquiv (a : ℕ) : Dev nD ≃ Dev nD := ⟨nbr a, nbr a, nbr_nbr a, nbr_nbr a⟩

/-! ## The tokens -/

/-- The tokens of a device's own cells. -/
def ownToks (c : Dev nD) : sProp 𝕄 :=
  iprop((dutyTok ER (bcell c) 0 0 ∗ dutyTok ER (bcell c) 0 1 ∗ dutyTok ER (bcell c) 0 2)
    ∗ bigSepL waits fun q => dutyTok ER (cell c q) 0 0)

/-- The tokens that a device pays with. -/
def payToks (c : Dev nD) : sProp 𝕄 :=
  iprop((dutyTok ER (bcell (nbr 0 c)) 0 0 ∗ dutyTok ER (bcell (nbr 1 c)) 0 1 ∗ dutyTok ER (bcell (nbr 2 c)) 0 2)
    ∗ bigSepL starts (tokR (F := F) c))

omit [FloatOps F] in
/-- The tokens of a device's cells by kind: sends, receives, copies within the device. -/
theorem toks_sort (c : Dev nD) :
    bigSepL waits (fun q => (dutyTok ER (cell c q) 0 0 : sProp 𝕄))
      ⊢ iprop(bigSepL sends (fun q => dutyTok ER (cell c q) 0 0) ∗ bigSepL sends (fun q => dutyTok ER (cell c (rcv q)) 0 0)
        ∗ bigSepL locals (fun q => dutyTok ER (cell c q) 0 0)) := by
  refine (sepL_perm waits_perm).trans (Entails.of_eq ?_)
  rw [bigSepL_append, bigSepL_append, sepL_map]

omit [FloatOps F] in
/-- The send token and the partner's receive token are what a copy is paid with. -/
theorem toks_join (c : Dev nD) :
    iprop(bigSepL sends (fun q => (dutyTok ER (cell c q) 0 0 : sProp 𝕄)) ∗ bigSepL sends (fun q => dutyTok ER (cell (prt q c) (rcv q)) 0 0)
        ∗ bigSepL locals (fun q => dutyTok ER (cell c q) 0 0))
      ⊢ bigSepL starts (tokR (F := F) c) := by
  refine BIBase.Entails.trans ?_ (sepL_perm starts_perm)
  rw [bigSepL_append]
  iintro ⟨H1, H2, H3⟩
  isplitl [H1 H2]
  · iapply (bigSepL_mono (l := sends) fun q hq => (show iprop(dutyTok ER (cell c q) 0 0 ∗ dutyTok ER (cell (prt q c) (rcv q)) 0 0) ⊢ tokR (F := F) c q from
      Entails.of_eq (by unfold tokR; rw [if_pos (sends_lt q hq)])))
    iapply (sepL_unsep sends)
    isplitl [H1] <;> iassumption
  · iapply (bigSepL_mono (l := locals) fun q hq => (show (dutyTok ER (cell c q) 0 0 : sProp 𝕄) ⊢ tokR (F := F) c q from
      Entails.of_eq (by unfold tokR; rw [if_neg (locals_ge q hq)])))
    iexact H3

omit [FloatOps F] in
/-- The receive tokens of all devices, each at the device that sends to it. -/
theorem recv_around :
    bigSep Finset.univ (fun c : Dev nD => bigSepL sends fun q => (dutyTok ER (cell c (rcv q)) 0 0 : sProp 𝕄))
      = bigSep Finset.univ fun c : Dev nD => bigSepL sends fun q => dutyTok ER (cell (prt q c) (rcv q)) 0 0 := by
  rw [swap, swap]
  congr 1
  funext q
  exact bigSep_univ_equiv (prtEquiv q) fun c => (dutyTok ER (cell c (rcv q)) 0 0 : sProp 𝕄)

omit [FloatOps F] in
/-- The tokens, dealt to those who pay with them. -/
theorem toks_around : bigSep Finset.univ (fun c : Dev nD => (ownToks c : sProp 𝕄)) ⊢ bigSep Finset.univ fun c : Dev nD => payToks c := by
  unfold ownToks payToks
  refine (bigSep_mono fun c _ => sep_mono_right (toks_sort c)).trans ?_
  refine BI.Entails.trans ?_ (bigSep_mono fun c _ => sep_mono_right (toks_join c))
  simp only [bigSep_sep']
  rw [recv_around,
    bigSep_univ_equiv (nbrEquiv 0) (fun c : Dev nD => (dutyTok ER (bcell c) 0 0 : sProp 𝕄)),
    bigSep_univ_equiv (nbrEquiv 1) (fun c : Dev nD => (dutyTok ER (bcell c) 0 1 : sProp 𝕄)),
    bigSep_univ_equiv (nbrEquiv 2) (fun c : Dev nD => (dutyTok ER (bcell c) 0 2 : sProp 𝕄))]
  exact BI.Entails.refl _

/-! ## The launch element -/

/-- The cell of a device and a semaphore. -/
abbrev cellAt (p : Dev nD × SemLoc sig) : GSem nD τ sig := ((p.1 : Thread nD τ), p.2)

theorem cellAt_injective : Function.Injective cellAt := by
  rintro ⟨c, s⟩ ⟨c', s'⟩ h
  have h1 : c = c' := congrArg (fun g : GSem nD τ sig => g.1.1) h
  have h2 : s = s' := congrArg Prod.snd h
  rw [h1, h2]

/-- All the cells. -/
def allCells : Finset (GSem nD τ sig) := Finset.univ.map ⟨cellAt, cellAt_injective⟩

/-- The duties of a device's cells: one of each DMA cell, three of the barrier. -/
abbrev dutyOf (j : Fin 111 ⊕ Fin 3) : SemLoc sig × Fin 3 := match j with | .inl q => (.dma q, 0) | .inr a => (.reg barrier0, a)
abbrev tokAt (p : Dev nD × (Fin 111 ⊕ Fin 3)) : GSem nD τ sig × ℕ × Fin 3 := (cellAt (p.1, (dutyOf p.2).1), 0, (dutyOf p.2).2)

theorem tokAt_injective : Function.Injective tokAt := by
  rintro ⟨c, j⟩ ⟨c', j'⟩ h
  have h1 : c = c' := congrArg (fun x : GSem nD τ sig × ℕ × Fin 3 => x.1.1.1) h
  have h2 : dutyOf j = dutyOf j' := congrArg (fun x : GSem nD τ sig × ℕ × Fin 3 => (x.1.2, x.2.2)) h
  have h3 : j = j' := by
    rcases j with q | a <;> rcases j' with q' | a'
    · have := congrArg Prod.fst h2; injection this with h; rw [h]
    · have := congrArg Prod.fst h2; exact absurd this (by simp [dutyOf])
    · have := congrArg Prod.fst h2; exact absurd this (by simp [dutyOf])
    · exact congrArg Sum.inr (congrArg Prod.snd h2)
  rw [h1, h3]

/-- All the tokens. -/
def allToks : Finset (GSem nD τ sig × ℕ × Fin 3) := Finset.univ.map ⟨tokAt, tokAt_injective⟩

theorem all_duties : (Finset.univ : Finset (Fin 111 ⊕ Fin 3)) = (([.inr 0, .inr 1, .inr 2] : List (Fin 111 ⊕ Fin 3)) ++ waits.map Sum.inl).toFinset := by decide
theorem duties_nodup : (([.inr 0, .inr 1, .inr 2] : List (Fin 111 ⊕ Fin 3)) ++ waits.map Sum.inl).Nodup := by decide

/-- What a device is dealt: the state, the position and the mark of each of its cells, and its cells' tokens. -/
def dealt (c : Dev nD) : sProp 𝕄 :=
  iprop((bigSep Finset.univ fun s : SemLoc sig => roundState ER (Rd X) (cellAt (c, s)) 0)
    ∗ (bigSep Finset.univ fun s : SemLoc sig => iprop(atPos ER (cellAt (c, s)) 0 ∅ 0 ∗ reached ER (cellAt (c, s)) 0)) ∗ ownToks c)

/-- The launch element gives every device its share. -/
theorem fund_all : BI.own (ER (initOf allCells allToks)) ⊢ (|==> bigSep Finset.univ (dealt X) : sProp 𝕄) := by
  have hC (Φ : GSem nD τ sig → sProp 𝕄) :
      bigSep allCells Φ = bigSep Finset.univ fun c : Dev nD => bigSep Finset.univ fun s : SemLoc sig => Φ (cellAt (c, s)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    refine bigSep_congr fun c _ => ?_
    rw [bigSep_univ_eq_bigSepL _ all_duties duties_nodup, bigSepL_append, sepL_map]
    rfl
  iintro H
  imod (Rounds.fund ER (Rd X) allCells allToks) $$ H with ⟨Hs, Hr, Ha, Ht⟩
  imodintro
  ihave Hs' := (Entails.of_eq (hC fun g => roundState ER (Rd X) g 0)) $$ Hs
  ihave Ha' := (Entails.of_eq (hC fun g => atPos ER g 0 ∅ 0)) $$ Ha
  ihave Hr' := (Entails.of_eq (hC fun g => reached ER g 0)) $$ Hr
  ihave Ht' := (Entails.of_eq hT) $$ Ht
  unfold dealt; simp only [bigSep_sep']
  isplitl [Hs']; · iexact Hs'
  isplitl [Ha' Hr']
  · isplitl [Ha'] <;> iassumption
  iexact Ht'

/-! ## The invariants -/

/-- The kernel's own semaphores. -/
abbrev osem : Fin 111 → SemLoc sig := fun q => .dma q

omit [FloatOps F] in
theorem ownSems0_eq (c : Dev nD) : (Pipeline.ownSems0 (Ix := Unit) (Name := ℕ) (U := UU) (Lvl := ℕ) (Val := Elt F) (τ := τ) osem c : sProp 𝕄)
    = bigSepL waits fun q => semVal (cell c q) 0 := by
  rw [Pipeline.ownSems0_eq_of_list c osem waits (by decide) (by decide)]

omit [FloatOps F] in
theorem unscopedSems0_eq (c : Dev nD) : (unscopedSems0 c : sProp 𝕄) = semVal (bcell c) 0 := by
  unfold unscopedSems0; rw [bigSep_eq_bigSepL_of_eq [SemLoc.reg barrier0] (by decide) (by decide)]; rfl

/-- The invariants of a device's cells are made from its counters. -/
theorem cells_alloc (c : Dev nD) :
    iprop(Pipeline.ownSems0 (Ix := Unit) (Name := ℕ) (U := UU) (Lvl := ℕ) (Val := Elt F) (τ := τ) osem c ∗ unscopedSems0 c ∗ dealt X c)
      ⊢ |={Set.univ}=> iprop((bigSep Finset.univ fun s : SemLoc sig => iprop(∃ κ : ℕ, cellInv ER (Rd X) κ (cellAt (c, s))))
          ∗ (bigSep Finset.univ fun s : SemLoc sig => iprop(atPos ER (cellAt (c, s)) 0 ∅ 0 ∗ reached ER (cellAt (c, s)) 0)) ∗ ownToks c) := by
  unfold dealt
  rw [ownSems0_eq, unscopedSems0_eq]
  iintro ⟨Ho, Hu, Hs, Ha, Ht⟩
  ihave Hv := (Entails.of_eq (over_sems fun s => (semVal (cellAt (c, s)) 0 : sProp 𝕄)).symm) $$ [Ho Hu]
  · isplitl [Hu] <;> iassumption
  imod (show iprop((bigSep Finset.univ fun s : SemLoc sig => semVal (cellAt (c, s)) 0) ∗ bigSep Finset.univ fun s : SemLoc sig => roundState ER (Rd X) (cellAt (c, s)) 0)
      ⊢ (|={Set.univ}=> bigSep Finset.univ fun s : SemLoc sig => iprop(∃ κ : ℕ, cellInv ER (Rd X) κ (cellAt (c, s))) : sProp 𝕄) from by
        rw [← bigSep_sep']
        exact (bigSep_mono fun s _ => (Rounds.body_intro ER (Rd X) (cellAt (c, s))).trans inv_alloc).trans (bigSep_fupd _ _)) $$ [Hv Hs] with Hi
  · isplitl [Hv] <;> iassumption
  imodintro
  isplitl [Hi]; · iexact Hi
  isplitl [Ha]; · iexact Ha
  iexact Ht

/-- The invariants and marks of all cells. -/
def Marks (K : Dev nD × SemLoc sig → ℕ) : sProp 𝕄 :=
  iprop(bigSep Finset.univ (fun p : Dev nD × SemLoc sig => cellInv ER (Rd X) (K p) (cellAt p))
    ∗ bigSep Finset.univ (fun p : Dev nD × SemLoc sig => reached ER (cellAt p) 0))

instance Marks_persistent (K : Dev nD × SemLoc sig → ℕ) : BI.Persistent (Marks X K) := by unfold Marks; infer_instance

/-- A device's positions and the tokens it pays with. -/
def holding (c : Dev nD) : sProp 𝕄 :=
  iprop((bigSep Finset.univ fun s : SemLoc sig => atPos ER (cellAt (c, s)) 0 ∅ 0) ∗ payToks c)

/-- What the devices have once the invariants are made. -/
def Held (c : Dev nD) : sProp 𝕄 := iprop(∃ K, Marks X K ∗ holding c)

theorem held_intro (K : Dev nD × SemLoc sig → ℕ) (c : Dev nD) : iprop(Marks X K ∗ holding c) ⊢ Held X c := by
  unfold Held; iintro H; iexists K; iexact H

omit [FloatOps F] in
/-- What may be copied goes to every one. -/
theorem spread {R : sProp 𝕄} [BI.Persistent R] {Φ : Dev nD → sProp 𝕄} :
    iprop(R ∗ bigSep Finset.univ Φ) ⊢ bigSep Finset.univ fun c => iprop(R ∗ Φ c) :=
  (sep_mono_left (BI.bigSep_of_persistent Finset.univ R)).trans (by rw [← bigSep_sep'])

/-- All devices together: the invariants are known to all, the tokens go to those who pay with them. -/
theorem regroup :
    (bigSep Finset.univ fun c : Dev nD => iprop((bigSep Finset.univ fun s : SemLoc sig => iprop(∃ κ : ℕ, cellInv ER (Rd X) κ (cellAt (c, s))))
          ∗ (bigSep Finset.univ fun s : SemLoc sig => iprop(atPos ER (cellAt (c, s)) 0 ∅ 0 ∗ reached ER (cellAt (c, s)) 0)) ∗ ownToks c) : sProp 𝕄)
      ⊢ bigSep Finset.univ (Held X) := by
  rw [bigSep_sep', bigSep_sep', ← bigSep_univ_prod (fun p : Dev nD × SemLoc sig => iprop(∃ κ : ℕ, cellInv ER (Rd X) κ (cellAt p))),
    bigSep_congr (s := Finset.univ) (fun (c : Dev nD) _ => bigSep_sep' Finset.univ (fun s : SemLoc sig => (atPos ER (cellAt (c, s)) 0 ∅ 0 : sProp 𝕄)) (fun s => reached ER (cellAt (c, s)) 0)),
    bigSep_sep', ← bigSep_univ_prod (fun p : Dev nD × SemLoc sig => (reached ER (cellAt p) 0 : sProp 𝕄))]
  iintro ⟨HI, ⟨Ha, #HR⟩, Ht⟩
  ihave HK := (BI.bigSep_exists_pi Finset.univ (fun (p : Dev nD × SemLoc sig) (κ : ℕ) => (cellInv ER (Rd X) κ (cellAt p) : sProp 𝕄))) $$ HI
  icases HK with ⟨%K, #HI⟩
  ihave Hp := (toks_around (F := F)) $$ Ht
  iapply (show (bigSep Finset.univ fun c => iprop(Marks X K ∗ holding c)) ⊢ bigSep Finset.univ (Held X) from
    bigSep_mono fun c _ => held_intro X K c)
  iapply (spread (R := Marks X K))
  isplitr
  · unfold Marks; isplitl; · iexact HI
    iexact HR
  · unfold holding; simp only [bigSep_sep']
    isplitl [Ha]; · iexact Ha
    iexact Hp

/-- The step of all devices at the launch. -/
theorem glob : (bigSep Finset.univ fun c => iprop(Pipeline.ownSems0 (Ix := Unit) (Name := ℕ) (U := UU) (Lvl := ℕ) (Val := Elt F) (τ := τ) osem c ∗ unscopedSems0 c ∗ dealt X c) : sProp 𝕄)
    ⊢ |={Set.univ}=> bigSep Finset.univ (Held X) :=
  ((bigSep_mono fun c _ => cells_alloc X c).trans (bigSep_fupd _ _)).trans (BI.fupd_mono (regroup X))

end Cert.KernelIdeal.Sum
-- ==== Proof.Launch.lean ====
/-
# The launch

The run of the whole program from the body of one device: what the devices owe and are credited at the
launch, what they hold before and after the body, and what memory holds at the end.
-/
module

public import proofs.«01_k».proof.Proof.Tokens
public import proofs.«01_k».proof.Proof.Gen.KernelIdeal.Frame
public import Idealize.ShloMosaic.Lib.Pipeline.CollectiveSegs

@[expose] public section

noncomputable section

namespace Cert.KernelIdeal.Sum

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

/-- The part of the ghost state that the launch uses for its own copies. -/
abbrev EP : Emb (UR sig nD τ) (MT nD τ sig Unit (Elt F) ℕ UU ℕ) := embL

/-! ## What the devices owe, and the credit for it -/

theorem cell_inj {c d : Dev nD} {p q : Fin 111} (h : cell c p = cell d q) : c = d ∧ p = q :=
  ⟨congrArg (fun g : GSem nD τ sig => g.1.1) h, by have := congrArg Prod.snd h; injection this⟩

theorem rcv_inj : ∀ p q : Fin 111, p.val < 39 → q.val < 39 → rcv p = rcv q → p = q := by
  intro p q hp hq h
  have h1 : (p.val + 39) % 111 = (q.val + 39) % 111 := congrArg Fin.val h
  rw [Nat.mod_eq_of_lt (by omega), Nat.mod_eq_of_lt (by omega)] at h1
  exact Fin.ext (by omega)

/-- Of what `d` owes, the receive cell `p` of `c` gets the amount of copy `p` if `d` is the partner. -/
theorem owedL_recv (d c : Dev nD) {p : Fin 111} (hp : p.val < 39) : ∀ l : List (Fin 111), l.Nodup →
    owedL d l (cell c (rcv p)) () = if p ∈ l ∧ d = prt p c then amt p else 0
  | [], _ => by rw [if_neg (by simp)]; rfl
  | q :: l, h => by
    have ih := owedL_recv d c hp l (List.nodup_cons.mp h).2
    have hq := (List.nodup_cons.mp h).1
    show (owedL d l + (if q.val < 39 then tallyAt (cell (prt q d) (rcv q)) () (amt q) else 0)) (cell c (rcv p)) () = _
    rw [Pi.add_apply, Finsupp.add_apply, ih]
    by_cases e : p = q
    · subst e
      rw [if_pos hp, tallyAt_apply, if_neg (fun h => hq h.1), Nat.zero_add]
      by_cases hd : d = prt p c
      · subst hd
        rw [prt_prt, if_pos ⟨rfl, rfl⟩, if_pos ⟨List.mem_cons_self, rfl⟩]
      · rw [if_neg (fun h => hd (by rw [← prt_prt p d]; exact congrArg (prt p) (cell_inj h.1).1.symm)), if_neg (fun h => hd h.2)]
    · have hz : (if q.val < 39 then tallyAt (cell (prt q d) (rcv q)) () (amt q) else 0 : CellTallies nD τ sig Unit) (cell c (rcv p)) () = 0 := by
        by_cases h39 : q.val < 39
        · rw [if_pos h39, tallyAt_apply, if_neg]
          intro h
          exact e (rcv_inj p q hp h39 (cell_inj h.1).2)
        · rw [if_neg h39]; rfl
      rw [hz, Nat.add_zero]
      exact if_congr (by rw [List.mem_cons]; constructor
                         · exact fun h => ⟨Or.inr h.1, h.2⟩
                         · exact fun h => ⟨h.1.resolve_left e, h.2⟩) rfl rfl

theorem bcell_ne {c d : Dev nD} {q : Fin 111} : bcell c ≠ cell d q := fun h => by
  have := congrArg Prod.snd h
  injection this

theorem owed_recv (d c : Dev nD) {p : Fin 111} (hp : p.val < 39) (hm : p ∈ starts) :
    owed₀ d (cell c (rcv p)) () = if d = prt p c then amt p else 0 := by
  have hz (a : ℕ) : (tallyAt (bcell (nbr a d)) () 1 : CellTallies nD τ sig Unit) (cell c (rcv p)) () = 0 := by
    rw [tallyAt_apply, if_neg (fun h => bcell_ne h.1.symm)]
  unfold owed₀
  rw [Pi.add_apply, Finsupp.add_apply, Pi.add_apply, Finsupp.add_apply, Pi.add_apply, Finsupp.add_apply,
    owedL_recv d c hp starts (by decide), hz, hz, hz, Nat.add_zero]
  exact if_congr ⟨fun h => h.2, fun h => ⟨hm, h⟩⟩ rfl rfl

/-- A signal for neighbour `a` is for `c` if `c` is this neighbour. -/
theorem unit_at (a : ℕ) (d c : Dev nD) : (tallyAt (bcell (nbr a d)) () 1 : CellTallies nD τ sig Unit) (bcell c) () = if d = nbr a c then 1 else 0 := by
  rw [tallyAt_apply]
  refine if_congr ⟨fun h => ?_, fun h => ?_⟩ rfl rfl
  · have h1 : c = nbr a d := congrArg (fun g : GSem nD τ sig => g.1.1) h.1
    rw [h1, nbr_nbr]
  · rw [h, nbr_nbr]; exact ⟨rfl, rfl⟩

theorem owed_bar (d c : Dev nD) :
    owed₀ d (bcell c) () = (if d = nbr 2 c then 1 else 0) + (if d = nbr 1 c then 1 else 0) + (if d = nbr 0 c then 1 else 0) := by
  have hz : owedL d starts (bcell c) () = 0 := Nat.eq_zero_of_not_pos fun h => by
    obtain ⟨p, _, _, e⟩ := owedL_pos h
    exact bcell_ne e
  unfold owed₀
  rw [Pi.add_apply, Finsupp.add_apply, Pi.add_apply, Finsupp.add_apply, Pi.add_apply, Finsupp.add_apply, hz, unit_at, unit_at, unit_at, Nat.zero_add]

theorem credit_bar (c : Dev nD) :
    tallyOn (bcell c) (launchCredit (Pipeline.owing owed₀) 0 (bcell c)) = (tallyAt (bcell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (nbr 2 c) fun _ => 1, Finset.sum_ite_eq' Finset.univ (nbr 1 c) fun _ => 1, Finset.sum_ite_eq' Finset.univ (nbr 0 c) fun _ => 1,
    if_pos (Finset.mem_univ _), if_pos (Finset.mem_univ _), if_pos (Finset.mem_univ _)]

theorem credit_recv (c : Dev nD) {p : Fin 111} (hp : p.val < 39) (hm : p ∈ starts) :
    tallyOn (cell c (rcv p)) (launchCredit (Pipeline.owing owed₀) 0 (cell c (rcv p))) = (tallyAt (cell c (rcv p)) () (amt (rcv p)) : CellTallies nD τ sig Unit) := by
  unfold tallyAt; refine congrArg _ (Finsupp.ext fun u => ?_); cases u
  rw [Pipeline.launchCredit_owing, Finsupp.single_eq_same, Finset.sum_congr rfl fun d _ => owed_recv d c hp hm, Finset.sum_ite_eq' Finset.univ (prt p c) fun _ => amt p,
    if_pos (Finset.mem_univ _), amt_rcv p hp]

theorem recv_of : ∀ q : Fin 111, 39 ≤ q.val ∧ q.val < 78 → ∃ p : Fin 111, p.val < 39 ∧ p ∈ starts ∧ rcv p = q := by
  intro q hq
  have hm : ∀ p : Fin 111, p.val < 39 → p ∈ starts := by decide
  have hl : q.val - 39 < 111 := by omega
  refine ⟨⟨q.val - 39, hl⟩, by show q.val - 39 < 39; omega, hm _ (by show q.val - 39 < 39; omega), Fin.ext ?_⟩
  show (q.val - 39 + 39) % 111 = q.val
  omega

/-- A device starts with the credit of its barrier and of its receive cells. -/
theorem creds (c : Dev nD) :
    (Pipeline.launchCred owed₀ c : sProp 𝕄)
      ⊢ iprop(cred (tallyAt (bcell c) () 3) ∗ bigSepL waits fun q => if 39 ≤ q.val ∧ q.val < 78 then credC (F := F) c q else iprop(emp)) := by
  unfold Pipeline.launchCred
  rw [over_sems, credit_bar]
  refine sep_mono_right (bigSepL_mono fun q _ => ?_)
  by_cases hq : 39 ≤ q.val ∧ q.val < 78
  · rw [if_pos hq]
    obtain ⟨p, hp, hm, rfl⟩ := recv_of q hq
    exact Entails.of_eq (congrArg cred (credit_recv c hp hm))
  · rw [if_neg hq]
    iintro -
    iempintro

/-! ## Before and after the body -/

variable (m : (ℓ : Loc nD τ sig) → Buf (Elt F) ℓ) (ρ : Dev nD → PrngReg)

/-- The argument of a device at the launch. -/
def argIn (c : Dev nD) : FVec F (Sh 4096) .f32 := xM.view.read (Elt F) (m (xM.view.loc (c : Thread nD τ)))

/-- What a device has from the launch. -/
def start (c : Dev nD) : sProp 𝕄 :=
  iprop(Held (argIn m) c ∗ levAts L lv
    ∗ (cred (tallyAt (bcell c) () 3) ∗ bigSepL waits fun q => if 39 ≤ q.val ∧ q.val < 78 then credC (F := F) c q else iprop(emp))
    ∗ At xM c 0 4096 fullShare (argIn m c) ∗ Any (F := F) oM c 0 4096)

/-- The buffers of the kernel's own: the accumulator, the input staged, the landing buffers. -/
def Room (c : Dev nD) : sProp 𝕄 := iprop(Any (F := F) accM c 0 4096 ∗ Any (F := F) xvM c 0 4096 ∗ Landings (F := F) c)

/-- What a device has after the body. -/
def done (c : Dev nD) : sProp 𝕄 :=
  iprop((bigSepL waits (fun q => semVal (cell c q) 0) ∗ semVal (bcell c) 0)
    ∗ (At xM c 0 4096 fullShare (argIn m c) ∗ At oM c 0 4096 fullShare (OUT (argIn m))) ∗ Room (F := F) c)

/-- From what a device has at its start, what the body needs. -/
theorem before_intro (c : Dev nD) :
    iprop((start m c ∗ Room (F := F) c) ∗ ∃ W, owes (c : Thread nD τ) (owed₀ c) W)
      ⊢ ∃ K, Before (argIn m) K c ∗ Acc (F := F) c := by
  unfold start Held holding payToks Room Before Rec Marks
  iintro ⟨⟨⟨⟨%K, ⟨#HI, #HR⟩, Ha, Htb, Ht⟩, #HL, ⟨Hcb, Hc⟩, Hx, Ho⟩, Hacc, Hxv, HLd⟩, HO⟩
  iexists K
  ihave HB := (barPays_intro (F := F) (c := c)) $$ HLd
  ihave HD := (others_intro (argIn m) c) $$ [Hx Ho Hxv]
  · iframe
  ihave HA := (Any_cut (F := F) (M := accM) (c := c) (pcsA_fits c)) $$ Hacc
  ihave Ha' := (Entails.of_eq (over_sems fun s => (atPos ER (cellAt (c, s)) 0 ∅ 0 : sProp 𝕄))) $$ Ha
  icases Ha' with ⟨Hab, Haq⟩
  ihave HW := (show iprop((bigSepL waits fun q => atPos ER (cell c q) 0 ∅ 0) ∗ bigSepL waits fun q => if 39 ≤ q.val ∧ q.val < 78 then credC (F := F) c q else iprop(emp))
    ⊢ bigSepL waits (waitR (F := F) c) from sepL_unsep waits) $$ [Haq Hc]
  · isplitl [Haq] <;> iassumption
  isplitr [HA]
  · isplitr
    · isplitr; · iexact HI
      isplitr; · iexact HR
      iexact HL
    isplitl [HO]; · iexact HO
    isplitl [Htb]; · iexact Htb
    isplitl [HB]; · iexact HB
    isplitl [Hab Hcb]
    · isplitl [Hab] <;> iassumption
    isplitl [Ht]; · iexact Ht
    isplitl [HD]; · iexact HD
    iexact HW
  · unfold Acc; iexact HA

/-! ## The body's obligation -/

/-- The data of the launch: no window; the device's holdings before and after the body. -/
def dats (_ : Fin 1) (c : Dev nD) : Dat τ (Elt F) Unit ℕ UU ℕ cfg0 c where
  A w := (s₀ m ρ).mem ((cfg0.win w).arr.view.loc (c : Thread nD τ))
  after w _ := (show Fin 0 from w).elim0
  Φ t := match t with
    | ⟨0, _⟩ => iprop(start m c ∗ Room (F := F) c)
    | ⟨_ + 1, _⟩ => done m c
  q _ := fullShare
  owed t := match t with
    | ⟨0, _⟩ => owed₀ c
    | ⟨_ + 1, _⟩ => 0

omit [FloatOps F] in
theorem no_windows (Φ : Fin cfg0.W → sProp 𝕄) : bigSep Finset.univ Φ = iprop(emp) := by
  have h : (Finset.univ : Finset (Fin cfg0.W)) = ∅ := by decide
  rw [h]; rfl

set_option maxRecDepth 65536 in
set_option maxHeartbeats 2000000 in
/-- The body, from the device's holdings before it to those after it. -/
theorem body_obligation (c : Dev nD) : BodyObligation (dats m ρ 0 c) (defs₀ (F := F)) 𝒱₀ () Set.univ := fun t => by
  rw [fin_N0 t]
  rw [no_windows, no_windows]
  show iprop((start m c ∗ Room (F := F) c) ∗ (dats m ρ 0 c).owesAt () t0_0.castSucc ∗ emp)
    ⊢ WP c (on (cc0_body (F := F))) (fun _ => iprop(done m c ∗ (dats m ρ 0 c).owesAt () t0_0.succ ∗ emp))
  iintro ⟨HS, ⟨%W, -, HO⟩, -⟩
  ihave HB := (before_intro m c) $$ [HS HO]
  · isplitl [HS]; · iexact HS
    iexists W; iexact HO
  icases HB with ⟨%K, HB⟩
  iapply (body (X := argIn m) (K := K) (c := c)) $$ HB
  iintro HA
  ihave HE := (after_whole (X := argIn m) (K := K) (c := c)) $$ HA
  icases HE with ⟨⟨%W', HO⟩, HS, Hx, Ho, Hacc, Hxv, HL⟩
  unfold done Room
  isplitr [HO]
  · iframe
  · isplitl [HO]
    · iexists W'
      isplitr
      · ipureintro; exact fun _ _ => Or.inl trivial
      · iexact HO
    · iempintro

/-! ## The side conditions of the launch -/

theorem ownSemFacts : Pipeline.OwnSemFacts cfg0.spec osem := by decide

theorem share_eq (c : Dev nD) (w : Fin cfg0.W) : (dats m ρ 0 c).share w = fullShare := (show Fin 0 from w).elim0

/-- A whole buffer is the rows of it, with contents of no interest; -/
theorem buf_any {R : ℕ} {sp : Space} {e : EltTy} {M : Memref sig .tc sp (Sh R) e} (hM : M.IsWhole) (c : Dev nD) :
    iprop(∃ f : Buf (Elt F) (M.view.loc (c : Thread nD τ)), (M.view.loc (c : Thread nD τ)) ↦{fullShare} f) ⊢ Any (F := F) M c 0 R := by
  iintro ⟨%f, H⟩
  iapply At_any
  iapply (At_whole hM) $$ H

/-- and back. -/
theorem any_buf {R : ℕ} {sp : Space} {e : EltTy} {M : Memref sig .tc sp (Sh R) e} (hM : M.IsWhole) (c : Dev nD) :
    Any (F := F) M c 0 R ⊢ iprop(∃ f : Buf (Elt F) (M.view.loc (c : Thread nD τ)), (M.view.loc (c : Thread nD τ)) ↦{fullShare} f) := by
  unfold Any
  iintro ⟨%G, H⟩
  ihave H := (whole_At hM) $$ H
  icases H with ⟨%f, -, H⟩
  iexists f; iexact H

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ Held (argIn m) c)
      ⊢ |={Set.univ}=> iprop(start m c ∗ emp) := by
  rw [unscopedRestP_none, unscopedRest0_eq]
  iintro ⟨⟨Hx, Ho⟩, HL, Hc, -, HG⟩
  ihave Hc := (creds (F := F) c) $$ Hc
  ihave Hx := (show _ ⊢ At xM c 0 4096 fullShare (argIn m c) from At_whole (F := F) (M := xM) (c := c) (f := m (xM.view.loc (c : Thread nD τ))) (Memref.isWhole_whole _)) $$ Hx
  ihave Ho := (show _ ⊢ At oM c 0 4096 fullShare _ from At_whole (F := F) (M := oM) (c := c) (f := m (oM.view.loc (c : Thread nD τ))) (Memref.isWhole_whole _)) $$ Ho
  ihave Ho := At_any $$ Ho
  imodintro
  unfold start
  isplitl
  · isplitl [HG]; · iexact HG
    isplitl [HL]; · iexact HL
    isplitl [Hc]; · iexact Hc
    isplitl [Hx]; · iexact Hx
    iexact Ho
  · iempintro

/-- The kernel's own buffers, whole, are the room of the body; -/
theorem room_intro (c : Dev nD) : Pipeline.scopedRest cfg0.spec c ⊢ Room (F := F) c := by
  rw [scopedRest0_eq]
  unfold Room Landings
  iintro ⟨H0, H1, H2, H3, H4, H5, H6, H7, H8, H9, H10⟩
  isplitl [H0]; · iapply (buf_any (M := accM) (Memref.isWhole_whole _) c); iexact H0
  isplitl [H1]; · iapply (buf_any (M := xvM) (Memref.isWhole_whole _) c); iexact H1
  isplitl [H2 H3 H4]
  · isplitl [H2]; · iapply (buf_any (M := rsM 0 0) (Memref.isWhole_whole _) c); iexact H2
    isplitl [H3]; · iapply (buf_any (M := rsM 0 1) (Memref.isWhole_whole _) c); iexact H3
    iapply (buf_any (M := rsM 0 2) (Memref.isWhole_whole _) c); iexact H4
  isplitl [H5 H6 H7]
  · isplitl [H5]; · iapply (buf_any (M := rsM 1 0) (Memref.isWhole_whole _) c); iexact H5
    isplitl [H6]; · iapply (buf_any (M := rsM 1 1) (Memref.isWhole_whole _) c); iexact H6
    iapply (buf_any (M := rsM 1 2) (Memref.isWhole_whole _) c); iexact H7
  isplitl [H8]; · iapply (buf_any (M := rsM 2 0) (Memref.isWhole_whole _) c); iexact H8
  isplitl [H9]; · iapply (buf_any (M := rsM 2 1) (Memref.isWhole_whole _) c); iexact H9
  iapply (buf_any (M := rsM 2 2) (Memref.isWhole_whole _) c); iexact H10

/-- and back. -/
theorem room_elim (c : Dev nD) : Room (F := F) c ⊢ Pipeline.scopedRest cfg0.spec c := by
  rw [scopedRest0_eq]
  unfold Room Landings
  iintro ⟨H0, H1, ⟨H2, H3, H4⟩, ⟨H5, H6, H7⟩, H8, H9, H10⟩
  isplitl [H0]; · iapply (any_buf (M := accM) (Memref.isWhole_whole _) c); iexact H0
  isplitl [H1]; · iapply (any_buf (M := xvM) (Memref.isWhole_whole _) c); iexact H1
  isplitl [H2]; · iapply (any_buf (M := rsM 0 0) (Memref.isWhole_whole _) c); iexact H2
  isplitl [H3]; · iapply (any_buf (M := rsM 0 1) (Memref.isWhole_whole _) c); iexact H3
  isplitl [H4]; · iapply (any_buf (M := rsM 0 2) (Memref.isWhole_whole _) c); iexact H4
  isplitl [H5]; · iapply (any_buf (M := rsM 1 0) (Memref.isWhole_whole _) c); iexact H5
  isplitl [H6]; · iapply (any_buf (M := rsM 1 1) (Memref.isWhole_whole _) c); iexact H6
  isplitl [H7]; · iapply (any_buf (M := rsM 1 2) (Memref.isWhole_whole _) c); iexact H7
  isplitl [H8]; · iapply (any_buf (M := rsM 2 0) (Memref.isWhole_whole _) c); iexact H8
  isplitl [H9]; · iapply (any_buf (M := rsM 2 1) (Memref.isWhole_whole _) c); iexact H9
  iapply (any_buf (M := rsM 2 2) (Memref.isWhole_whole _) c); iexact H10

theorem first_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  show _ ⊢ iprop(start m c ∗ Room (F := F) c)
  iintro ⟨Hs, -, Hr⟩
  isplitl [Hs]; · iexact Hs
  iapply (room_intro (F := F) c); iexact Hr

/-- What the launch keeps of a device after the body. -/
def remains (c : Dev nD) : sProp 𝕄 :=
  iprop(unscopedSems0 c ∗ At xM c 0 4096 fullShare (argIn m c) ∗ At oM c 0 4096 fullShare (OUT (argIn m)))

theorem last_elim (c : Dev nD) :
    (dats m ρ 0 c).Φ (Fin.last cfg0.N) ⊢ iprop(remains m c ∗ Pipeline.ownSems0 osem c ∗ Pipeline.scopedRest cfg0.spec c) := by
  show done m c ⊢ _
  unfold done remains
  rw [ownSems0_eq, unscopedSems0_eq]
  iintro ⟨⟨Hq, Hb⟩, ⟨Hx, Ho⟩, Hr⟩
  isplitl [Hb Hx Ho]
  · isplitl [Hb]; · iexact Hb
    isplitl [Hx] <;> iassumption
  isplitl [Hq]; · iexact Hq
  iapply (room_elim (F := F) c); iexact Hr

theorem waits_intro (c : Dev nD) : (levAts L lv : sProp 𝕄) ⊢ Pipeline.cellsWaits cfgs (dats m ρ) () 0 c :=
  Pipeline.cellsWaits_intro cfgs (dats m ρ) () 0 c fun w _ _ => (show Fin 0 from w).elim0

/-! ## The run -/

/-- What the memory holds of a device after the run. -/
def Final (c : Dev nD) (s : MemSt nD τ sig (Elt F)) : Prop :=
  (∀ i, xM.view.read (Elt F) (s.mem (xM.view.loc (c : Thread nD τ))) i = argIn m c i)
    ∧ ∀ i, oM.view.read (Elt F) (s.mem (oM.view.loc (c : Thread nD τ))) i = OUT (argIn m) i

/-- A whole buffer that is held is what the memory has. -/
theorem read_At {R : ℕ} {sp : Space} {e : EltTy} {M : Memref sig .tc sp (Sh R) e} (hM : M.IsWhole) {c : Dev nD} {G : (Sh R).Idx → Elt F e}
    (s : Phys nD τ sig (Elt F)) :
    iprop(At (F := F) M c 0 R fullShare G ∗ SI s) ⊢ (iprop(⌜∀ i, M.view.read (Elt F) (s.mem.mem (M.view.loc (c : Thread nD τ))) i = G i⌝ ∗ SI s) : sProp 𝕄) := by
  iintro ⟨H, HSI⟩
  ihave H := (whole_At hM) $$ H
  icases H with ⟨%f, %hf, H⟩
  icombine HSI H gives %h
  isplitr
  · ipureintro
    have e := Buf.eq_of_forall_mem_univ h
    rw [e]; exact hf
  · iexact HSI

set_option maxRecDepth 65536 in
set_option maxHeartbeats 2000000 in
/-- Every run of the program ends, with every semaphore at zero, the argument of every device unchanged and its result
    the computed one. -/
theorem run_main : θ_run defs (onTc (τ := τ) (main (F := F))) (s₀ m ρ) (fun r => (∀ c, Final m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => (show Fin 0 from w).elim0) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits_intro m ρ)
    (G := dealt (argIn m)) (G' := Held (argIn m))
    (u₀ := (initOf (Pipeline.cells cfgs cellOf_inj) (Pipeline.launchToks cfgs cellOf_inj), initOf allCells allToks))
    (hu₀ := by
      iintro Hu
      ihave H := (ownU_pair _ _) $$ Hu
      icases H with ⟨HP, HX⟩
      imod (fund_all (argIn m)) $$ HX with HG
      imodintro
      isplitl [HP] <;> iassumption)
    (hglob := glob (argIn m))
    (hA := fun _ _ => rfl) (hpf := fun _ k => k.elim0)
    (X := start m) (Y := remains m) (Z := fun _ => iprop(emp))
    (hX := start_intro m ρ) (hin := first_intro m ρ) (hout := last_elim m ρ)
    (QY := fun c s => (∀ sm : SemLoc sig, sm.isScoped .tc = false → s.sem ((c.tc : Thread nD τ), sm) = 0) ∧ Final m c s)
    (hY := fun c s' => by
      unfold remains
      iintro ⟨⟨Hu, Hx, Ho⟩, -, HSI⟩
      ihave H := (read_At (M := xM) (Memref.isWhole_whole _) s') $$ [Hx HSI]
      · isplitl [Hx] <;> iassumption
      icases H with ⟨%hx, HSI⟩
      ihave H := (read_At (M := oM) (Memref.isWhole_whole _) s') $$ [Ho HSI]
      · isplitl [Ho] <;> iassumption
      icases H with ⟨%ho, HSI⟩
      imod (Pipeline.unscopedSems0_read (X := unscopedSems0 c) (c := c) fupd_intro s') $$ [Hu HSI] with ⟨%hz, HSI⟩
      · isplitl [Hu] <;> iassumption
      imodintro
      isplitr
      · ipureintro; exact ⟨hz, hx, ho⟩
      · iexact HSI)
    (hQ := fun _ h hs => ⟨fun c => (h c).2.2.2, sem_eq_zero hs fun c => (h c).2.2.1⟩)

end Cert.KernelIdeal.Sum
-- ==== Proof.Value.lean ====
/-
# The value

Over the extended reals the kernel's result is the reference's: in every row the eight blocks are added,
in the order that the owner's partners bring them, and the same nonlinearity follows.
-/
module

public import proofs.«01_k».proof.Proof.Contents
public import proofs.«01_k».proof.Proof.Gen.ReferenceIdeal.Run
public import Idealize.ShloMosaic.Lib.Layout
public import Idealize.ShloMosaic.Lib.IdealHost
public import Idealize.ShloMosaic.Lib.Pointwise.Reduce
public import Idealize.ShloMosaic.Lib.Pipeline.Value

@[expose] public section

noncomputable section

namespace Cert.KernelIdeal.Sum

open Cert.KernelIdeal
open Idealize.ShloMosaic
open Idealize.ShloMosaic.TcCoe

/-- The eight devices in the order in which their blocks reach device `c` in stream `s`. -/
def order (s : ℕ) (c : Dev nD) : List (Dev nD) :=
  [c, part s 0 c, part s 1 c, part s 0 (part s 1 c), part s 2 c, part s 0 (part s 2 c), part s 1 (part s 2 c), part s 0 (part s 1 (part s 2 c))]

theorem order_perm : ∀ (s : Fin 3) (c : Dev nD), (order s.val c).Perm (List.finRange 8) := by decide

/-- Adding in this order is the sum over the devices. -/
theorem order_sum {s : ℕ} (hs : s < 3) (c : Dev nD) (f : Dev nD → EReal) :
    ((f c + f (part s 0 c)) + (f (part s 1 c) + f (part s 0 (part s 1 c))))
      + ((f (part s 2 c) + f (part s 0 (part s 2 c))) + (f (part s 1 (part s 2 c)) + f (part s 0 (part s 1 (part s 2 c)))))
      = ∑ k : Dev nD, f k := by
  have h := ((order_perm ⟨s, hs⟩ c).map f).sum_eq
  rw [show (∑ k : Dev nD, f k) = ((List.finRange 8).map f).sum from Fin.sum_univ_def f, ← h]
  simp only [order, List.map_cons, List.map_nil, List.sum_cons, List.sum_nil, add_zero, add_assoc]

/-- The nonlinearity of one number. -/
def fin1 (x : Ideal .f32) : Ideal .bf16 := fin (F := Ideal) (S := ⟨0, ![]⟩) (fun _ => x) (fun k => k.elim0)

variable (X : Dev nD → FVec Ideal (Sh 4096) .f32)

/-- The result of a device: the nonlinearity of the sum over the devices. -/
theorem VF_ideal {s : ℕ} (hs : s < 3) (c : Dev nD) (i : (Sh 4096).Idx) : VF X s c i = fin1 (∑ k : Dev nD, (X k i : EReal)) :=
  congrArg fin1 (order_sum hs c fun k => (X k i : EReal))

/-- The result of the kernel, over the extended reals. -/
theorem OUT_ideal (i : (Sh 4096).Idx) : OUT X i = fin1 (∑ k : Dev nD, (X k i : EReal)) := by
  unfold OUT
  refine VF_ideal X ?_ _ i
  unfold streamOf
  split_ifs <;> decide

/-- The whole array of the reference. -/
abbrev ShW : Shape := ⟨2, ![32768, 1024]⟩

/-- The reference's sum, at an index: the sum over the blocks of its argument. -/
theorem ref_sum (x : FVec Ideal ShW .f32) (i : (Sh 4096).Idx) :
    Host.reduceAdd (F := Ideal) (shapeCast Cert.ReferenceIdeal.S8x4096x1024 x Cert.ReferenceIdeal.Gen.shapeCasts_S32768x1024_S8x4096x1024)
        (constant Cert.ReferenceIdeal.S_ .f32 0x00000000#32) Cert.ReferenceIdeal.Gen.reducesTo_S8x4096x1024_S4096x1024_d0 Cert.ReferenceIdeal.Gen.h_S_ i
      = ∑ k : Dev nD, ((Layout.block ⟨2, ![4096, 1024]⟩ ShW 0 8 k x) i : EReal) := by
  show Ideal.hostReduceAdd _ _ _ i = _
  rw [Ideal.hostReduceAdd_r3_a0]
  rw [show (constant (F := Ideal) Cert.ReferenceIdeal.S_ .f32 0x00000000#32 (Shape.Idx.first Cert.ReferenceIdeal.Gen.h_S_) : EReal) = 0 from Ideal.ofBits_zero_f32, zero_add]
  refine Finset.sum_congr rfl fun k _ => ?_
  rw [Layout.block_apply]
  refine shapeCast_apply _ _ _ _ ?_
  rw [Shape.rowMajor_val_two, Shape.rowMajor_val_three]
  simp [Layout.Tiles.idx]

end Cert.KernelIdeal.Sum
-- ==== Proof.lean ====
/-
# The claims

Every run of the kernel on its eight devices ends, without fault, with the argument unchanged and every semaphore at
zero; the same holds of the kernel read over the extended reals and of the reference; and over the extended reals
every device ends with the reference's result: the sum of the eight blocks, followed by the nonlinearity.
The run of the kernel is `run_main` (Proof/Launch.lean), its value `OUT` (Proof/Contents.lean), the equation of that
value with the reference's Proof/Value.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every run of the kernel ends, with its argument unchanged and every semaphore at zero. -/
theorem frame_kernel : Cert.quiescent_Kernel := fun m ρ _ =>
  (θ_run Cert.KernelIdeal.defs _ _).mono (fun _ h => ⟨fun c => funext (h.1 c).1, h.2⟩) (Cert.KernelIdeal.Sum.run_main (F := Bits) m ρ)

/-- The same of the kernel read over the extended reals. -/
theorem frame_ideal : Cert.quiescent_KernelIdeal := fun m ρ _ =>
  (θ_run Cert.KernelIdeal.defs _ _).mono (fun _ h => ⟨fun c => funext (h.1 c).1, h.2⟩) (Cert.KernelIdeal.Sum.run_main (F := Ideal) m ρ)

/-- Every run of the reference ends, with its argument unchanged and every semaphore at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device ends with the result of the reference. -/
theorem values : Cert.algebraic_KernelIdeal_ReferenceIdeal := fun m ρ m' ρ' _ hm => by
  refine ⟨fun i => Cert.KernelIdeal.Sum.fin1 (∑ k : Dev Cert.KernelIdeal.nD, (Cert.KernelIdeal.Sum.argIn m k i : EReal)),
    (θ_run Cert.KernelIdeal.defs _ _).mono (fun _ h c => ⟨funext fun i => ((h.1 c).2 i).trans (Cert.KernelIdeal.Sum.OUT_ideal _ i), funext (h.1 c).1⟩) (Cert.KernelIdeal.Sum.run_main (F := Ideal) m ρ),
    (θ_run Cert.ReferenceIdeal.defs _ _).mono (fun _ h => ⟨(h 0).1.trans (funext fun i => ?_), (h 0).2⟩) (Cert.ReferenceIdeal.Value.run (F := Ideal) m' ρ')⟩
  refine congrArg Cert.KernelIdeal.Sum.fin1 ((Cert.KernelIdeal.Sum.ref_sum _ i).trans ?_)
  exact Finset.sum_congr rfl fun k _ => (congrFun (hm k) i).symm

/-- All the claims. -/
theorem claim : Cert.Claim := ⟨Cert.Kernel.Gen.facts, Cert.KernelIdeal.Gen.facts, Cert.ReferenceIdeal.Gen.facts,
  frame_kernel, frame_ideal, frame_reference, trivial, values⟩

end Cert.Proof

end
